-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_pi_a" .f32 0x40C90000#32 (((499845993147983789 / 250000000000000000) * Real.pi : ℝ) : EReal)
  ∧ IdealRules.named_const.Statement Cert.KernelIdeal.κ "two_pi_b" .f32 0x3AFDA000#32 (((307965640576797 / 500000000000000000) * Real.pi : ℝ) : EReal)
  ∧ IdealRules.named_const.Statement Cert.KernelIdeal.κ "two_pi_c" .f32 0x34A22169#32 (((76901529 / 800000000000000) * Real.pi : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88_0) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v88_1) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x128 : Shape := ⟨3, ![8, 2048, 128]⟩
abbrev S8x2048 : Shape := ⟨2, ![8, 2048]⟩
abbrev S8x2048x2x64 : Shape := ⟨4, ![8, 2048, 2, 64]⟩
abbrev S_ : Shape := ⟨0, ![]⟩
abbrev S8x2 : Shape := ⟨2, ![8, 2]⟩

class Facts : Prop where
  bitsLt_bf16_f32 : FTy.bits .bf16 < FTy.bits .f32
  shapeCasts_S8x2048x128_S8x2048x2x64 : S8x2048x128.ShapeCasts S8x2048x2x64
  reducesTo_S8x2048x2x64_S8x2_d1_3 : S8x2048x2x64.ReducesTo [1, 3] S8x2
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2 : S_.BroadcastsInDim S8x2 (![] : Fin 0 → Fin S8x2.rank)
  reducesTo_S8x2_S_d0_1 : S8x2.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part2 {F : FTy → Type} [FloatOps F] (main_v28 : IVec S_ 1) (main_v33 : IVec S8x2048 1) : IVec S_ 1 :=
  let main_c_12 : IVec S_ 1 := constantI S_ 1 1#1
  let main_v34 : IVec S_ 1 := (fun x v => Host.reduce IntOp.andi x v reducesTo_S8x2048_S_d0_1 h_S_) main_v33 main_c_12
  let main_v35 : IVec S_ 1 := andi main_v28 main_v34
  main_v35

def fn_part1 {F : FTy → Type} [FloatOps F] (main_arg2 : IVec S8x2048 32) (main_v13 : IVec S_ 1) (main_v15 : FVec F S8x2048x128 .f32) (main_v16 : FVec F S8x2048x2x64 .f32) (main_cst_4 : FVec F S_ .f32) : IVec S_ 1 :=
  let main_v17 : FVec F S8x2 .f32 := (fun x v => Host.reduce FloatOps.maximumf x v reducesTo_S8x2048x2x64_S8x2_d1_3 h_S_) main_v16 main_cst_4
  let main_cst_5 : FVec F S_ .f32 := constant S_ .f32 0x7F7F0000#32
  let main_v18 : FVec F S8x2048x128 .f32 := broadcastInDim S8x2048x128 ![] bcast_S_S8x2048x128 main_cst_5
  let main_v19 : IVec S8x2048x128 1 := cmpf .ole main_v15 main_v18
  let main_c_6 : IVec S_ 1 := constantI S_ 1 1#1
  let main_v20 : IVec S_ 1 := (fun x v => Host.reduce IntOp.andi x v reducesTo_S8x2048x128_S_d0_1_2 h_S_) main_v19 main_c_6
  let main_cst_7 : FVec F S_ .f32 := constant S_ .f32 0x00000000#32
  let main_v21 : FVec F S8x2 .f32 := broadcastInDim S8x2 ![] bcast_S_S8x2 main_cst_7
  let main_v22 : IVec S8x2 1 := cmpf .oeq main_v17 main_v21
  let main_cst_8 : FVec F S_ .f32 := constant S_ .f32 0x05800000#32
  let main_v23 : FVec F S8x2 .f32 := broadcastInDim S8x2 ![] bcast_S_S8x2 main_cst_8
  let main_v24 : IVec S8x2 1 := cmpf .oge main_v17 main_v23
  let main_v25 : IVec S8x2 1 := ori main_v22 main_v24
  let main_c_9 : IVec S_ 1 := constantI S_ 1 1#1
  let main_v26 : IVec S_ 1 := (fun x v => Host.reduce IntOp.andi x v reducesTo_S8x2_S_d0_1 h_S_) main_v25 main_c_9
  let main_v27 : IVec S_ 1 := andi main_v20 main_v26
  let main_v28 : IVec S_ 1 := andi main_v13 main_v27
  let main_c_10 : IVec S_ 32 := constantI S_ 32 0#32
  let main_v29 : IVec S8x2048 32 := broadcastInDim S8x2048 ![] bcast_S_S8x2048 main_c_10
  let main_v30 : IVec S8x2048 1 := cmpi .sge main_arg2 main_v29
  let main_c_11 : IVec S_ 32 := constantI S_ 32 16384#32
  let main_v31 : IVec S8x2048 32 := broadcastInDim S8x2048 ![] bcast_S_S8x2048 main_c_11
  let main_v32 : IVec S8x2048 1 := cmpi .slt main_arg2 main_v31
  let main_v33 : IVec S8x2048 1 := andi main_v30 main_v32
  fn_part2 (F := F) main_v28 main_v33

def fn {F : FTy → Type} [FloatOps F] (main_arg0 : FVec F S8x2048x128 .bf16) (main_arg1 : FVec F S8x2048x128 .bf16) (main_arg2 : IVec S8x2048 32) : IVec S_ 1 :=
  let main_v0 : FVec F S8x2048x128 .f32 := (extf .f32 · bitsLt_bf16_f32) main_arg0
  let main_v1 : FVec F S8x2048x128 .f32 := Host.absf main_v0
  let main_v2 : FVec F S8x2048x2x64 .f32 := shapeCast S8x2048x2x64 main_v1 shapeCasts_S8x2048x128_S8x2048x2x64
  let main_cst : FVec F S_ .f32 := constant S_ .f32 0xFF800000#32
  let main_v3 : FVec F S8x2 .f32 := (fun x v => Host.reduce FloatOps.maximumf x v reducesTo_S8x2048x2x64_S8x2_d1_3 h_S_) main_v2 main_cst
  let main_cst_0 : FVec F S_ .f32 := constant S_ .f32 0x7F7F0000#32
  let main_v4 : FVec F S8x2048x128 .f32 := broadcastInDim S8x2048x128 ![] bcast_S_S8x2048x128 main_cst_0
  let main_v5 : IVec S8x2048x128 1 := cmpf .ole main_v1 main_v4
  let main_c : IVec S_ 1 := constantI S_ 1 1#1
  let main_v6 : IVec S_ 1 := (fun x v => Host.reduce IntOp.andi x v reducesTo_S8x2048x128_S_d0_1_2 h_S_) main_v5 main_c
  let main_cst_1 : FVec F S_ .f32 := constant S_ .f32 0x00000000#32
  let main_v7 : FVec F S8x2 .f32 := broadcastInDim S8x2 ![] bcast_S_S8x2 main_cst_1
  let main_v8 : IVec S8x2 1 := cmpf .oeq main_v3 main_v7
  let main_cst_2 : FVec F S_ .f32 := constant S_ .f32 0x05800000#32
  let main_v9 : FVec F S8x2 .f32 := broadcastInDim S8x2 ![] bcast_S_S8x2 main_cst_2
  let main_v10 : IVec S8x2 1 := cmpf .oge main_v3 main_v9
  let main_v11 : IVec S8x2 1 := ori main_v8 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v6 main_v12
  let main_v14 : FVec F S8x2048x128 .f32 := (extf .f32 · bitsLt_bf16_f32) main_arg1
  let main_v15 : FVec F S8x2048x128 .f32 := Host.absf main_v14
  let main_v16 : FVec F S8x2048x2x64 .f32 := shapeCast S8x2048x2x64 main_v15 shapeCasts_S8x2048x128_S8x2048x2x64
  let main_cst_4 : FVec F S_ .f32 := constant S_ .f32 0xFF800000#32
  fn_part1 (F := F) main_arg2 main_v13 main_v15 main_v16 main_cst_4
-- ==== Kernel.lean ====
abbrev S8x2048x128 : Shape := ⟨3, ![8, 2048, 128]⟩
abbrev S8x2048 : Shape := ⟨2, ![8, 2048]⟩
abbrev S8x128x2048 : Shape := ⟨3, ![8, 128, 2048]⟩
abbrev S2x8 : Shape := ⟨2, ![2, 8]⟩
abbrev S1x2048x128 : Shape := ⟨3, ![1, 2048, 128]⟩
abbrev S1x128x2048 : Shape := ⟨3, ![1, 128, 2048]⟩
abbrev S16x128x128 : Shape := ⟨3, ![16, 128, 128]⟩
abbrev S4x32x128 : Shape := ⟨3, ![4, 32, 128]⟩
abbrev S8x1x2048 : Shape := ⟨3, ![8, 1, 2048]⟩
abbrev S32x128 : Shape := ⟨2, ![32, 128]⟩
abbrev S1x32x128 : Shape := ⟨3, ![1, 32, 128]⟩
abbrev S1x2048 : Shape := ⟨2, ![1, 2048]⟩
abbrev S1x1x2048 : Shape := ⟨3, ![1, 1, 2048]⟩
abbrev S8x128 : Shape := ⟨2, ![8, 128]⟩
abbrev S16x128 : Shape := ⟨2, ![16, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x8x128 : Shape := ⟨3, ![1, 8, 128]⟩
abbrev S8x128x1 : Shape := ⟨3, ![8, 128, 1]⟩
abbrev S128 : Shape := ⟨1, ![128]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S1x8 : Shape := ⟨2, ![1, 8]⟩
abbrev S1x64 : Shape := ⟨2, ![1, 64]⟩
abbrev S1x1x64 : Shape := ⟨3, ![1, 1, 64]⟩
abbrev S1x64x128 : Shape := ⟨3, ![1, 64, 128]⟩
abbrev S64x128 : Shape := ⟨2, ![64, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .bf16⟩
  | .hbm, ⟨2, _⟩ => ⟨S8x2048, .i32⟩
  | .hbm, ⟨3, _⟩ => ⟨S8x128x2048, .fp8e4m3⟩
  | .hbm, ⟨4, _⟩ => ⟨S2x8, .f32⟩
  | .hbm, ⟨5, _⟩ => ⟨S8x128x2048, .fp8e4m3⟩
  | .hbm, ⟨6, _⟩ => ⟨S2x8, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S8x2048, .i32⟩
  | .local _ .vmem, ⟨5, _⟩ => ⟨S1x128x2048, .fp8e4m3⟩
  | .local _ .vmem, ⟨6, _⟩ => ⟨S1x128x2048, .fp8e4m3⟩
  | .local _ .vmem, ⟨7, _⟩ => ⟨S2x8, .f32⟩
  | .local _ .vmem, ⟨8, _⟩ => ⟨S1x128x2048, .fp8e4m3⟩
  | .local _ .vmem, ⟨9, _⟩ => ⟨S1x128x2048, .fp8e4m3⟩
  | .local _ .vmem, ⟨10, _⟩ => ⟨S2x8, .f32⟩
  | .local _ .vmem, ⟨11, _⟩ => ⟨S16x128x128, .f32⟩
  | .local _ .vmem, ⟨12, _⟩ => ⟨S4x32x128, .f32⟩
  | .local _ .vmem, ⟨13, _⟩ => ⟨S8x1x2048, .i32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v6 : Index := Scalar.indexCast arg0
  let c0 : Index := 0#32
  let c0_3 : Index := 0#32
  ![v6.toNat, 0, 0]
def k0_off2 (i : grid0.Coords) : Fin 3 → Nat :=
  let arg0 : BitVec 32 := BitVec.ofNat 32 (i 0).val
  let v368 : Index := Scalar.indexCast arg0
  let c0_120 : Index := 0#32
  let c128 : Index := 128#32
  ![v368.toNat, 0, 128]
def k0_off3 (i : grid0.Coords) : Fin 3 → Nat :=
  let arg0 : BitVec 32 := BitVec.ofNat 32 (i 0).val
  let v730 : Index := Scalar.indexCast arg0
  let c0_258 : Index := 0#32
  let c256 : Index := 256#32
  ![v730.toNat, 0, 256]
def k0_off4 (i : grid0.Coords) : Fin 3 → Nat :=
  let arg0 : BitVec 32 := BitVec.ofNat 32 (i 0).val
  let v1092 : Index := Scalar.indexCast arg0
  let c0_396 : Index := 0#32
  let c384 : Index := 384#32
  ![v1092.toNat, 0, 384]
def k0_off5 (i : grid0.Coords) : Fin 3 → Nat :=
  let arg0 : BitVec 32 := BitVec.ofNat 32 (i 0).val
  let v1454 : Index := Scalar.indexCast arg0
  let c0_534 : Index := 0#32
  let c512 : Index := 512#32
  ![v1454.toNat, 0, 512]
def k0_off6 (i : grid0.Coords) : Fin 3 → Nat :=
  let arg0 : BitVec 32 := BitVec.ofNat 32 (i 0).val
  let v1816 : Index := Scalar.indexCast arg0
  let c0_671 : Index := 0#32
  let c640 : Index := 640#32
  ![v1816.toNat, 0, 640]
def k0_off7 (i : grid0.Coords) : Fin 3 → Nat :=
  let arg0 : BitVec 32 := BitVec.ofNat 32 (i 0).val
  let v2178 : Index := Scalar.indexCast arg0
  let c0_808 : Index := 0#32
  let c768 : Index := 768#32
  ![v2178.toNat, 0, 768]
def k0_off8 (i : grid0.Coords) : Fin 3 → Nat :=
  let arg0 : BitVec 32 := BitVec.ofNat 32 (i 0).val
  let v2540 : Index := Scalar.indexCast arg0
  let c0_945 : Index := 0#32
  let c896 : Index := 896#32
  ![v2540.toNat, 0, 896]
def k0_off9 (i : grid0.Coords) : Fin 3 → Nat :=
  let arg0 : BitVec 32 := BitVec.ofNat 32 (i 0).val
  let v2902 : Index := Scalar.indexCast arg0
  let c0_1082 : Index := 0#32
  let c1024 : Index := 1024#32
  ![v2902.toNat, 0, 1024]
def k0_off10 (i : grid0.Coords) : Fin 3 → Nat :=
  let arg0 : BitVec 32 := BitVec.ofNat 32 (i 0).val
  let v3264 : Index := Scalar.indexCast arg0
  let c0_1220 : Index := 0#32
  let c1152 : Index := 1152#32
  ![v3264.toNat, 0, 1152]
def k0_off11 (i : grid0.Coords) : Fin 3 → Nat :=
  let arg0 : BitVec 32 := BitVec.ofNat 32 (i 0).val
  let v3626 : Index := Scalar.indexCast arg0
  let c0_1357 : Index := 0#32
  let c1280 : Index := 1280#32
  ![v3626.toNat, 0, 1280]
def k0_off12 (i : grid0.Coords) : Fin 3 → Nat :=
  let arg0 : BitVec 32 := BitVec.ofNat 32 (i 0).val
  let v3988 : Index := Scalar.indexCast arg0
  let c0_1494 : Index := 0#32
  let c1408 : Index := 1408#32
  ![v3988.toNat, 0, 1408]
def k0_off13 (i : grid0.Coords) : Fin 3 → Nat :=
  let arg0 : BitVec 32 := BitVec.ofNat 32 (i 0).val
  let v4350 : Index := Scalar.indexCast arg0
  let c0_1631 : Index := 0#32
  let c1536 : Index := 1536#32
  ![v4350.toNat, 0, 1536]
def k0_off14 (i : grid0.Coords) : Fin 3 → Nat :=
  let arg0 : BitVec 32 := BitVec.ofNat 32 (i 0).val
  let v4712 : Index := Scalar.indexCast arg0
  let c0_1768 : Index := 0#32
  let c1664 : Index := 1664#32
  ![v4712.toNat, 0, 1664]
def k0_off15 (i : grid0.Coords) : Fin 3 → Nat :=
  let arg0 : BitVec 32 := BitVec.ofNat 32 (i 0).val
  let v5074 : Index := Scalar.indexCast arg0
  let c0_1905 : Index := 0#32
  let c1792 : Index := 1792#32
  ![v5074.toNat, 0, 1792]
def k0_off16 (i : grid0.Coords) : Fin 3 → Nat :=
  let arg0 : BitVec 32 := BitVec.ofNat 32 (i 0).val
  let v5436 : Index := Scalar.indexCast arg0
  let c0_2042 : Index := 0#32
  let c1920 : Index := 1920#32
  ![v5436.toNat, 0, 1920]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "two_pi_a" => some (((499845993147983789 / 250000000000000000) * Real.pi : ℝ) : EReal)
  | "two_pi_b" => some (((307965640576797 / 500000000000000000) * Real.pi : ℝ) : EReal)
  | "two_pi_c" => some (((76901529 / 800000000000000) * Real.pi : ℝ) : EReal)
  | _ => none
-- ==== ReferenceIdeal.lean ====
abbrev S8x2048x128 : Shape := ⟨3, ![8, 2048, 128]⟩
abbrev S8x2048 : Shape := ⟨2, ![8, 2048]⟩
abbrev S8x2048x2x64 : Shape := ⟨4, ![8, 2048, 2, 64]⟩
abbrev S32 : Shape := ⟨1, ![32]⟩
abbrev S_ : Shape := ⟨0, ![]⟩
abbrev S8x2048x1 : Shape := ⟨3, ![8, 2048, 1]⟩
abbrev S1x1x32 : Shape := ⟨3, ![1, 1, 32]⟩
abbrev S8x2048x32 : Shape := ⟨3, ![8, 2048, 32]⟩
abbrev S8x2048x1x32 : Shape := ⟨4, ![8, 2048, 1, 32]⟩
abbrev S8x2048x2x32 : Shape := ⟨4, ![8, 2048, 2, 32]⟩
abbrev S8x2 : Shape := ⟨2, ![8, 2]⟩
abbrev S8x1x2x1 : Shape := ⟨4, ![8, 1, 2, 1]⟩
abbrev S8x2x64x2048 : Shape := ⟨4, ![8, 2, 64, 2048]⟩
abbrev S8x128x2048 : Shape := ⟨3, ![8, 128, 2048]⟩
abbrev S2x8 : Shape := ⟨2, ![2, 8]⟩

abbrev nBuf : Space → Nat
  | .hbm => 134
  | .vmem => 4
  | .smem => 0
  | _ => 0

abbrev hbmTy0_0 (i : Nat) : BufTy := match i % 128 with
  | 0 => ⟨S8x2048x128, .bf16⟩
  | 1 => ⟨S8x2048x128, .bf16⟩
  | 2 => ⟨S8x2048, .i32⟩
  | 3 => ⟨S8x2048x128, .f32⟩
  | 4 => ⟨S8x2048x2x64, .f32⟩
  | 5 => ⟨S8x2048x128, .f32⟩
  | 6 => ⟨S8x2048x2x64, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8x2048, .f32⟩
  | 24 => ⟨S8x2048x1, .f32⟩
  | 25 => ⟨S1x1x32, .f32⟩
  | 26 => ⟨S8x2048x32, .f32⟩
  | 27 => ⟨S8x2048x32, .f32⟩
  | 28 => ⟨S8x2048x32, .f32⟩
  | 29 => ⟨S8x2048x32, .f32⟩
  | 30 => ⟨S8x2048x1x32, .f32⟩
  | 31 => ⟨S8x2048x32, .f32⟩
  | 32 => ⟨S8x2048x1x32, .f32⟩
  | 33 => ⟨S8x2048x2x32, .f32⟩
  | 34 => ⟨S8x2048x2x32, .f32⟩
  | 35 => ⟨S8x2048x2x32, .f32⟩
  | 36 => ⟨S8x2048x2x32, .f32⟩
  | 37 => ⟨S8x2048x2x32, .f32⟩
  | 38 => ⟨S8x2048x2x32, .f32⟩
  | 39 => ⟨S8x2048x2x32, .f32⟩
  | 40 => ⟨S8x2048x2x32, .f32⟩
  | 41 => ⟨S8x2048x2x32, .f32⟩
  | 42 => ⟨S8x2048x2x32, .f32⟩
  | 43 => ⟨S8x2048x2x32, .f32⟩
  | 44 => ⟨S8x2048x2x32, .f32⟩
  | 45 => ⟨S8x2048x2x64, .f32⟩
  | 46 => ⟨S8x2048x2x64, .f32⟩
  | 47 => ⟨S_, .f32⟩
  | 48 => ⟨S8x2, .f32⟩
  | 49 => ⟨S_, .f32⟩
  | 50 => ⟨S8x2, .f32⟩
  | 51 => ⟨S8x2, .f32⟩
  | 52 => ⟨S8x2, .f32⟩
  | 53 => ⟨S_, .f32⟩
  | 54 => ⟨S8x2, .f32⟩
  | 55 => ⟨S8x2, .f32⟩
  | 56 => ⟨S8x2, .f32⟩
  | 57 => ⟨S_, .f32⟩
  | 58 => ⟨S8x2, .f32⟩
  | 59 => ⟨S8x2, .i1⟩
  | 60 => ⟨S8x2, .f32⟩
  | 61 => ⟨S_, .f32⟩
  | 62 => ⟨S8x2, .f32⟩
  | 63 => ⟨S8x2, .f32⟩
  | 64 => ⟨S_, .f32⟩
  | 65 => ⟨S_, .f32⟩
  | 66 => ⟨S8x2, .f32⟩
  | 67 => ⟨S8x2, .f32⟩
  | 68 => ⟨S_, .f32⟩
  | 69 => ⟨S8x2, .f32⟩
  | 70 => ⟨S8x2, .f32⟩
  | 71 => ⟨S8x2, .f32⟩
  | 72 => ⟨S_, .f32⟩
  | 73 => ⟨S8x2, .f32⟩
  | 74 => ⟨S8x2, .f32⟩
  | 75 => ⟨S8x1x2x1, .f32⟩
  | 76 => ⟨S8x2048x2x64, .f32⟩
  | 77 => ⟨S8x2048x2x64, .f32⟩
  | 78 => ⟨S_, .f32⟩
  | 79 => ⟨S_, .f32⟩
  | 80 => ⟨S_, .f32⟩
  | 81 => ⟨S8x2048x2x64, .f32⟩
  | 82 => ⟨S8x2048x2x64, .f32⟩
  | 83 => ⟨S_, .f32⟩
  | 84 => ⟨S8x2048x2x64, .f32⟩
  | 85 => ⟨S8x2048x2x64, .f32⟩
  | 86 => ⟨S8x2048x2x64, .f32⟩
  | 87 => ⟨S_, .f32⟩
  | 88 => ⟨S8x2, .f32⟩
  | 89 => ⟨S_, .f32⟩
  | 90 => ⟨S8x2, .f32⟩
  | 91 => ⟨S8x2, .f32⟩
  | 92 => ⟨S8x2, .f32⟩
  | 93 => ⟨S_, .f32⟩
  | 94 => ⟨S8x2, .f32⟩
  | 95 => ⟨S8x2, .f32⟩
  | 96 => ⟨S8x2, .f32⟩
  | 97 => ⟨S_, .f32⟩
  | 98 => ⟨S8x2, .f32⟩
  | 99 => ⟨S8x2, .i1⟩
  | 100 => ⟨S8x2, .f32⟩
  | 101 => ⟨S_, .f32⟩
  | 102 => ⟨S8x2, .f32⟩
  | 103 => ⟨S8x2, .f32⟩
  | 104 => ⟨S_, .f32⟩
  | 105 => ⟨S_, .f32⟩
  | 106 => ⟨S8x2, .f32⟩
  | 107 => ⟨S8x2, .f32⟩
  | 108 => ⟨S_, .f32⟩
  | 109 => ⟨S8x2, .f32⟩
  | 110 => ⟨S8x2, .f32⟩
  | 111 => ⟨S8x2, .f32⟩
  | 112 => ⟨S_, .f32⟩
  | 113 => ⟨S8x2, .f32⟩
  | 114 => ⟨S8x2, .f32⟩
  | 115 => ⟨S8x1x2x1, .f32⟩
  | 116 => ⟨S8x2048x2x64, .f32⟩
  | 117 => ⟨S8x2048x2x64, .f32⟩
  | 118 => ⟨S_, .f32⟩
  | 119 => ⟨S_, .f32⟩
  | 120 => ⟨S_, .f32⟩
  | 121 => ⟨S8x2048x2x64, .f32⟩
  | 122 => ⟨S8x2048x2x64, .f32⟩
  | 123 => ⟨S_, .f32⟩
  | 124 => ⟨S8x2048x2x64, .f32⟩
  | 125 => ⟨S8x2048x2x64, .f32⟩
  | 126 => ⟨S8x2x64x2048, .f32⟩
  | 127 => ⟨S8x128x2048, .f32⟩
  | _ => ⟨S8x2048x128, .bf16⟩

abbrev hbmTy0_1 (i : Nat) : BufTy := match i % 128 with
  | 0 => ⟨S8x2x64x2048, .f32⟩
  | 1 => ⟨S8x128x2048, .f32⟩
  | 2 => ⟨S8x128x2048, .fp8e4m3⟩
  | 3 => ⟨S8x128x2048, .fp8e4m3⟩
  | 4 => ⟨S2x8, .f32⟩
  | 5 => ⟨S2x8, .f32⟩
  | _ => ⟨S8x2048x128, .bf16⟩

abbrev hbmTy (i : Nat) : BufTy := match i / 128 with
  | 0 => hbmTy0_0 i
  | 1 => hbmTy0_1 i
  | _ => ⟨S8x2048x128, .bf16⟩

abbrev bufTy : (tb : Table) → Fin (tcTables nBuf tb) → BufTy
  | .hbm, ⟨i, _⟩ => hbmTy i
  | .local _ .vmem, ⟨0, _⟩ => ⟨S8x128x2048, .f32⟩
  | .local _ .vmem, ⟨1, _⟩ => ⟨S8x128x2048, .f32⟩
  | .local _ .vmem, ⟨2, _⟩ => ⟨S8x128x2048, .fp8e4m3⟩
  | .local _ .vmem, ⟨3, _⟩ => ⟨S8x128x2048, .fp8e4m3⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_call0_v0 : Ref sig .tc := ⟨.hbm, 65, rfl⟩
abbrev main_call0_v1 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_cst_13 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_call2_v0 : Ref sig .tc := ⟨.hbm, 105, rfl⟩
abbrev main_call2_v1 : Ref sig .tc := ⟨.hbm, 106, rfl⟩
abbrev main_v74 : Ref sig .tc := ⟨.hbm, 107, rfl⟩
abbrev main_cst_20 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_22 : Ref sig .tc := ⟨.hbm, 118, rfl⟩
abbrev main_cst_23 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88_0 : Ref sig .tc := ⟨.hbm, 130, rfl⟩
abbrev main_v88_1 : Ref sig .tc := ⟨.hbm, 131, rfl⟩
abbrev main_v89 : Ref sig .tc := ⟨.hbm, 132, rfl⟩
abbrev main_v90 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RopeK.Body.lean ====
/- The kernel's body written once per kind of step: one table lookup, one group of eight rows of one
   tile, one tile, one scale, one tile of codes, with the repetitions as recursions over the number of
   steps done. `body_first` and `body_later` say that this is the printed body. -/
module

public import proofs.«01_k».proof.Proof.Gen.Kernel
public import Idealize.ShloMosaic.Lib.Tactic

@[expose] public section

set_option synthInstance.maxSize 4096

noncomputable section

namespace Cert.Kernel.RopeK

open Cert.Kernel Cert.Kernel.Gen
open Idealize.ShloMosaic Idealize.SL.Sem

variable {F : FTy → Type} [FloatOps F]

/-! ## Pure values -/

/-- The inverse frequency of each row: `1 / 10000 ^ (2 * row / 64)`. -/
def invFreq : FVec F S32x128 .f32 :=
  have v6777 : IVec S32x128 32 := iota .tc S32x128 32 [0] iota_S32x128_d0_w32
  have v6778 : FVec F S32x128 .f32 := sitofp .f32 v6777
  have cst_2712 : F .f32 := Scalar.ofBits .f32 0x40000000#32
  have v6781 : FVec F S32x128 .f32 := broadcast S32x128 cst_2712
  have v6782 : FVec F S32x128 .f32 := mulf v6781 v6778
  have cst_2713 : F .f32 := Scalar.ofBits .f32 0x42800000#32
  have v6783 : FVec F S32x128 .f32 := broadcast S32x128 cst_2713
  have v6784 : FVec F S32x128 .f32 := divf v6782 v6783
  have cst_2714 : F .f32 := Scalar.ofBits .f32 0x461C4000#32
  have v6785 : FVec F S32x128 .f32 := broadcast S32x128 cst_2714
  have v6786 : FVec F S32x128 .f32 := powf v6785 v6784
  have cst_2715 : F .f32 := Scalar.ofBits .f32 0x3F800000#32
  have v6787 : FVec F S32x128 .f32 := broadcast S32x128 cst_2715
  have v6788 : FVec F S32x128 .f32 := divf v6787 v6786
  v6788

/-- The leading bits of a frequency, by comparing with powers of two and rounding down. -/
def freqHi (f : FVec F S32x128 .f32) : FVec F S32x128 .f32 :=
  have cst_2716 : F .f32 := Scalar.ofBits .f32 0x3A000000#32
  have v6789 : FVec F S32x128 .f32 := broadcast S32x128 cst_2716
  have cst_2717 : F .f32 := Scalar.ofBits .f32 0x45000000#32
  have v6790 : FVec F S32x128 .f32 := broadcast S32x128 cst_2717
  have cst_2718 : F .f32 := Scalar.ofBits .f32 0x3F800000#32
  have v6791 : FVec F S32x128 .f32 := broadcast S32x128 cst_2718
  have v6792 : IVec S32x128 1 := cmpf .olt f v6791
  have cst_2719 : F .f32 := Scalar.ofBits .f32 0x39800000#32
  have v6793 : FVec F S32x128 .f32 := broadcast S32x128 cst_2719
  have v6794 : FVec F S32x128 .f32 := select v6792 v6793 v6789
  have cst_2720 : F .f32 := Scalar.ofBits .f32 0x45800000#32
  have v6795 : FVec F S32x128 .f32 := broadcast S32x128 cst_2720
  have v6796 : FVec F S32x128 .f32 := select v6792 v6795 v6790
  have cst_2721 : F .f32 := Scalar.ofBits .f32 0x3F000000#32
  have v6797 : FVec F S32x128 .f32 := broadcast S32x128 cst_2721
  have v6798 : IVec S32x128 1 := cmpf .olt f v6797
  have cst_2722 : F .f32 := Scalar.ofBits .f32 0x39000000#32
  have v6799 : FVec F S32x128 .f32 := broadcast S32x128 cst_2722
  have v6800 : FVec F S32x128 .f32 := select v6798 v6799 v6794
  have cst_2723 : F .f32 := Scalar.ofBits .f32 0x46000000#32
  have v6801 : FVec F S32x128 .f32 := broadcast S32x128 cst_2723
  have v6802 : FVec F S32x128 .f32 := select v6798 v6801 v6796
  have cst_2724 : F .f32 := Scalar.ofBits .f32 0x3E800000#32
  have v6803 : FVec F S32x128 .f32 := broadcast S32x128 cst_2724
  have v6804 : IVec S32x128 1 := cmpf .olt f v6803
  have cst_2725 : F .f32 := Scalar.ofBits .f32 0x38800000#32
  have v6805 : FVec F S32x128 .f32 := broadcast S32x128 cst_2725
  have v6806 : FVec F S32x128 .f32 := select v6804 v6805 v6800
  have cst_2726 : F .f32 := Scalar.ofBits .f32 0x46800000#32
  have v6807 : FVec F S32x128 .f32 := broadcast S32x128 cst_2726
  have v6808 : FVec F S32x128 .f32 := select v6804 v6807 v6802
  have cst_2727 : F .f32 := Scalar.ofBits .f32 0x3E000000#32
  have v6809 : FVec F S32x128 .f32 := broadcast S32x128 cst_2727
  have v6810 : IVec S32x128 1 := cmpf .olt f v6809
  have cst_2728 : F .f32 := Scalar.ofBits .f32 0x38000000#32
  have v6811 : FVec F S32x128 .f32 := broadcast S32x128 cst_2728
  have v6812 : FVec F S32x128 .f32 := select v6810 v6811 v6806
  have cst_2729 : F .f32 := Scalar.ofBits .f32 0x47000000#32
  have v6813 : FVec F S32x128 .f32 := broadcast S32x128 cst_2729
  have v6814 : FVec F S32x128 .f32 := select v6810 v6813 v6808
  have cst_2730 : F .f32 := Scalar.ofBits .f32 0x3D800000#32
  have v6815 : FVec F S32x128 .f32 := broadcast S32x128 cst_2730
  have v6816 : IVec S32x128 1 := cmpf .olt f v6815
  have cst_2731 : F .f32 := Scalar.ofBits .f32 0x37800000#32
  have v6817 : FVec F S32x128 .f32 := broadcast S32x128 cst_2731
  have v6818 : FVec F S32x128 .f32 := select v6816 v6817 v6812
  have cst_2732 : F .f32 := Scalar.ofBits .f32 0x47800000#32
  have v6819 : FVec F S32x128 .f32 := broadcast S32x128 cst_2732
  have v6820 : FVec F S32x128 .f32 := select v6816 v6819 v6814
  have cst_2733 : F .f32 := Scalar.ofBits .f32 0x3D000000#32
  have v6821 : FVec F S32x128 .f32 := broadcast S32x128 cst_2733
  have v6822 : IVec S32x128 1 := cmpf .olt f v6821
  have cst_2734 : F .f32 := Scalar.ofBits .f32 0x37000000#32
  have v6823 : FVec F S32x128 .f32 := broadcast S32x128 cst_2734
  have v6824 : FVec F S32x128 .f32 := select v6822 v6823 v6818
  have cst_2735 : F .f32 := Scalar.ofBits .f32 0x48000000#32
  have v6825 : FVec F S32x128 .f32 := broadcast S32x128 cst_2735
  have v6826 : FVec F S32x128 .f32 := select v6822 v6825 v6820
  have cst_2736 : F .f32 := Scalar.ofBits .f32 0x3C800000#32
  have v6827 : FVec F S32x128 .f32 := broadcast S32x128 cst_2736
  have v6828 : IVec S32x128 1 := cmpf .olt f v6827
  have cst_2737 : F .f32 := Scalar.ofBits .f32 0x36800000#32
  have v6829 : FVec F S32x128 .f32 := broadcast S32x128 cst_2737
  have v6830 : FVec F S32x128 .f32 := select v6828 v6829 v6824
  have cst_2738 : F .f32 := Scalar.ofBits .f32 0x48800000#32
  have v6831 : FVec F S32x128 .f32 := broadcast S32x128 cst_2738
  have v6832 : FVec F S32x128 .f32 := select v6828 v6831 v6826
  have cst_2739 : F .f32 := Scalar.ofBits .f32 0x3C000000#32
  have v6833 : FVec F S32x128 .f32 := broadcast S32x128 cst_2739
  have v6834 : IVec S32x128 1 := cmpf .olt f v6833
  have cst_2740 : F .f32 := Scalar.ofBits .f32 0x36000000#32
  have v6835 : FVec F S32x128 .f32 := broadcast S32x128 cst_2740
  have v6836 : FVec F S32x128 .f32 := select v6834 v6835 v6830
  have cst_2741 : F .f32 := Scalar.ofBits .f32 0x49000000#32
  have v6837 : FVec F S32x128 .f32 := broadcast S32x128 cst_2741
  have v6838 : FVec F S32x128 .f32 := select v6834 v6837 v6832
  have cst_2742 : F .f32 := Scalar.ofBits .f32 0x3B800000#32
  have v6839 : FVec F S32x128 .f32 := broadcast S32x128 cst_2742
  have v6840 : IVec S32x128 1 := cmpf .olt f v6839
  have cst_2743 : F .f32 := Scalar.ofBits .f32 0x35800000#32
  have v6841 : FVec F S32x128 .f32 := broadcast S32x128 cst_2743
  have v6842 : FVec F S32x128 .f32 := select v6840 v6841 v6836
  have cst_2744 : F .f32 := Scalar.ofBits .f32 0x49800000#32
  have v6843 : FVec F S32x128 .f32 := broadcast S32x128 cst_2744
  have v6844 : FVec F S32x128 .f32 := select v6840 v6843 v6838
  have cst_2745 : F .f32 := Scalar.ofBits .f32 0x3B000000#32
  have v6845 : FVec F S32x128 .f32 := broadcast S32x128 cst_2745
  have v6846 : IVec S32x128 1 := cmpf .olt f v6845
  have cst_2746 : F .f32 := Scalar.ofBits .f32 0x35000000#32
  have v6847 : FVec F S32x128 .f32 := broadcast S32x128 cst_2746
  have v6848 : FVec F S32x128 .f32 := select v6846 v6847 v6842
  have cst_2747 : F .f32 := Scalar.ofBits .f32 0x4A000000#32
  have v6849 : FVec F S32x128 .f32 := broadcast S32x128 cst_2747
  have v6850 : FVec F S32x128 .f32 := select v6846 v6849 v6844
  have cst_2748 : F .f32 := Scalar.ofBits .f32 0x3A800000#32
  have v6851 : FVec F S32x128 .f32 := broadcast S32x128 cst_2748
  have v6852 : IVec S32x128 1 := cmpf .olt f v6851
  have cst_2749 : F .f32 := Scalar.ofBits .f32 0x34800000#32
  have v6853 : FVec F S32x128 .f32 := broadcast S32x128 cst_2749
  have v6854 : FVec F S32x128 .f32 := select v6852 v6853 v6848
  have cst_2750 : F .f32 := Scalar.ofBits .f32 0x4A800000#32
  have v6855 : FVec F S32x128 .f32 := broadcast S32x128 cst_2750
  have v6856 : FVec F S32x128 .f32 := select v6852 v6855 v6850
  have cst_2751 : F .f32 := Scalar.ofBits .f32 0x3A000000#32
  have v6857 : FVec F S32x128 .f32 := broadcast S32x128 cst_2751
  have v6858 : IVec S32x128 1 := cmpf .olt f v6857
  have cst_2752 : F .f32 := Scalar.ofBits .f32 0x34000000#32
  have v6859 : FVec F S32x128 .f32 := broadcast S32x128 cst_2752
  have v6860 : FVec F S32x128 .f32 := select v6858 v6859 v6854
  have cst_2753 : F .f32 := Scalar.ofBits .f32 0x4B000000#32
  have v6861 : FVec F S32x128 .f32 := broadcast S32x128 cst_2753
  have v6862 : FVec F S32x128 .f32 := select v6858 v6861 v6856
  have cst_2754 : F .f32 := Scalar.ofBits .f32 0x39800000#32
  have v6863 : FVec F S32x128 .f32 := broadcast S32x128 cst_2754
  have v6864 : IVec S32x128 1 := cmpf .olt f v6863
  have cst_2755 : F .f32 := Scalar.ofBits .f32 0x33800000#32
  have v6865 : FVec F S32x128 .f32 := broadcast S32x128 cst_2755
  have v6866 : FVec F S32x128 .f32 := select v6864 v6865 v6860
  have cst_2756 : F .f32 := Scalar.ofBits .f32 0x4B800000#32
  have v6867 : FVec F S32x128 .f32 := broadcast S32x128 cst_2756
  have v6868 : FVec F S32x128 .f32 := select v6864 v6867 v6862
  have cst_2757 : F .f32 := Scalar.ofBits .f32 0x39000000#32
  have v6869 : FVec F S32x128 .f32 := broadcast S32x128 cst_2757
  have v6870 : IVec S32x128 1 := cmpf .olt f v6869
  have cst_2758 : F .f32 := Scalar.ofBits .f32 0x33000000#32
  have v6871 : FVec F S32x128 .f32 := broadcast S32x128 cst_2758
  have v6872 : FVec F S32x128 .f32 := select v6870 v6871 v6866
  have cst_2759 : F .f32 := Scalar.ofBits .f32 0x4C000000#32
  have v6873 : FVec F S32x128 .f32 := broadcast S32x128 cst_2759
  have v6874 : FVec F S32x128 .f32 := select v6870 v6873 v6868
  have v6875 : FVec F S32x128 .f32 := mulf f v6874
  have v6876 : FVec F S32x128 .f32 := floor v6875
  have v6877 : FVec F S32x128 .f32 := mulf v6876 v6872
  v6877

/-- The angle's reduction by whole turns, subtracted in three parts. -/
def reduce (a : FVec F S32x128 .f32) : FVec F S32x128 .f32 :=
  let n := roundeven (mulf a (broadcast S32x128 (Scalar.ofBits .f32 0x3E22F983#32)))
  subf (subf (subf a (mulf n (broadcast S32x128 (Scalar.ofBits .f32 0x40C90000#32))))
    (mulf n (broadcast S32x128 (Scalar.ofBits .f32 0x3AFDA000#32))))
    (mulf n (broadcast S32x128 (Scalar.ofBits .f32 0x34A22169#32)))

/-- The column number of each table entry, as a float. -/
def digit : FVec F S32x128 .f32 := sitofp .f32 (iota .tc S32x128 32 [1] iota_S32x128_d1_w32)

/-- The angles of the tables indexed by a position's upper digit. -/
def angleHi : FVec F S32x128 .f32 :=
  let d : FVec F S32x128 .f32 := mulf digit (broadcast S32x128 (Scalar.ofBits .f32 0x43000000#32))
  let h : FVec F S32x128 .f32 := freqHi invFreq
  addf (reduce (mulf d h)) (mulf d (subf invFreq h))

/-- The angles of the tables indexed by a position's lower digit. -/
def angleLo : FVec F S32x128 .f32 :=
  let h : FVec F S32x128 .f32 := freqHi invFreq
  addf (reduce (mulf digit h)) (mulf digit (subf invFreq h))

/-- The four tables: cosine and sine by the upper digit, cosine and sine by the lower digit. -/
def table (c : Fin 4) : FVec F S32x128 .f32 :=
  match c with
  | 0 => cos angleHi
  | 1 => sin angleHi
  | 2 => cos angleLo
  | 3 => sin angleLo

/-- A row of 128 positions, repeated over eight rows. -/
def spread (x : Vec F S1x1x128 .i32) : IVec S8x128 32 :=
  broadcastTo S8x128 (shapeCast S1x128 (shapeCast S1x128 x shapeCasts_S1x1x128_S1x128) shapeCasts_S1x128_S1x128) broadcasts_S1x128_S8x128

/-- The upper seven-bit digit of each position. -/
def hiOf (p : IVec S8x128 32) : IVec S8x128 32 :=
  andi (shrsi p (broadcast S8x128 7#32)) (broadcast S8x128 127#32)

/-- The lower seven-bit digit of each position. -/
def loOf (p : IVec S8x128 32) : IVec S8x128 32 := andi p (broadcast S8x128 127#32)

/-- An index made nonnegative as the gather wants it. -/
def normIdx (p : IVec S8x128 32) : IVec S8x128 32 :=
  shapeCast S8x128 (shapeCast S8x128x1
    (select (cmpi .slt p (broadcast S8x128 0#32)) (addi p (broadcast S8x128 128#32)) p)
    shapeCasts_S8x128_S8x128x1) shapeCasts_S8x128x1_S8x128

/-- Eight rows of a table looked up at each position's digit. -/
def look (tab : Vec F S1x8x128 .f32) (p : IVec S8x128 32) : FVec F S8x128 .f32 :=
  dynamicGather 1 (shapeCast S8x128 tab shapeCasts_S1x8x128_S8x128) (normIdx p)

/-- The tile of the keys, transposed: channel by position. -/
def keyTile (x : Vec F S1x128x128 .bf16) : FVec F S128x128 .f32 :=
  extf .f32 (transpose S128x128 [1, 0] (shapeCast S128x128 x shapeCasts_S1x128x128_S128x128) transposes_S128x128_p1_0_S128x128) bitsLt_bf16_f32

/-- The first rotated half. -/
def rot1 (x1 x2 c s : FVec F S8x128 .f32) : FVec F S8x128 .f32 := subf (mulf x1 c) (mulf x2 s)
/-- The second rotated half. -/
def rot2 (x1 x2 c s : FVec F S8x128 .f32) : FVec F S8x128 .f32 := addf (mulf x2 c) (mulf x1 s)

theorem slice8 (r : ℕ) (h : r ≤ 120) : S128x128.Slices ![r, 0] S8x128 := by
  refine ⟨rfl, fun a => ?_⟩
  fin_cases a
  · show r + 8 ≤ 128; omega
  · show 0 + 128 ≤ 128; omega
theorem slice64 (r : ℕ) (h : r ≤ 64) : S128x128.Slices ![r, 0] S64x128 := by
  refine ⟨rfl, fun a => ?_⟩
  fin_cases a
  · show r + 64 ≤ 128; omega
  · show 0 + 128 ≤ 128; omega
theorem slice16 (r : ℕ) (h : r ≤ 112) : S128x128.Slices ![r, 0] S16x128 := by
  refine ⟨rfl, fun a => ?_⟩
  fin_cases a
  · show r + 16 ≤ 128; omega
  · show 0 + 128 ≤ 128; omega
theorem inb8 (t r : ℕ) (ht : t < 16) (hr : r ≤ 120) :
    ∀ a, (![t, r, 0] : Fin 3 → ℕ) a + S1x8x128.size a ≤ S16x128x128.size a := by
  intro a; fin_cases a
  · show t + 1 ≤ 16; omega
  · show r + 8 ≤ 128; omega
  · show 0 + 128 ≤ 128; omega
theorem inb64 (t r : ℕ) (ht : t < 16) (hr : r ≤ 64) :
    ∀ a, (![t, r, 0] : Fin 3 → ℕ) a + S1x64x128.size a ≤ S16x128x128.size a := by
  intro a; fin_cases a
  · show t + 1 ≤ 16; omega
  · show r + 64 ≤ 128; omega
  · show 0 + 128 ≤ 128; omega
theorem inbTab (c r : ℕ) (hc : c < 4) (hr : r ≤ 24) :
    ∀ a, (![c, r, 0] : Fin 3 → ℕ) a + S1x8x128.size a ≤ S4x32x128.size a := by
  intro a; fin_cases a
  · show c + 1 ≤ 4; omega
  · show r + 8 ≤ 32; omega
  · show 0 + 128 ≤ 128; omega
theorem inbTabs (c : ℕ) (hc : c < 4) :
    ∀ a, (![c, 0, 0] : Fin 3 → ℕ) a + S1x32x128.size a ≤ S4x32x128.size a := by
  intro a; fin_cases a
  · show c + 1 ≤ 4; omega
  · show 0 + 32 ≤ 32; omega
  · show 0 + 128 ≤ 128; omega
theorem inbX (t : ℕ) (ht : t < 16) :
    ∀ a, (![0, 128 * t, 0] : Fin 3 → ℕ) a + S1x128x128.size a ≤ S1x2048x128.size a := by
  intro a; fin_cases a
  · show 0 + 1 ≤ 1; omega
  · show 128 * t + 128 ≤ 2048; omega
  · show 0 + 128 ≤ 128; omega
theorem inbPos (r : ℕ) (hr : r < 8) :
    ∀ a, (![r, 0] : Fin 2 → ℕ) a + S1x2048.size a ≤ S8x2048.size a := by
  intro a; fin_cases a
  · show r + 1 ≤ 8; omega
  · show 0 + 2048 ≤ 2048; omega
theorem inbRows (r : ℕ) (hr : r < 8) :
    ∀ a, (![r, 0, 0] : Fin 3 → ℕ) a + S1x1x2048.size a ≤ S8x1x2048.size a := by
  intro a; fin_cases a
  · show r + 1 ≤ 8; omega
  · show 0 + 1 ≤ 1; omega
  · show 0 + 2048 ≤ 2048; omega
theorem inbScale (h : ℕ) (hh : h < 2) :
    ∀ a, (![h, 0] : Fin 2 → ℕ) a + S1x8.size a ≤ S2x8.size a := by
  intro a; fin_cases a
  · show h + 1 ≤ 2; omega
  · show 0 + 8 ≤ 8; omega
theorem inbCode (r t : ℕ) (hr : r ≤ 64) (ht : t < 16) :
    ∀ a, (![0, r, 128 * t] : Fin 3 → ℕ) a + S1x64x128.size a ≤ S1x128x2048.size a := by
  intro a; fin_cases a
  · show 0 + 1 ≤ 1; omega
  · show r + 64 ≤ 128; omega
  · show 128 * t + 128 ≤ 2048; omega
theorem inbRow (i : grid0.Coords) (t : ℕ) (ht : t < 16) :
    ∀ a, (![(Scalar.indexCast (BitVec.ofNat 32 (i 0).val)).toNat, 0, 128 * t] : Fin 3 → ℕ) a + S1x1x128.size a ≤ S8x1x2048.size a := by
  have h := k0_off1_eq i
  have h0 : (Scalar.indexCast (BitVec.ofNat 32 (i 0).val)).toNat = (i 0).val := congrFun h 0
  have h1 : (i 0).val < 8 := (i 0).isLt
  intro a
  fin_cases a
  · show (Scalar.indexCast (BitVec.ofNat 32 (i 0).val)).toNat + 1 ≤ 8; omega
  · show 0 + 1 ≤ 1; omega
  · show 128 * t + 128 ≤ 2048; omega
theorem packCode (h t : ℕ) (hh : h < 2) (ht : t < 16) (hb) :
    (Rect.unit (s := S1x128x2048) ![0, 64 * h, 128 * t] S1x64x128.size hb).PackedRows (EltTy.packing .fp8e4m3) := by
  refine Or.inr ⟨by decide, rfl, Or.inl ⟨?_, ?_⟩⟩
  · show 4 ∣ 64 * h; omega
  · show 4 ∣ 64; omega

/-! ## One scale -/

/-- The largest entry of a block, as a one-by-one block. -/
def maxK (a : FVec F S8x128 .f32) : FVec F S1x1 .f32 :=
  broadcast S1x1 (extractAt ![0, 0, 0] (shapeCast S1x1x1
    (multiReduction .maximumf [1, 2] S1 (shapeCast S1x8x128 a shapeCasts_S8x128_S1x8x128) 0xFF800000#32 reduces_S1x8x128_S1 (.inl rfl) rfl)
    shapeCasts_S1_S1x1x1) inpos_S1x1x1_p0_0_0)

/-- The largest entry of each column of the values' accumulator. -/
def colMax (a : FVec F S16x128 .bf16) : FVec F S1x128 .f32 :=
  shapeCast S1x128 (multiReduction .maximumf [0] S128 (extf .f32 a bitsLt_bf16_f32) 0xFF800000#32 reduces_S16x128_S128 (.inl rfl) rfl) shapeCasts_S128_S1x128

/-- The largest entry of a row of 64. -/
def maxV (a : FVec F S1x64 .f32) : FVec F S1x1 .f32 :=
  broadcast S1x1 (extractAt ![0, 0, 0] (shapeCast S1x1x1
    (multiReduction .maximumf [1, 2] S1 (shapeCast S1x1x64 a shapeCasts_S1x64_S1x1x64) 0xFF800000#32 reduces_S1x1x64_S1 (.inl rfl) rfl)
    shapeCasts_S1_S1x1x1) inpos_S1x1x1_p0_0_0)

/-- The biased exponent of the largest entry divided by the largest code: the number of powers of two
    not above it. -/
def biased (amax : FVec F S1x1 .f32) : IVec S1x1 32 :=
  let y := mulf amax (broadcast S1x1 (Scalar.ofBits .f32 0x3B124925#32))
  let n : IVec S1x256 32 := iota .tc S1x256 32 [1] iota_S1x256_d1_w32
  let pow : FVec F S1x256 .f32 := bitcastToFloat .f32 (shli n (broadcast S1x256 23#32))
  let le : IVec S1x256 1 := cmpf .ole pow (broadcastTo S1x256 y broadcasts_S1x1_S1x256)
  andi (shapeCast S1x1 (multiReductionI .maxsi [1] S1 (select le n (broadcast S1x256 4294967295#32)) 2147483648#32 reduces_S1x256_S1 rfl) shapeCasts_S1_S1x1) (broadcast S1x1 255#32)

/-- The exponent: zero for a zero or an infinite quotient, else the biased exponent less 126. -/
def expo (b : IVec S1x1 32) : IVec S1x1 32 :=
  select (ori (cmpi .eq b (broadcast S1x1 0#32)) (cmpi .eq b (broadcast S1x1 255#32))) (broadcast S1x1 0#32) (subi b (broadcast S1x1 126#32))

/-- Two to the exponent. -/
def scaleOf (amax : FVec F S1x1 .f32) : FVec F S1x1 .f32 :=
  bitcastToFloat .f32 (shli (addi (broadcast S1x1 127#32) (expo (biased amax))) (broadcast S1x1 23#32))

/-- Two to minus the exponent. -/
def invOf (amax : FVec F S1x1 .f32) : FVec F S1x1 .f32 :=
  bitcastToFloat .f32 (shli (subi (broadcast S1x1 127#32) (expo (biased amax))) (broadcast S1x1 23#32))

/-- A row of scales with the lane of one batch row replaced. -/
def laneSet (b : BitVec 32) (s : FVec F S1x1 .f32) (row : Vec F S1x8 .f32) : FVec F S1x8 .f32 :=
  select (cmpi .eq (iota .tc S1x8 32 [1] iota_S1x8_d1_w32 : IVec S1x8 32) (broadcast S1x8 b))
    (broadcastTo S1x8 (shapeCast S1x1 s shapeCasts_S1x1_S1x1) broadcasts_S1x1_S1x8)
    (shapeCast S1x8 row shapeCasts_S1x8_S1x8)

/-! ## One tile of codes -/

/-- The codes of 64 key channels. -/
def codeK (x : Vec F S1x64x128 .f32) (inv : FVec F S1x1 .f32) : FVec F S1x64x128 .fp8e4m3 :=
  shapeCast S1x64x128 (truncf .fp8e4m3
    (minimumf (maximumf (mulf (shapeCast S64x128 x shapeCasts_S1x64x128_S64x128) (broadcastTo S64x128 inv broadcasts_S1x1_S64x128))
      (broadcast S64x128 (Scalar.ofBits .f32 0xC3E00000#32))) (broadcast S64x128 (Scalar.ofBits .f32 0x43E00000#32)))
    bitsLt_fp8e4m3_f32) shapeCasts_S64x128_S1x64x128

/-- The values' tile, transposed: channel by position. -/
def valTile (x : Vec F S1x128x128 .bf16) : FVec F S128x128 .bf16 :=
  transpose S128x128 [1, 0] (shapeCast S128x128 x shapeCasts_S1x128x128_S128x128) transposes_S128x128_p1_0_S128x128

/-- The codes of 64 value channels. -/
def codeV (x : FVec F S64x128 .bf16) (inv : FVec F S1x1 .bf16) : FVec F S1x64x128 .fp8e4m3 :=
  shapeCast S1x64x128 (truncf .fp8e4m3
    (minimumf (maximumf (mulf x (broadcastTo S64x128 inv broadcasts_S1x1_S64x128))
      (broadcast S64x128 (Scalar.ofBits .bf16 0xC3E0#16))) (broadcast S64x128 (Scalar.ofBits .bf16 0x43E0#16)))
    bitsLt_fp8e4m3_bf16) shapeCasts_S64x128_S1x64x128

/-- The running maximum of the values' absolute entries after one tile. -/
def accV (a : FVec F S16x128 .bf16) (x : Vec F S1x128x128 .bf16) : FVec F S16x128 .bf16 :=
  let y : FVec F S128x128 .bf16 := absf (shapeCast S128x128 x shapeCasts_S1x128x128_S128x128)
  let s (r : ℕ) (h : r ≤ 112) : FVec F S16x128 .bf16 := extractStridedSlice S16x128 ![r, 0] y (slice16 r h)
  maximumf (maximumf (maximumf (maximumf (maximumf (maximumf (maximumf (maximumf a (s 0 (by decide))) (s 16 (by decide))) (s 32 (by decide)))
    (s 48 (by decide))) (s 64 (by decide))) (s 80 (by decide))) (s 96 (by decide))) (s 112 (by decide))

/-! ## Programs -/

/-- A kernel program. -/
abbrev P (F : FTy → Type) [FloatOps F] (α : Type) := Prog (TpuEff nD τ sig (Elt F) Λ₀ .tc) α

/-- One lookup: eight rows of one table at each position's digit. -/
def lookup (arg9 : Memref sig .tc .vmem S4x32x128 .f32) (c r : ℕ) (hc : c < 4) (hr : r ≤ 24) (p : IVec S8x128 32) : P F (FVec F S8x128 .f32) := do
  let v : Vec F S1x8x128 .f32 ← Prog.lift (.load arg9 (Rect.unit (s := S4x32x128) ![c, r, 0] S1x8x128.size (inbTab c r hc hr)).toLoadRect (View.loadsAt_vmem h_S1x8x128))
  pure (look v p)

/-- Eight rows of one tile of the rotated keys written. -/
def put8 (arg8 : Memref sig .tc .vmem S16x128x128 .f32) (t r : ℕ) (ht : t < 16) (hr : r ≤ 120) (y : FVec F S8x128 .f32) : P F PUnit := do
  let v : Vec F S1x8x128 .f32 ← Prog.lift (.load arg8 (Rect.unit (s := S16x128x128) ![t, r, 0] S1x8x128.size (inb8 t r ht hr)).toLoadRect (View.loadsAt_vmem h_S1x8x128))
  Prog.lift (.store arg8 (Rect.unit (s := S16x128x128) ![t, r, 0] S1x8x128.size (inb8 t r ht hr)) (shapeCast S1x8x128 y shapeCasts_S8x128_S1x8x128 : FVec F S1x8x128 .f32) Finset.univ (View.stores_vmem_bits_univ h_S1x8x128 rfl) (.inl rfl))

/-- The rotation of eight channel pairs of one head in one tile, and the head's running maximum. -/
def half (arg8 : Memref sig .tc .vmem S16x128x128 .f32) (t g h : ℕ) (ht : t < 16) (hg : g < 4) (hh : h < 2)
    (x : FVec F S128x128 .f32) (c s acc : FVec F S8x128 .f32) : P F (FVec F S8x128 .f32) := do
  let x1 : FVec F S8x128 .f32 := extractStridedSlice S8x128 ![64 * h + 8 * g, 0] x (slice8 _ (by omega))
  let x2 : FVec F S8x128 .f32 := extractStridedSlice S8x128 ![64 * h + 32 + 8 * g, 0] x (slice8 _ (by omega))
  put8 arg8 t (64 * h + 8 * g) ht (by omega) (rot1 x1 x2 c s)
  put8 arg8 t (64 * h + 32 + 8 * g) ht (by omega) (rot2 x1 x2 c s)
  pure (maximumf acc (maximumf (absf (rot1 x1 x2 c s)) (absf (rot2 x1 x2 c s))))

/-- The cosines (times) of the sum of two angles, from the four looked-up values. -/
def cosSum (c0 s0 c1 s1 : FVec F S8x128 .f32) : FVec F S8x128 .f32 := subf (mulf c0 c1) (mulf s0 s1)
/-- The sines of the sum of two angles. -/
def sinSum (c0 s0 c1 s1 : FVec F S8x128 .f32) : FVec F S8x128 .f32 := addf (mulf s0 c1) (mulf c0 s1)

/-- One group of eight channel pairs of a tile, both heads. -/
def group (arg8 : Memref sig .tc .vmem S16x128x128 .f32) (arg9 : Memref sig .tc .vmem S4x32x128 .f32) (t : ℕ) (ht : t < 16)
    (p : IVec S8x128 32) (x : FVec F S128x128 .f32) (g : ℕ) (hg : g < 4)
    (a : FVec F S8x128 .f32 × FVec F S8x128 .f32) : P F (FVec F S8x128 .f32 × FVec F S8x128 .f32) := do
  let c0 ← lookup arg9 0 (8 * g) (by decide) (by omega) (hiOf p)
  let s0 ← lookup arg9 1 (8 * g) (by decide) (by omega) (hiOf p)
  let c1 ← lookup arg9 2 (8 * g) (by decide) (by omega) (loOf p)
  let s1 ← lookup arg9 3 (8 * g) (by decide) (by omega) (loOf p)
  let a0 ← half arg8 t g 0 ht hg (by decide) x (cosSum c0 s0 c1 s1) (sinSum c0 s0 c1 s1) a.1
  let a1 ← half arg8 t g 1 ht hg (by decide) x (cosSum c0 s0 c1 s1) (sinSum c0 s0 c1 s1) a.2
  pure (a0, a1)

/-- The first `n` of a run of steps, each from what the one before returned. -/
def steps {α : Type} (N : ℕ) (f : (n : ℕ) → n < N → α → P F α) (a : α) : (n : ℕ) → n ≤ N → P F α :=
  fun n => Nat.rec (motive := fun n => n ≤ N → P F α) (fun _ => pure a) (fun n ih h => ih (Nat.le_of_succ_le h) >>= f n h) n

/-- What the rotation pass carries: the two heads' running maxima of the keys and the values' one. -/
abbrev Acc (F : FTy → Type) := (FVec F S8x128 .f32 × FVec F S8x128 .f32) × FVec F S16x128 .bf16

/-- One tile of 128 positions: the keys rotated into scratch, the maxima updated. -/
def tile (i : grid0.Coords) (arg1 arg2 : Memref sig .tc .vmem S1x2048x128 .bf16) (arg8 : Memref sig .tc .vmem S16x128x128 .f32)
    (arg9 : Memref sig .tc .vmem S4x32x128 .f32) (arg10 : Memref sig .tc .vmem S8x1x2048 .i32) (t : ℕ) (ht : t < 16) (a : Acc F) : P F (Acc F) := do
  let p : Vec F S1x1x128 .i32 ← Prog.lift (.load arg10 (Rect.unit (s := S8x1x2048) ![(Scalar.indexCast (BitVec.ofNat 32 (i 0).val)).toNat, 0, 128 * t] S1x1x128.size (inbRow i t ht)).toLoadRect (View.loadsAt_vmem h_S1x1x128))
  let x : Vec F S1x128x128 .bf16 ← Prog.lift (.load arg1 (Rect.unit (s := S1x2048x128) ![0, 128 * t, 0] S1x128x128.size (inbX t ht)).toLoadRect (View.loadsAt_vmem h_S1x128x128))
  let k ← steps 4 (group arg8 arg9 t ht (spread (F := F) p) (keyTile x)) a.1 4 le_rfl
  let v : Vec F S1x128x128 .bf16 ← Prog.lift (.load arg2 (Rect.unit (s := S1x2048x128) ![0, 128 * t, 0] S1x128x128.size (inbX t ht)).toLoadRect (View.loadsAt_vmem h_S1x128x128))
  pure (k, accV a.2 v)

/-- One scale written into its lane. -/
def putScale (arg : Memref sig .tc .vmem S2x8 .f32) (b : BitVec 32) (h : ℕ) (hh : h < 2) (s : FVec F S1x1 .f32) : P F PUnit := do
  let row : Vec F S1x8 .f32 ← Prog.lift (.load arg (Rect.unit (s := S2x8) ![h, 0] S1x8.size (inbScale h hh)).toLoadRect (View.loadsAt_vmem h_S1x8))
  let _ : Vec F S1x8 .f32 ← Prog.lift (.load arg (Rect.unit (s := S2x8) ![h, 0] S1x8.size (inbScale h hh)).toLoadRect (View.loadsAt_vmem h_S1x8))
  Prog.lift (.store arg (Rect.unit (s := S2x8) ![h, 0] S1x8.size (inbScale h hh)) (laneSet b s row) Finset.univ (View.stores_vmem_bits_univ h_S1x8 rfl) (.inl rfl))

/-- One block of codes written. -/
def putCode (arg : Memref sig .tc .vmem S1x128x2048 .fp8e4m3) (harg : arg.IsWhole) (h t : ℕ) (hh : h < 2) (ht : t < 16) (w : FVec F S1x64x128 .fp8e4m3) : P F PUnit := do
  let _ : Vec F S1x64x128 .fp8e4m3 ← Prog.lift (.load arg (Rect.unit (s := S1x128x2048) ![0, 64 * h, 128 * t] S1x64x128.size (inbCode (64 * h) t (by omega) ht)).toLoadRect (View.loadsAt_vmem h_S1x64x128))
  Prog.lift (.store arg (Rect.unit (s := S1x128x2048) ![0, 64 * h, 128 * t] S1x64x128.size (inbCode (64 * h) t (by omega) ht)) w Finset.univ (View.stores_vmem h_S1x64x128 (harg.storeExact_slice rfl _ (packCode h t hh ht _)) (fun _ => rfl)) (.inl rfl))

/-- The codes of one head in one tile. -/
def codeHead (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (h t : ℕ) (hh : h < 2) (ht : t < 16) (v : FVec F S128x128 .bf16)
    (ik : FVec F S1x1 .f32) (iv : FVec F S1x1 .bf16) : P F PUnit := do
  let x : Vec F S1x64x128 .f32 ← Prog.lift (.load arg8 (Rect.unit (s := S16x128x128) ![t, 64 * h, 0] S1x64x128.size (inb64 t (64 * h) ht (by omega))).toLoadRect (View.loadsAt_vmem h_S1x64x128))
  putCode arg4 harg4 h t hh ht (codeK x ik)
  putCode arg6 harg6 h t hh ht (codeV (extractStridedSlice S64x128 ![64 * h, 0] v (slice64 (64 * h) (by omega))) iv)

/-- The codes of one tile. -/
def codeTile (arg2 : Memref sig .tc .vmem S1x2048x128 .bf16) (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (ik0 ik1 : FVec F S1x1 .f32) (iv0 iv1 : FVec F S1x1 .bf16) (t : ℕ) (ht : t < 16) (_ : PUnit) : P F PUnit := do
  let v : Vec F S1x128x128 .bf16 ← Prog.lift (.load arg2 (Rect.unit (s := S1x2048x128) ![0, 128 * t, 0] S1x128x128.size (inbX t ht)).toLoadRect (View.loadsAt_vmem h_S1x128x128))
  codeHead arg4 harg4 arg6 harg6 arg8 0 t (by decide) ht (valTile v) ik0 iv0
  codeHead arg4 harg4 arg6 harg6 arg8 1 t (by decide) ht (valTile v) ik1 iv1

/-- The half of the body after the tables are there. -/
def rest (i : grid0.Coords) (arg1 : Memref sig .tc .vmem S1x2048x128 .bf16) (arg2 : Memref sig .tc .vmem S1x2048x128 .bf16)
    (arg4 : Memref sig .tc .vmem S1x128x2048 .fp8e4m3) (harg4 : arg4.IsWhole) (arg5 : Memref sig .tc .vmem S2x8 .f32)
    (arg6 : Memref sig .tc .vmem S1x128x2048 .fp8e4m3) (harg6 : arg6.IsWhole) (arg7 : Memref sig .tc .vmem S2x8 .f32)
    (arg8 : Memref sig .tc .vmem S16x128x128 .f32) (arg9 : Memref sig .tc .vmem S4x32x128 .f32) (arg10 : Memref sig .tc .vmem S8x1x2048 .i32) : P F PUnit := do
  let a ← steps 16 (tile i arg1 arg2 arg8 arg9 arg10)
    ((broadcast S8x128 (Scalar.ofBits .f32 0x00000000#32), broadcast S8x128 (Scalar.ofBits .f32 0x00000000#32)), broadcast S16x128 (Scalar.ofBits .bf16 0x0000#16)) 16 le_rfl
  let v0 : FVec F S1x64 .f32 := extractStridedSlice S1x64 ![0, 0] (colMax a.2) slices_S1x128_o0_0_S1x64
  let v1 : FVec F S1x64 .f32 := extractStridedSlice S1x64 ![0, 64] (colMax a.2) slices_S1x128_o0_64_S1x64
  putScale arg5 (BitVec.ofNat 32 (i 0).val) 0 (by decide) (scaleOf (maxK a.1.1))
  putScale arg7 (BitVec.ofNat 32 (i 0).val) 0 (by decide) (scaleOf (maxV v0))
  putScale arg5 (BitVec.ofNat 32 (i 0).val) 1 (by decide) (scaleOf (maxK a.1.2))
  putScale arg7 (BitVec.ofNat 32 (i 0).val) 1 (by decide) (scaleOf (maxV v1))
  steps 16 (codeTile arg2 arg4 harg4 arg6 harg6 arg8 (invOf (maxK a.1.1)) (invOf (maxK a.1.2))
    (truncf .bf16 (invOf (maxV v0)) bitsLt_bf16_f32) (truncf .bf16 (invOf (maxV v1)) bitsLt_bf16_f32)) ⟨⟩ 16 le_rfl

/-- One table written. -/
def putTab (arg9 : Memref sig .tc .vmem S4x32x128 .f32) (c : ℕ) (hc : c < 4) (y : FVec F S32x128 .f32) : P F PUnit := do
  let _ : Vec F S1x32x128 .f32 ← Prog.lift (.load arg9 (Rect.unit (s := S4x32x128) ![c, 0, 0] S1x32x128.size (inbTabs c hc)).toLoadRect (View.loadsAt_vmem h_S1x32x128))
  Prog.lift (.store arg9 (Rect.unit (s := S4x32x128) ![c, 0, 0] S1x32x128.size (inbTabs c hc)) (shapeCast S1x32x128 y shapeCasts_S32x128_S1x32x128 : FVec F S1x32x128 .f32) Finset.univ (View.stores_vmem_bits_univ h_S1x32x128 rfl) (.inl rfl))

/-- One row of positions copied to scratch. -/
def putRow (arg3 : Memref sig .tc .vmem S8x2048 .i32) (arg10 : Memref sig .tc .vmem S8x1x2048 .i32) (r : ℕ) (hr : r < 8) (_ : PUnit) : P F PUnit := do
  let p : Vec F S1x2048 .i32 ← Prog.lift (.load arg3 (Rect.unit (s := S8x2048) ![r, 0] S1x2048.size (inbPos r hr)).toLoadRect (View.loadsAt_vmem h_S1x2048))
  let _ : Vec F S1x1x2048 .i32 ← Prog.lift (.load arg10 (Rect.unit (s := S8x1x2048) ![r, 0, 0] S1x1x2048.size (inbRows r hr)).toLoadRect (View.loadsAt_vmem h_S1x1x2048))
  Prog.lift (.store arg10 (Rect.unit (s := S8x1x2048) ![r, 0, 0] S1x1x2048.size (inbRows r hr)) (shapeCast S1x1x2048 p shapeCasts_S1x2048_S1x1x2048 : IVec S1x1x2048 32) Finset.univ (View.stores_vmem_bits_univ h_S1x1x2048 rfl) (.inl rfl))

/-- The tables and the rows of positions, written on the first batch row. -/
def setup (arg3 : Memref sig .tc .vmem S8x2048 .i32) (arg9 : Memref sig .tc .vmem S4x32x128 .f32) (arg10 : Memref sig .tc .vmem S8x1x2048 .i32) : P F PUnit := do
  putTab arg9 0 (by decide) (cos angleHi)
  putTab arg9 1 (by decide) (sin angleHi)
  putTab arg9 2 (by decide) (cos angleLo)
  putTab arg9 3 (by decide) (sin angleLo)
  steps 8 (putRow arg3 arg10) ⟨⟩ 8 le_rfl

/-- Whether this is the first batch row, as the kernel computes it. -/
abbrev first (i : grid0.Coords) : Prop :=
  Scalar.cmpi .ne (Scalar.extui (Scalar.cmpi .eq (BitVec.ofNat 32 (i 0).val) 0#32 : BitVec 1) : BitVec 32) 0#32 = 1#1

/-- The printed body on the first batch row. -/
theorem body_first (i : grid0.Coords) (hc : first i) (arg1 : Memref sig .tc .vmem S1x2048x128 .bf16) (harg1 : arg1.IsWhole) (arg2 : Memref sig .tc .vmem S1x2048x128 .bf16) (harg2 : arg2.IsWhole) (arg3 : Memref sig .tc .vmem S8x2048 .i32) (harg3 : arg3.IsWhole) (arg4 : Memref sig .tc .vmem S1x128x2048 .fp8e4m3) (harg4 : arg4.IsWhole) (arg5 : Memref sig .tc .vmem S2x8 .f32) (harg5 : arg5.IsWhole) (arg6 : Memref sig .tc .vmem S1x128x2048 .fp8e4m3) (harg6 : arg6.IsWhole) (arg7 : Memref sig .tc .vmem S2x8 .f32) (harg7 : arg7.IsWhole) (arg8 : Memref sig .tc .vmem S16x128x128 .f32) (harg8 : arg8.IsWhole) (arg9 : Memref sig .tc .vmem S4x32x128 .f32) (harg9 : arg9.IsWhole) (arg10 : Memref sig .tc .vmem S8x1x2048 .i32) (harg10 : arg10.IsWhole) :
    cc0_rope_fp8_kv_quant (F := F) i arg1 harg1 arg2 harg2 arg3 harg3 arg4 harg4 arg5 harg5 arg6 harg6 arg7 harg7 arg8 harg8 arg9 harg9 arg10 harg10
      = (setup arg3 arg9 arg10 >>= fun _ => rest i arg1 arg2 arg4 harg4 arg5 arg6 harg6 arg7 arg8 arg9 arg10) := by
  unfold cc0_rope_fp8_kv_quant k0_part170 k0_part6
  dsimp only
  rw [dif_pos hc]
  sl_kernel_rfl

/-- The printed body on every other batch row. -/
theorem body_later (i : grid0.Coords) (hc : ¬ first i) (arg1 : Memref sig .tc .vmem S1x2048x128 .bf16) (harg1 : arg1.IsWhole) (arg2 : Memref sig .tc .vmem S1x2048x128 .bf16) (harg2 : arg2.IsWhole) (arg3 : Memref sig .tc .vmem S8x2048 .i32) (harg3 : arg3.IsWhole) (arg4 : Memref sig .tc .vmem S1x128x2048 .fp8e4m3) (harg4 : arg4.IsWhole) (arg5 : Memref sig .tc .vmem S2x8 .f32) (harg5 : arg5.IsWhole) (arg6 : Memref sig .tc .vmem S1x128x2048 .fp8e4m3) (harg6 : arg6.IsWhole) (arg7 : Memref sig .tc .vmem S2x8 .f32) (harg7 : arg7.IsWhole) (arg8 : Memref sig .tc .vmem S16x128x128 .f32) (harg8 : arg8.IsWhole) (arg9 : Memref sig .tc .vmem S4x32x128 .f32) (harg9 : arg9.IsWhole) (arg10 : Memref sig .tc .vmem S8x1x2048 .i32) (harg10 : arg10.IsWhole) :
    cc0_rope_fp8_kv_quant (F := F) i arg1 harg1 arg2 harg2 arg3 harg3 arg4 harg4 arg5 harg5 arg6 harg6 arg7 harg7 arg8 harg8 arg9 harg9 arg10 harg10
      = rest i arg1 arg2 arg4 harg4 arg5 arg6 harg6 arg7 arg8 arg9 arg10 := by
  unfold cc0_rope_fp8_kv_quant k0_part170 k0_part6
  dsimp only
  rw [dif_neg hc]
  sl_kernel_rfl

end Cert.Kernel.RopeK

end
-- ==== Proof.RopeK.Triple.lean ====
/- What one load, one store and a run of steps do, told by the contents of the buffers. -/
module

public import proofs.«01_k».proof.Proof.RopeK.Body
public import Idealize.ShloMosaic.Lib.Pipeline.FrameBody
public import Idealize.ShloMosaic.Lib.Writes

@[expose] public section

set_option maxRecDepth 16384

noncomputable section

namespace Cert.Kernel.RopeK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a kernel program on one core. -/
abbrev WP (c : Dev nD) (E : Set ℕ) {α : Type} (p : P F α) (Q : α → sProp 𝕄) : sProp 𝕄 :=
  wp frame (wpE (defs₀ (F := F)) Variants.none (c : Thread nD τ) none) E p Q

/-- A buffer of the core at contents `X`. -/
abbrev own (c : Dev nD) {s : Shape} {e : EltTy} (m : Memref sig .tc .vmem s e) (X : s.Idx → Elt F e) : sProp 𝕄 :=
  owns (c : Thread nD τ) m fullShare X

/-- A load hands on the part of the contents it reads. -/
theorem wp_ld (c : Dev nD) (E : Set ℕ) {s : Shape} {e : EltTy} {m : Memref sig .tc .vmem s e} {r : Rect s} {hl : m.view.LoadsAt r.toLoadRect}
    (X : s.Idx → Elt F e) (Q : (r.shape.Idx → Elt F e) → sProp 𝕄) :
    iprop(own c m X ∗ (∀ v, ⌜v = fun j => X (r.emb j)⌝ -∗ own c m X -∗ Q v)) ⊢ WP (F := F) c E (Prog.lift (.load m r.toLoadRect hl)) Q := by
  unfold own owns
  iintro ⟨⟨%f, %hf, H⟩, Hk⟩
  subst hf
  iapply (wp_load (defs := defs₀ (F := F)) Variants.none (c : Thread nD τ) none E (S := m.view.set) (m.view.setOn_subset_set _)) $$ [H]
  · iexact H
  iintro H
  iapply (le_wp_ret frame (wpE (defs₀ (F := F)) Variants.none (c : Thread nD τ) none) E _ Q)
  iapply Hk $$ %(m.view.readAt (Elt F) r.toLoadRect f) [] [H]
  · ipureintro; rfl
  iexists f
  isplitr
  · ipureintro; rfl
  · iexact H

/-- A store leaves its payload on its rectangle and everything else as it was. -/
theorem wp_st (c : Dev nD) (E : Set ℕ) {s : Shape} {e : EltTy} {m : Memref sig .tc .vmem s e} {r : Rect s} {w : r.shape.Idx → Elt F e}
    {hx : (m.access r).Stores Finset.univ} {hm : Finset.univ = Finset.univ ∨ ∀ a, r.stride a = 1}
    (X : s.Idx → Elt F e) (Q : PUnit → sProp 𝕄) :
    iprop(own c m X ∗ (∀ X', ⌜(∀ j, X' (r.emb j) = w j) ∧ ∀ y, y ∉ r.set → X' y = X y⌝ -∗ own c m X' -∗ Q ⟨⟩))
      ⊢ WP (F := F) c E (Prog.lift (.store m r w Finset.univ hx hm)) Q := by
  unfold own owns
  iintro ⟨⟨%f, %hf, H⟩, Hk⟩
  subst hf
  iapply (wp_store_writes₀ (defs := defs₀ (F := F)) Variants.none (c : Thread nD τ) none E (S := m.view.set) (View.set_slice_subset _ _)) $$ [H]
  · iexact H
  iintro H
  iapply (le_wp_ret frame (wpE (defs₀ (F := F)) Variants.none (c : Thread nD τ) none) E _ Q)
  iapply Hk $$ %(m.view.read (Elt F) (m.view.writes (Elt F) f [⟨r, w⟩])) [] [H]
  · ipureintro
    refine ⟨fun j => View.read_writes_cons_emb _ _ r w [] j, fun y hy => ?_⟩
    exact View.read_writes_cons_miss _ _ ⟨r, w⟩ [] y hy
  · iexists _
    isplitr
    · ipureintro; rfl
    · iexact H

/-- A continuation proved from a program's own postcondition. -/
theorem wp_then (c : Dev nD) (E : Set ℕ) {α : Type} {p : P F α} {A : sProp 𝕄} {R : α → sProp 𝕄} (h : A ⊢ WP c E p R) (Q : α → sProp 𝕄) :
    iprop(A ∗ (∀ a, R a -∗ Q a)) ⊢ WP c E p Q := by
  iintro ⟨HA, Hk⟩
  iapply (wp_wand_r frame (wpE (defs₀ (F := F)) Variants.none (c : Thread nD τ) none) E)
  isplitl [HA]
  · iapply h; iexact HA
  · iexact Hk

/-- A returned value. -/
theorem wp_val (c : Dev nD) (E : Set ℕ) {α : Type} (a : α) (Q : α → sProp 𝕄) : Q a ⊢ WP (F := F) c E (pure a) Q :=
  le_wp_ret frame (wpE (defs₀ (F := F)) Variants.none (c : Thread nD τ) none) E a Q

/-- One program after another. -/
theorem wp_seq (c : Dev nD) (E : Set ℕ) {α β : Type} (p : P F α) (k : α → P F β) (Q : β → sProp 𝕄) :
    WP c E p (fun a => WP c E (k a) Q) ⊢ WP c E (p >>= k) Q := by
  exact BIBase.Entails.of_eq (wp_bind frame (wpE (defs₀ (F := F)) Variants.none (c : Thread nD τ) none) E p k Q).symm

/-- An invariant of every step holds after a run of steps. -/
theorem wp_steps (c : Dev nD) (E : Set ℕ) {α : Type} (N : ℕ) (f : (n : ℕ) → n < N → α → P F α) (I : ℕ → α → sProp 𝕄)
    (h : ∀ n (hn : n < N) a, I n a ⊢ WP c E (f n hn a) (I (n + 1))) (a : α) :
    ∀ n (hn : n ≤ N), I 0 a ⊢ WP c E (steps N f a n hn) (I n)
  | 0, _ => wp_val c E a _
  | n + 1, hn => ((wp_steps c E N f I h a n (Nat.le_of_succ_le hn)).trans
      (wp_mono frame (wpE (defs₀ (F := F)) Variants.none (c : Thread nD τ) none) E (fun x => h n hn x))).trans
      (wp_seq c E (steps N f a n (Nat.le_of_succ_le hn)) (f n hn) _)

/-- The first `n` steps of a run of pure steps. -/
def iter {α : Type} (N : ℕ) (f : (n : ℕ) → n < N → α → α) (a : α) : (n : ℕ) → n ≤ N → α
  | 0, _ => a
  | n + 1, h => f n h (iter N f a n (Nat.le_of_succ_le h))

/-! ## What the kernel's units read and write -/

/-- Eight rows of one table. -/
def tabAt (T : S4x32x128.Idx → Elt F .f32) (c r : ℕ) (hc : c < 4) (hr : r ≤ 24) : Vec F S1x8x128 .f32 :=
  fun j => T ((Rect.unit (s := S4x32x128) ![c, r, 0] S1x8x128.size (inbTab c r hc hr)).emb j)

/-- The positions of one tile. -/
def posAt (R : S8x1x2048.Idx → Elt F .i32) (i : grid0.Coords) (t : ℕ) (ht : t < 16) : Vec F S1x1x128 .i32 :=
  fun j => R ((Rect.unit (s := S8x1x2048) ![(Scalar.indexCast (BitVec.ofNat 32 (i 0).val)).toNat, 0, 128 * t] S1x1x128.size (inbRow i t ht)).emb j)

/-- One tile of an input block. -/
def blkAt (X : S1x2048x128.Idx → Elt F .bf16) (t : ℕ) (ht : t < 16) : Vec F S1x128x128 .bf16 :=
  fun j => X ((Rect.unit (s := S1x2048x128) ![0, 128 * t, 0] S1x128x128.size (inbX t ht)).emb j)

/-- The cosines of one group's angles. -/
def cosG (T : S4x32x128.Idx → Elt F .f32) (p : IVec S8x128 32) (g : ℕ) (hg : g < 4) : FVec F S8x128 .f32 :=
  cosSum (look (tabAt T 0 (8 * g) (by decide) (by omega)) (hiOf p)) (look (tabAt T 1 (8 * g) (by decide) (by omega)) (hiOf p))
    (look (tabAt T 2 (8 * g) (by decide) (by omega)) (loOf p)) (look (tabAt T 3 (8 * g) (by decide) (by omega)) (loOf p))
/-- The sines of one group's angles. -/
def sinG (T : S4x32x128.Idx → Elt F .f32) (p : IVec S8x128 32) (g : ℕ) (hg : g < 4) : FVec F S8x128 .f32 :=
  sinSum (look (tabAt T 0 (8 * g) (by decide) (by omega)) (hiOf p)) (look (tabAt T 1 (8 * g) (by decide) (by omega)) (hiOf p))
    (look (tabAt T 2 (8 * g) (by decide) (by omega)) (loOf p)) (look (tabAt T 3 (8 * g) (by decide) (by omega)) (loOf p))

/-- The first rotated half of one group of one head. -/
def out1 (x : FVec F S128x128 .f32) (h g : ℕ) (hh : h < 2) (hg : g < 4) (c s : FVec F S8x128 .f32) : FVec F S8x128 .f32 :=
  rot1 (extractStridedSlice S8x128 ![64 * h + 8 * g, 0] x (slice8 _ (by omega))) (extractStridedSlice S8x128 ![64 * h + 32 + 8 * g, 0] x (slice8 _ (by omega))) c s
/-- The second rotated half of one group of one head. -/
def out2 (x : FVec F S128x128 .f32) (h g : ℕ) (hh : h < 2) (hg : g < 4) (c s : FVec F S8x128 .f32) : FVec F S8x128 .f32 :=
  rot2 (extractStridedSlice S8x128 ![64 * h + 8 * g, 0] x (slice8 _ (by omega))) (extractStridedSlice S8x128 ![64 * h + 32 + 8 * g, 0] x (slice8 _ (by omega))) c s
/-- One head's running maximum after one group. -/
def halfAcc (x : FVec F S128x128 .f32) (h g : ℕ) (hh : h < 2) (hg : g < 4) (c s acc : FVec F S8x128 .f32) : FVec F S8x128 .f32 :=
  maximumf acc (maximumf (absf (out1 x h g hh hg c s)) (absf (out2 x h g hh hg c s)))

/-- Both heads' running maxima after one group. -/
def groupAcc (T : S4x32x128.Idx → Elt F .f32) (p : IVec S8x128 32) (x : FVec F S128x128 .f32) (g : ℕ) (hg : g < 4)
    (a : FVec F S8x128 .f32 × FVec F S8x128 .f32) : FVec F S8x128 .f32 × FVec F S8x128 .f32 :=
  (halfAcc x 0 g (by decide) hg (cosG T p g hg) (sinG T p g hg) a.1, halfAcc x 1 g (by decide) hg (cosG T p g hg) (sinG T p g hg) a.2)

/-- The maxima after one tile. -/
def tileAcc (X1 X2 : S1x2048x128.Idx → Elt F .bf16) (T : S4x32x128.Idx → Elt F .f32) (R : S8x1x2048.Idx → Elt F .i32) (i : grid0.Coords)
    (t : ℕ) (ht : t < 16) (a : Acc F) : Acc F :=
  (iter 4 (groupAcc T (spread (F := F) (posAt R i t ht)) (keyTile (blkAt X1 t ht))) a.1 4 le_rfl, accV a.2 (blkAt X2 t ht))

/-- What the accumulators start at. -/
def acc0 : Acc F :=
  ((broadcast S8x128 (Scalar.ofBits .f32 0x00000000#32), broadcast S8x128 (Scalar.ofBits .f32 0x00000000#32)), broadcast S16x128 (Scalar.ofBits .bf16 0x0000#16))

/-- The maxima after all tiles. -/
def accAll (X1 X2 : S1x2048x128.Idx → Elt F .bf16) (T : S4x32x128.Idx → Elt F .f32) (R : S8x1x2048.Idx → Elt F .i32) (i : grid0.Coords) : Acc F :=
  iter 16 (tileAcc X1 X2 T R i) acc0 16 le_rfl

/-- What it is to be the rotated keys of a step: what each group writes, at the rows it writes. -/
def IsRot (X1 : S1x2048x128.Idx → Elt F .bf16) (T : S4x32x128.Idx → Elt F .f32) (R : S8x1x2048.Idx → Elt F .i32) (i : grid0.Coords)
    (G : S16x128x128.Idx → Elt F .f32) : Prop :=
  ∀ t (ht : t < 16) g (hg : g < 4) h (hh : h < 2),
    (∀ j, G ((Rect.unit (s := S16x128x128) ![t, 64 * h + 8 * g, 0] S1x8x128.size (inb8 t (64 * h + 8 * g) ht (by omega))).emb j)
      = shapeCast S1x8x128 (out1 (keyTile (blkAt X1 t ht)) h g hh hg (cosG T (spread (F := F) (posAt R i t ht)) g hg) (sinG T (spread (F := F) (posAt R i t ht)) g hg)) shapeCasts_S8x128_S1x8x128 j)
    ∧ ∀ j, G ((Rect.unit (s := S16x128x128) ![t, 64 * h + 32 + 8 * g, 0] S1x8x128.size (inb8 t (64 * h + 32 + 8 * g) ht (by omega))).emb j)
      = shapeCast S1x8x128 (out2 (keyTile (blkAt X1 t ht)) h g hh hg (cosG T (spread (F := F) (posAt R i t ht)) g hg) (sinG T (spread (F := F) (posAt R i t ht)) g hg)) shapeCasts_S8x128_S1x8x128 j

/-- The entries rotated before half `h` of group `g` of tile `t`. -/
def D8 (t g h : ℕ) (y : S16x128x128.Idx) : Prop :=
  (y 0).val < t ∨ ((y 0).val = t ∧ ((y 1).val % 32 / 8 < g ∨ ((y 1).val % 32 / 8 = g ∧ (y 1).val / 64 < h)))

/-- Contents that agree with `G` on `D`. -/
def Agree {s : Shape} {e : EltTy} (G : s.Idx → Elt F e) (D : s.Idx → Prop) (X : s.Idx → Elt F e) : Prop := ∀ y, D y → X y = G y

theorem Agree.mono {s : Shape} {e : EltTy} {G : s.Idx → Elt F e} {D D' : s.Idx → Prop} {X : s.Idx → Elt F e} (h : Agree G D X) (hD : ∀ y, D' y → D y) : Agree G D' X :=
  fun y hy => h y (hD y hy)

/-- A store of `G`'s entries enlarges the agreement by its rectangle. -/
theorem Agree.put {s : Shape} {e : EltTy} {G : s.Idx → Elt F e} {D D' : s.Idx → Prop} {X X' : s.Idx → Elt F e} {r : Rect s} {w : r.shape.Idx → Elt F e}
    (h : Agree G D X) (hX : (∀ j, X' (r.emb j) = w j) ∧ ∀ y, y ∉ r.set → X' y = X y) (hG : ∀ j, G (r.emb j) = w j)
    (hD : ∀ y, D' y → y ∈ r.set ∨ D y) : Agree G D' X' := by
  intro y hy
  by_cases hm : y ∈ r.set
  · obtain ⟨x, rfl⟩ : ∃ x, r.emb x = y := r.exists_idx_of_mem hm
    rw [hX.1, hG]
  · rw [hX.2 y hm, h y ((hD y hy).resolve_left hm)]

theorem lookup_spec (c : Dev nD) (E : Set ℕ) (arg9 : Memref sig .tc .vmem S4x32x128 .f32) (k r : ℕ) (hk : k < 4) (hr : r ≤ 24) (p : IVec S8x128 32)
    (T : S4x32x128.Idx → Elt F .f32) (Q : FVec F S8x128 .f32 → sProp 𝕄) :
    iprop(own c arg9 T ∗ (own c arg9 T -∗ Q (look (tabAt T k r hk hr) p))) ⊢ WP c E (lookup arg9 k r hk hr p) Q := by
  unfold lookup
  refine BIBase.Entails.trans ?_ (wp_seq c E _ _ _)
  iintro ⟨H, Hk⟩
  iapply (wp_ld c E T)
  isplitl [H]
  · iexact H
  iintro %v %hv H
  obtain rfl : v = tabAt T k r hk hr := hv
  iapply (wp_val c E)
  iapply Hk
  iexact H

theorem put8_spec (c : Dev nD) (E : Set ℕ) (arg8 : Memref sig .tc .vmem S16x128x128 .f32) (t r : ℕ) (ht : t < 16) (hr : r ≤ 120) (y : FVec F S8x128 .f32)
    (X : S16x128x128.Idx → Elt F .f32) (Q : PUnit → sProp 𝕄) :
    iprop(own c arg8 X ∗ (∀ X', ⌜(∀ j, X' ((Rect.unit (s := S16x128x128) ![t, r, 0] S1x8x128.size (inb8 t r ht hr)).emb j) = shapeCast S1x8x128 y shapeCasts_S8x128_S1x8x128 j)
        ∧ ∀ z, z ∉ (Rect.unit (s := S16x128x128) ![t, r, 0] S1x8x128.size (inb8 t r ht hr)).set → X' z = X z⌝ -∗ own c arg8 X' -∗ Q ⟨⟩))
      ⊢ WP c E (put8 arg8 t r ht hr y) Q := by
  unfold put8
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iexact Hk

theorem half_spec (c : Dev nD) (E : Set ℕ) (arg8 : Memref sig .tc .vmem S16x128x128 .f32) (t g h : ℕ) (ht : t < 16) (hg : g < 4) (hh : h < 2)
    (x : FVec F S128x128 .f32) (co si acc : FVec F S8x128 .f32) (G X : S16x128x128.Idx → Elt F .f32)
    (h1 : ∀ j, G ((Rect.unit (s := S16x128x128) ![t, 64 * h + 8 * g, 0] S1x8x128.size (inb8 t (64 * h + 8 * g) ht (by omega))).emb j) = shapeCast S1x8x128 (out1 x h g hh hg co si) shapeCasts_S8x128_S1x8x128 j)
    (h2 : ∀ j, G ((Rect.unit (s := S16x128x128) ![t, 64 * h + 32 + 8 * g, 0] S1x8x128.size (inb8 t (64 * h + 32 + 8 * g) ht (by omega))).emb j) = shapeCast S1x8x128 (out2 x h g hh hg co si) shapeCasts_S8x128_S1x8x128 j)
    (hX : Agree G (D8 t g h) X) (Q : FVec F S8x128 .f32 → sProp 𝕄) :
    iprop(own c arg8 X ∗ (∀ X', ⌜Agree G (D8 t g (h + 1)) X'⌝ -∗ own c arg8 X' -∗ Q (halfAcc x h g hh hg co si acc))) ⊢ WP c E (half arg8 t g h ht hg hh x co si acc) Q := by
  change _ ⊢ WP c E (put8 arg8 t (64 * h + 8 * g) ht (by omega) (out1 x h g hh hg co si) >>= fun _ =>
    put8 arg8 t (64 * h + 32 + 8 * g) ht (by omega) (out2 x h g hh hg co si) >>= fun _ => pure (halfAcc x h g hh hg co si acc)) Q
  refine BIBase.Entails.trans ?_ (wp_seq c E _ _ _)
  iintro ⟨H, Hk⟩
  iapply (put8_spec c E arg8 t (64 * h + 8 * g) ht _ _ X)
  isplitl [H]
  · iexact H
  iintro %X' %hX' H
  iapply (wp_seq c E)
  iapply (put8_spec c E arg8 t (64 * h + 32 + 8 * g) ht _ _ X')
  isplitl [H]
  · iexact H
  iintro %X'' %hX'' H
  iapply (wp_val c E)
  iapply Hk $$ %X'' [] [H]
  · ipureintro
    have a1 : Agree G (fun y => y ∈ (Rect.unit (s := S16x128x128) ![t, 64 * h + 8 * g, 0] S1x8x128.size (inb8 t (64 * h + 8 * g) ht (by omega))).set ∨ D8 t g h y) X' :=
      Agree.put (r := Rect.unit (s := S16x128x128) ![t, 64 * h + 8 * g, 0] S1x8x128.size (inb8 t (64 * h + 8 * g) ht (by omega))) hX hX' h1 fun y hy => hy
    refine Agree.put (r := Rect.unit (s := S16x128x128) ![t, 64 * h + 32 + 8 * g, 0] S1x8x128.size (inb8 t (64 * h + 32 + 8 * g) ht (by omega))) a1 hX'' h2 fun y hy => ?_
    have hm : ∀ r (hr : r ≤ 120), y ∈ (Rect.unit (s := S16x128x128) ![t, r, 0] S1x8x128.size (inb8 t r ht hr)).set ↔ (y 0).val = t ∧ r ≤ (y 1).val ∧ (y 1).val < r + 8 := by
      intro r hr
      rw [Rect.mem_set_unit]
      constructor
      · intro hy
        have b0 : t ≤ (y 0).val ∧ (y 0).val < t + 1 := hy 0
        have b1 : r ≤ (y 1).val ∧ (y 1).val < r + 8 := hy 1
        omega
      · rintro ⟨b0, b1, b2⟩ a
        have b3 : (y 2).val < 128 := (y 2).isLt
        fin_cases a
        · show t ≤ (y 0).val ∧ (y 0).val < t + 1; omega
        · show r ≤ (y 1).val ∧ (y 1).val < r + 8; omega
        · show 0 ≤ (y 2).val ∧ (y 2).val < 0 + 128; omega
    rw [hm _ (by omega), hm _ (by omega)]
    have b1 : (y 1).val < 128 := (y 1).isLt
    unfold D8 at hy ⊢
    omega
  · iexact H

theorem group_spec (c : Dev nD) (E : Set ℕ) (arg8 : Memref sig .tc .vmem S16x128x128 .f32) (arg9 : Memref sig .tc .vmem S4x32x128 .f32) (t : ℕ) (ht : t < 16)
    (X1 : S1x2048x128.Idx → Elt F .bf16) (T : S4x32x128.Idx → Elt F .f32) (R : S8x1x2048.Idx → Elt F .i32) (i : grid0.Coords)
    (G : S16x128x128.Idx → Elt F .f32) (hG : IsRot X1 T R i G) (g : ℕ) (hg : g < 4) (a : FVec F S8x128 .f32 × FVec F S8x128 .f32) (a' : FVec F S8x128 .f32 × FVec F S8x128 .f32) :
    iprop(⌜a = a'⌝ ∗ (∃ X8, ⌜Agree G (D8 t g 0) X8⌝ ∗ own c arg8 X8) ∗ own c arg9 T)
      ⊢ WP c E (group arg8 arg9 t ht (spread (F := F) (posAt R i t ht)) (keyTile (blkAt X1 t ht)) g hg a)
        (fun b => iprop(⌜b = groupAcc T (spread (F := F) (posAt R i t ht)) (keyTile (blkAt X1 t ht)) g hg a'⌝ ∗ (∃ X8, ⌜Agree G (D8 t (g + 1) 0) X8⌝ ∗ own c arg8 X8) ∗ own c arg9 T)) := by
  unfold group
  iintro ⟨%ha, ⟨%X8, %h8, H8⟩, H9⟩
  subst ha
  iapply (wp_seq c E)
  iapply (lookup_spec c E arg9 0 (8 * g) _ _ _ T)
  isplitl [H9]
  · iexact H9
  iintro H9
  iapply (wp_seq c E)
  iapply (lookup_spec c E arg9 1 (8 * g) _ _ _ T)
  isplitl [H9]
  · iexact H9
  iintro H9
  iapply (wp_seq c E)
  iapply (lookup_spec c E arg9 2 (8 * g) _ _ _ T)
  isplitl [H9]
  · iexact H9
  iintro H9
  iapply (wp_seq c E)
  iapply (lookup_spec c E arg9 3 (8 * g) _ _ _ T)
  isplitl [H9]
  · iexact H9
  iintro H9
  iapply (wp_seq c E)
  iapply (half_spec c E arg8 t g 0 ht hg (by decide) _ _ _ _ G X8 (hG t ht g hg 0 (by decide)).1 (hG t ht g hg 0 (by decide)).2 h8)
  isplitl [H8]
  · iexact H8
  iintro %X8' %h8' H8
  iapply (wp_seq c E)
  iapply (half_spec c E arg8 t g 1 ht hg (by decide) _ _ _ _ G X8' (hG t ht g hg 1 (by decide)).1 (hG t ht g hg 1 (by decide)).2 h8')
  isplitl [H8]
  · iexact H8
  iintro %X8'' %h8'' H8
  iapply (wp_val c E)
  isplitr
  · ipureintro; rfl
  isplitl [H8]
  · iexists X8''
    isplitr
    · ipureintro
      refine h8''.mono fun y hy => ?_
      have b1 : (y 1).val < 128 := (y 1).isLt
      unfold D8 at hy ⊢
      omega
    · iexact H8
  · iexact H9

/-- Contents that agree with `G` everywhere are `G`. -/
theorem Agree.all {s : Shape} {e : EltTy} {G : s.Idx → Elt F e} {D : s.Idx → Prop} {X : s.Idx → Elt F e} (h : Agree G D X) (hD : ∀ y, D y) : X = G :=
  funext fun y => h y (hD y)

theorem tile_spec (c : Dev nD) (E : Set ℕ) (i : grid0.Coords) (arg1 arg2 : Memref sig .tc .vmem S1x2048x128 .bf16)
    (arg8 : Memref sig .tc .vmem S16x128x128 .f32) (arg9 : Memref sig .tc .vmem S4x32x128 .f32) (arg10 : Memref sig .tc .vmem S8x1x2048 .i32)
    (X1 X2 : S1x2048x128.Idx → Elt F .bf16) (T : S4x32x128.Idx → Elt F .f32) (R : S8x1x2048.Idx → Elt F .i32)
    (G : S16x128x128.Idx → Elt F .f32) (hG : IsRot X1 T R i G) (t : ℕ) (ht : t < 16) (a : Acc F) :
    iprop(⌜∀ h, a = iter 16 (tileAcc X1 X2 T R i) acc0 t h⌝ ∗ own c arg1 X1 ∗ own c arg2 X2 ∗ (∃ X8, ⌜Agree G (D8 t 0 0) X8⌝ ∗ own c arg8 X8) ∗ own c arg9 T ∗ own c arg10 R)
      ⊢ WP c E (tile i arg1 arg2 arg8 arg9 arg10 t ht a)
        (fun b => iprop(⌜∀ h, b = iter 16 (tileAcc X1 X2 T R i) acc0 (t + 1) h⌝ ∗ own c arg1 X1 ∗ own c arg2 X2 ∗ (∃ X8, ⌜Agree G (D8 (t + 1) 0 0) X8⌝ ∗ own c arg8 X8) ∗ own c arg9 T ∗ own c arg10 R)) := by
  unfold tile
  iintro ⟨%ha, H1, H2, H8, H9, H10⟩
  obtain rfl := ha (Nat.le_of_lt ht)
  iapply (wp_seq c E)
  iapply (wp_ld c E R)
  isplitl [H10]
  · iexact H10
  iintro %p %hp H10
  obtain rfl : p = posAt R i t ht := hp
  iapply (wp_seq c E)
  iapply (wp_ld c E X1)
  isplitl [H1]
  · iexact H1
  iintro %x %hx H1
  obtain rfl : x = blkAt X1 t ht := hx
  iapply (wp_seq c E)
  iapply (wp_then c E (wp_steps c E 4 (group arg8 arg9 t ht (spread (F := F) (posAt R i t ht)) (keyTile (blkAt X1 t ht)))
    (fun n b => iprop(⌜∀ h, b = iter 4 (groupAcc T (spread (F := F) (posAt R i t ht)) (keyTile (blkAt X1 t ht))) (iter 16 (tileAcc X1 X2 T R i) acc0 t (Nat.le_of_lt ht)).1 n h⌝
      ∗ (∃ X8, ⌜Agree G (D8 t n 0) X8⌝ ∗ own c arg8 X8) ∗ own c arg9 T)) ?_ _ 4 le_rfl))
  · intro n hn b
    iintro ⟨%hb, H8, H9⟩
    iapply (wp_then c E (group_spec c E arg8 arg9 t ht X1 T R i G hG n hn b _))
    isplitl [H8 H9]
    · isplitr
      · ipureintro; exact hb (Nat.le_of_lt hn)
      isplitl [H8]
      · iexact H8
      · iexact H9
    iintro %b' ⟨%hb', H8, H9⟩
    isplitr
    · ipureintro; intro h; exact hb'
    isplitl [H8]
    · iexact H8
    · iexact H9
  isplitl [H8 H9]
  · isplitr
    · ipureintro; intro h; rfl
    isplitl [H8]
    · iexact H8
    · iexact H9
  iintro %k ⟨%hk, ⟨%X8, %h8, H8⟩, H9⟩
  iapply (wp_seq c E)
  iapply (wp_ld c E X2)
  isplitl [H2]
  · iexact H2
  iintro %v %hv H2
  obtain rfl : v = blkAt X2 t ht := hv
  iapply (wp_val c E)
  isplitr
  · ipureintro; intro h; rw [hk le_rfl]; rfl
  isplitl [H1]
  · iexact H1
  isplitl [H2]
  · iexact H2
  isplitl [H8]
  · iexists X8
    isplitr
    · ipureintro
      refine h8.mono fun y hy => ?_
      have b1 : (y 1).val < 128 := (y 1).isLt
      unfold D8 at hy ⊢
      omega
    · iexact H8
  isplitl [H9]
  · iexact H9
  · iexact H10

/-! ## The scales -/

/-- The contents of a block of scales after one lane of both rows is replaced. -/
def Lane (b : BitVec 32) (s0 s1 : FVec F S1x1 .f32) (X X' : S2x8.Idx → Elt F .f32) : Prop :=
  (∀ j, X' ((Rect.unit (s := S2x8) ![0, 0] S1x8.size (inbScale 0 (by decide))).emb j) = laneSet b s0 (fun j => X ((Rect.unit (s := S2x8) ![0, 0] S1x8.size (inbScale 0 (by decide))).emb j)) j)
  ∧ ∀ j, X' ((Rect.unit (s := S2x8) ![1, 0] S1x8.size (inbScale 1 (by decide))).emb j) = laneSet b s1 (fun j => X ((Rect.unit (s := S2x8) ![1, 0] S1x8.size (inbScale 1 (by decide))).emb j)) j

theorem putScale_spec (c : Dev nD) (E : Set ℕ) (arg : Memref sig .tc .vmem S2x8 .f32) (b : BitVec 32) (h : ℕ) (hh : h < 2) (s : FVec F S1x1 .f32)
    (X : S2x8.Idx → Elt F .f32) (Q : PUnit → sProp 𝕄) :
    iprop(own c arg X ∗ (∀ X', ⌜(∀ j, X' ((Rect.unit (s := S2x8) ![h, 0] S1x8.size (inbScale h hh)).emb j) = laneSet b s (fun j => X ((Rect.unit (s := S2x8) ![h, 0] S1x8.size (inbScale h hh)).emb j)) j)
        ∧ ∀ z, z ∉ (Rect.unit (s := S2x8) ![h, 0] S1x8.size (inbScale h hh)).set → X' z = X z⌝ -∗ own c arg X' -∗ Q ⟨⟩))
      ⊢ WP c E (putScale arg b h hh s) Q := by
  unfold putScale
  refine BIBase.Entails.trans ?_ (wp_seq c E _ _ _)
  iintro ⟨H, Hk⟩
  iapply (wp_ld c E X)
  isplitl [H]
  · iexact H
  iintro %v %hv H
  subst hv
  iapply (wp_seq c E)
  iapply (wp_ld c E X)
  isplitl [H]
  · iexact H
  iintro %v' %hv' H
  iapply (wp_st c E X)
  isplitl [H]
  · iexact H
  iexact Hk

/-- Both rows' stores make the lane's replacement. -/
theorem Lane.of_two {b : BitVec 32} {s0 s1 : FVec F S1x1 .f32} {X X' X'' : S2x8.Idx → Elt F .f32}
    (h0 : (∀ j, X' ((Rect.unit (s := S2x8) ![0, 0] S1x8.size (inbScale 0 (by decide))).emb j) = laneSet b s0 (fun j => X ((Rect.unit (s := S2x8) ![0, 0] S1x8.size (inbScale 0 (by decide))).emb j)) j)
        ∧ ∀ z, z ∉ (Rect.unit (s := S2x8) ![0, 0] S1x8.size (inbScale 0 (by decide))).set → X' z = X z)
    (h1 : (∀ j, X'' ((Rect.unit (s := S2x8) ![1, 0] S1x8.size (inbScale 1 (by decide))).emb j) = laneSet b s1 (fun j => X' ((Rect.unit (s := S2x8) ![1, 0] S1x8.size (inbScale 1 (by decide))).emb j)) j)
        ∧ ∀ z, z ∉ (Rect.unit (s := S2x8) ![1, 0] S1x8.size (inbScale 1 (by decide))).set → X'' z = X' z) : Lane b s0 s1 X X'' := by
  have n01 : ∀ j, ((Rect.unit (s := S2x8) ![0, 0] S1x8.size (inbScale 0 (by decide))).emb j) ∉ (Rect.unit (s := S2x8) ![1, 0] S1x8.size (inbScale 1 (by decide))).set := by
    intro j hj
    have a := (Rect.mem_set_unit.mp hj 0).1
    have b : (j 0).val < 1 := (j 0).isLt
    have a' : 1 ≤ 0 + 1 * (j 0).val := a
    omega
  have n10 : ∀ j, ((Rect.unit (s := S2x8) ![1, 0] S1x8.size (inbScale 1 (by decide))).emb j) ∉ (Rect.unit (s := S2x8) ![0, 0] S1x8.size (inbScale 0 (by decide))).set := by
    intro j hj
    have a := (Rect.mem_set_unit.mp hj 0).2
    have a' : 1 + 1 * (j 0).val < 0 + 1 := a
    omega
  refine ⟨fun j => ?_, fun j => ?_⟩
  · rw [h1.2 _ (n01 j), h0.1]
  · rw [h1.1]
    exact congrArg (fun row => laneSet b s1 row j) (funext fun j => h0.2 _ (n10 j))

/-! ## The codes -/

/-- The rotated keys of one head in one tile. -/
def rotAt (G8 : S16x128x128.Idx → Elt F .f32) (t h : ℕ) (ht : t < 16) (hh : h < 2) : Vec F S1x64x128 .f32 :=
  fun j => G8 ((Rect.unit (s := S16x128x128) ![t, 64 * h, 0] S1x64x128.size (inb64 t (64 * h) ht (by omega))).emb j)

/-- What it is to be the key codes of a step, from the rotated keys and the heads' inverse scales. -/
def IsCodeK (G8 : S16x128x128.Idx → Elt F .f32) (ik : ℕ → FVec F S1x1 .f32) (G : S1x128x2048.Idx → Elt F .fp8e4m3) : Prop :=
  ∀ t (ht : t < 16) h (hh : h < 2) j, G ((Rect.unit (s := S1x128x2048) ![0, 64 * h, 128 * t] S1x64x128.size (inbCode (64 * h) t (by omega) ht)).emb j) = codeK (rotAt G8 t h ht hh) (ik h) j

/-- What it is to be the value codes of a step, from the values and the heads' inverse scales. -/
def IsCodeV (X2 : S1x2048x128.Idx → Elt F .bf16) (iv : ℕ → FVec F S1x1 .bf16) (G : S1x128x2048.Idx → Elt F .fp8e4m3) : Prop :=
  ∀ t (ht : t < 16) h (hh : h < 2) j, G ((Rect.unit (s := S1x128x2048) ![0, 64 * h, 128 * t] S1x64x128.size (inbCode (64 * h) t (by omega) ht)).emb j)
    = codeV (extractStridedSlice S64x128 ![64 * h, 0] (valTile (blkAt X2 t ht)) (slice64 (64 * h) (by omega))) (iv h) j

/-- The codes written before head `h` of tile `t`. -/
def D4 (t h : ℕ) (y : S1x128x2048.Idx) : Prop := (y 2).val / 128 < t ∨ ((y 2).val / 128 = t ∧ (y 1).val / 64 < h)

theorem putCode_spec (c : Dev nD) (E : Set ℕ) (arg : Memref sig .tc .vmem S1x128x2048 .fp8e4m3) (harg : arg.IsWhole) (h t : ℕ) (hh : h < 2) (ht : t < 16)
    (w : FVec F S1x64x128 .fp8e4m3) (G X : S1x128x2048.Idx → Elt F .fp8e4m3)
    (hw : ∀ j, G ((Rect.unit (s := S1x128x2048) ![0, 64 * h, 128 * t] S1x64x128.size (inbCode (64 * h) t (by omega) ht)).emb j) = w j)
    (hX : Agree G (D4 t h) X) (Q : PUnit → sProp 𝕄) :
    iprop(own c arg X ∗ (∀ X', ⌜Agree G (D4 t (h + 1)) X'⌝ -∗ own c arg X' -∗ Q ⟨⟩)) ⊢ WP c E (putCode arg harg h t hh ht w) Q := by
  unfold putCode
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iintro %X' %hX' H
  iapply Hk $$ %X' [] [H]
  · ipureintro
    refine Agree.put (r := Rect.unit (s := S1x128x2048) ![0, 64 * h, 128 * t] S1x64x128.size (inbCode (64 * h) t (by omega) ht)) hX hX' hw fun y hy => ?_
    have b0 : (y 0).val < 1 := (y 0).isLt
    have b1 : (y 1).val < 128 := (y 1).isLt
    have b2 : (y 2).val < 2048 := (y 2).isLt
    unfold D4 at hy ⊢
    by_cases hc : (y 2).val / 128 = t ∧ (y 1).val / 64 = h
    · left
      rw [Rect.mem_set_unit]
      intro a
      fin_cases a
      · show 0 ≤ (y 0).val ∧ (y 0).val < 0 + 1; omega
      · show 64 * h ≤ (y 1).val ∧ (y 1).val < 64 * h + 64; omega
      · show 128 * t ≤ (y 2).val ∧ (y 2).val < 128 * t + 128; omega
    · right; omega
  · iexact H

theorem codeHead_spec (c : Dev nD) (E : Set ℕ) (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (h t : ℕ) (hh : h < 2) (ht : t < 16) (X2 : S1x2048x128.Idx → Elt F .bf16)
    (ik : ℕ → FVec F S1x1 .f32) (iv : ℕ → FVec F S1x1 .bf16) (G8 : S16x128x128.Idx → Elt F .f32) (G4 G6 X4 X6 : S1x128x2048.Idx → Elt F .fp8e4m3)
    (h4 : IsCodeK G8 ik G4) (h6 : IsCodeV X2 iv G6) (hX4 : Agree G4 (D4 t h) X4) (hX6 : Agree G6 (D4 t h) X6) (Q : PUnit → sProp 𝕄) :
    iprop(own c arg8 G8 ∗ own c arg4 X4 ∗ own c arg6 X6 ∗ (∀ X4' X6', ⌜Agree G4 (D4 t (h + 1)) X4' ∧ Agree G6 (D4 t (h + 1)) X6'⌝ -∗ own c arg8 G8 -∗ own c arg4 X4' -∗ own c arg6 X6' -∗ Q ⟨⟩))
      ⊢ WP c E (codeHead arg4 harg4 arg6 harg6 arg8 h t hh ht (valTile (blkAt X2 t ht)) (ik h) (iv h)) Q := by
  unfold codeHead
  refine BIBase.Entails.trans ?_ (wp_seq c E _ _ _)
  iintro ⟨H8, H4, H6, Hk⟩
  iapply (wp_ld c E G8)
  isplitl [H8]
  · iexact H8
  iintro %x %hx H8
  obtain rfl : x = rotAt G8 t h ht hh := hx
  iapply (wp_seq c E)
  iapply (putCode_spec c E arg4 harg4 h t hh ht _ G4 X4 (h4 t ht h hh) hX4)
  isplitl [H4]
  · iexact H4
  iintro %X4' %h4' H4
  iapply (putCode_spec c E arg6 harg6 h t hh ht _ G6 X6 (h6 t ht h hh) hX6)
  isplitl [H6]
  · iexact H6
  iintro %X6' %h6' H6
  iapply Hk $$ %X4' %X6' [] [H8] [H4] [H6]
  · ipureintro; exact ⟨h4', h6'⟩
  · iexact H8
  · iexact H4
  · iexact H6

theorem codeTile_spec (c : Dev nD) (E : Set ℕ) (arg2 : Memref sig .tc .vmem S1x2048x128 .bf16) (arg4 : Memref sig .tc .vmem S1x128x2048 .fp8e4m3) (harg4 : arg4.IsWhole)
    (arg6 : Memref sig .tc .vmem S1x128x2048 .fp8e4m3) (harg6 : arg6.IsWhole)
    (arg8 : Memref sig .tc .vmem S16x128x128 .f32) (X2 : S1x2048x128.Idx → Elt F .bf16)
    (ik : ℕ → FVec F S1x1 .f32) (iv : ℕ → FVec F S1x1 .bf16) (G8 : S16x128x128.Idx → Elt F .f32) (G4 G6 : S1x128x2048.Idx → Elt F .fp8e4m3)
    (h4 : IsCodeK G8 ik G4) (h6 : IsCodeV X2 iv G6) (t : ℕ) (ht : t < 16) (u : PUnit) :
    iprop(own c arg2 X2 ∗ own c arg8 G8 ∗ (∃ X4, ⌜Agree G4 (D4 t 0) X4⌝ ∗ own c arg4 X4) ∗ (∃ X6, ⌜Agree G6 (D4 t 0) X6⌝ ∗ own c arg6 X6))
      ⊢ WP c E (codeTile arg2 arg4 harg4 arg6 harg6 arg8 (ik 0) (ik 1) (iv 0) (iv 1) t ht u)
        (fun _ => iprop(own c arg2 X2 ∗ own c arg8 G8 ∗ (∃ X4, ⌜Agree G4 (D4 (t + 1) 0) X4⌝ ∗ own c arg4 X4) ∗ (∃ X6, ⌜Agree G6 (D4 (t + 1) 0) X6⌝ ∗ own c arg6 X6))) := by
  unfold codeTile
  iintro ⟨H2, H8, ⟨%X4, %hX4, H4⟩, ⟨%X6, %hX6, H6⟩⟩
  iapply (wp_seq c E)
  iapply (wp_ld c E X2)
  isplitl [H2]
  · iexact H2
  iintro %v %hv H2
  obtain rfl : v = blkAt X2 t ht := hv
  iapply (wp_seq c E)
  iapply (codeHead_spec c E arg4 harg4 arg6 harg6 arg8 0 t _ ht X2 ik iv G8 G4 G6 X4 X6 h4 h6 hX4 hX6)
  isplitl [H8]
  · iexact H8
  isplitl [H4]
  · iexact H4
  isplitl [H6]
  · iexact H6
  iintro %X4' %X6' %hX' H8 H4 H6
  iapply (codeHead_spec c E arg4 harg4 arg6 harg6 arg8 1 t _ ht X2 ik iv G8 G4 G6 X4' X6' h4 h6 hX'.1 hX'.2)
  isplitl [H8]
  · iexact H8
  isplitl [H4]
  · iexact H4
  isplitl [H6]
  · iexact H6
  iintro %X4'' %X6'' %hX'' H8 H4 H6
  have hm : ∀ y, D4 (t + 1) 0 y → D4 t 2 y := by
    intro y hy
    have b1 : (y 1).val < 128 := (y 1).isLt
    unfold D4 at hy ⊢
    omega
  isplitl [H2]
  · iexact H2
  isplitl [H8]
  · iexact H8
  isplitl [H4]
  · iexists X4''
    isplitr
    · ipureintro; exact hX''.1.mono hm
    · iexact H4
  · iexists X6''
    isplitr
    · ipureintro; exact hX''.2.mono hm
    · iexact H6

/-! ## A step -/

/-- The largest key entry of each head. -/
def kMax (a : Acc F) (h : ℕ) : FVec F S1x1 .f32 := maxK (if h = 0 then a.1.1 else a.1.2)
/-- The largest value entry of each head. -/
def vMax (a : Acc F) (h : ℕ) : FVec F S1x1 .f32 :=
  maxV (if h = 0 then extractStridedSlice S1x64 ![0, 0] (colMax a.2) slices_S1x128_o0_0_S1x64 else extractStridedSlice S1x64 ![0, 64] (colMax a.2) slices_S1x128_o0_64_S1x64)
/-- The inverse scales of the keys. -/
def ikOf (a : Acc F) (h : ℕ) : FVec F S1x1 .f32 := invOf (kMax a h)
/-- The inverse scales of the values. -/
def ivOf (a : Acc F) (h : ℕ) : FVec F S1x1 .bf16 := truncf .bf16 (invOf (vMax a h)) bitsLt_bf16_f32

theorem iter_zero {α : Type} (N : ℕ) (f : (n : ℕ) → n < N → α → α) (a : α) (h : 0 ≤ N) : iter N f a 0 h = a := rfl

attribute [local irreducible] iter steps tile codeTile

theorem rest_spec (c : Dev nD) (E : Set ℕ) (i : grid0.Coords) (arg1 : Memref sig .tc .vmem S1x2048x128 .bf16) (arg2 : Memref sig .tc .vmem S1x2048x128 .bf16)
    (arg4 : Memref sig .tc .vmem S1x128x2048 .fp8e4m3) (harg4 : arg4.IsWhole) (arg5 : Memref sig .tc .vmem S2x8 .f32)
    (arg6 : Memref sig .tc .vmem S1x128x2048 .fp8e4m3) (harg6 : arg6.IsWhole) (arg7 : Memref sig .tc .vmem S2x8 .f32)
    (arg8 : Memref sig .tc .vmem S16x128x128 .f32) (arg9 : Memref sig .tc .vmem S4x32x128 .f32) (arg10 : Memref sig .tc .vmem S8x1x2048 .i32)
    (X1 X2 : S1x2048x128.Idx → Elt F .bf16) (T : S4x32x128.Idx → Elt F .f32) (R : S8x1x2048.Idx → Elt F .i32)
    (X4 X6 : S1x128x2048.Idx → Elt F .fp8e4m3) (X5 X7 : S2x8.Idx → Elt F .f32) (X8 : S16x128x128.Idx → Elt F .f32)
    (G8 : S16x128x128.Idx → Elt F .f32) (G4 G6 : S1x128x2048.Idx → Elt F .fp8e4m3)
    (h8 : IsRot X1 T R i G8) (h4 : IsCodeK G8 (ikOf (accAll X1 X2 T R i)) G4) (h6 : IsCodeV X2 (ivOf (accAll X1 X2 T R i)) G6) :
    iprop(own c arg1 X1 ∗ own c arg2 X2 ∗ own c arg4 X4 ∗ own c arg5 X5 ∗ own c arg6 X6 ∗ own c arg7 X7 ∗ own c arg8 X8 ∗ own c arg9 T ∗ own c arg10 R)
      ⊢ WP c E (rest i arg1 arg2 arg4 harg4 arg5 arg6 harg6 arg7 arg8 arg9 arg10)
        (fun _ => iprop(own c arg1 X1 ∗ own c arg2 X2 ∗ own c arg4 G4
          ∗ (∃ X5', ⌜Lane (BitVec.ofNat 32 (i 0).val) (scaleOf (kMax (accAll X1 X2 T R i) 0)) (scaleOf (kMax (accAll X1 X2 T R i) 1)) X5 X5'⌝ ∗ own c arg5 X5')
          ∗ own c arg6 G6
          ∗ (∃ X7', ⌜Lane (BitVec.ofNat 32 (i 0).val) (scaleOf (vMax (accAll X1 X2 T R i) 0)) (scaleOf (vMax (accAll X1 X2 T R i) 1)) X7 X7'⌝ ∗ own c arg7 X7')
          ∗ own c arg8 G8 ∗ own c arg9 T ∗ own c arg10 R)) := by
  have hs : iprop(⌜∀ h, (acc0 : Acc F) = iter 16 (tileAcc X1 X2 T R i) acc0 0 h⌝ ∗ own c arg1 X1 ∗ own c arg2 X2 ∗ (∃ X8, ⌜Agree G8 (D8 0 0 0) X8⌝ ∗ own c arg8 X8) ∗ own c arg9 T ∗ own c arg10 R)
      ⊢ WP c E (steps 16 (tile i arg1 arg2 arg8 arg9 arg10) acc0 16 le_rfl)
        (fun a => iprop(⌜∀ h, a = iter 16 (tileAcc X1 X2 T R i) acc0 16 h⌝ ∗ own c arg1 X1 ∗ own c arg2 X2 ∗ (∃ X8, ⌜Agree G8 (D8 16 0 0) X8⌝ ∗ own c arg8 X8) ∗ own c arg9 T ∗ own c arg10 R)) := by
    refine wp_steps c E 16 (tile i arg1 arg2 arg8 arg9 arg10)
      (fun t a => iprop(⌜∀ h, a = iter 16 (tileAcc X1 X2 T R i) acc0 t h⌝ ∗ own c arg1 X1 ∗ own c arg2 X2 ∗ (∃ X8, ⌜Agree G8 (D8 t 0 0) X8⌝ ∗ own c arg8 X8) ∗ own c arg9 T ∗ own c arg10 R)) ?_ acc0 16 le_rfl
    intro n hn a
    exact tile_spec c E i arg1 arg2 arg8 arg9 arg10 X1 X2 T R G8 h8 n hn a
  unfold rest
  iintro ⟨H1, H2, H4, H5, H6, H7, H8, H9, H10⟩
  iapply (wp_seq c E)
  iapply (wp_then c E hs)
  isplitl [H1 H2 H8 H9 H10]
  · isplitr
    · ipureintro; intro h; exact (iter_zero _ _ _ _).symm
    isplitl [H1]
    · iexact H1
    isplitl [H2]
    · iexact H2
    isplitl [H8]
    · iexists X8
      isplitr
      · ipureintro; intro y hy; exfalso; unfold D8 at hy; omega
      · iexact H8
    isplitl [H9]
    · iexact H9
    · iexact H10
  iintro %a ⟨%ha, H1, H2, ⟨%X8', %hX8, H8⟩, H9, H10⟩
  obtain rfl : a = accAll X1 X2 T R i := ha le_rfl
  obtain rfl : X8' = G8 := hX8.all fun y => Or.inl (show (y 0).val < 16 from (y 0).isLt)
  iapply (wp_seq c E)
  iapply (putScale_spec c E arg5 _ 0 _ _ X5)
  isplitl [H5]
  · iexact H5
  iintro %Y5 %hY5 H5
  iapply (wp_seq c E)
  iapply (putScale_spec c E arg7 _ 0 _ _ X7)
  isplitl [H7]
  · iexact H7
  iintro %Y7 %hY7 H7
  iapply (wp_seq c E)
  iapply (putScale_spec c E arg5 _ 1 _ _ Y5)
  isplitl [H5]
  · iexact H5
  iintro %Z5 %hZ5 H5
  iapply (wp_seq c E)
  iapply (putScale_spec c E arg7 _ 1 _ _ Y7)
  isplitl [H7]
  · iexact H7
  iintro %Z7 %hZ7 H7
  iapply (wp_then c E (wp_steps c E 16 (codeTile arg2 arg4 harg4 arg6 harg6 arg8 (ikOf (accAll X1 X2 T R i) 0) (ikOf (accAll X1 X2 T R i) 1) (ivOf (accAll X1 X2 T R i) 0) (ivOf (accAll X1 X2 T R i) 1))
    (fun t _ => iprop(own c arg2 X2 ∗ own c arg8 X8' ∗ (∃ X4, ⌜Agree G4 (D4 t 0) X4⌝ ∗ own c arg4 X4) ∗ (∃ X6, ⌜Agree G6 (D4 t 0) X6⌝ ∗ own c arg6 X6)))
    (fun n hn u => codeTile_spec c E arg2 arg4 harg4 arg6 harg6 arg8 X2 _ _ X8' G4 G6 h4 h6 n hn u) ⟨⟩ 16 le_rfl))
  isplitl [H2 H8 H4 H6]
  · isplitl [H2]
    · iexact H2
    isplitl [H8]
    · iexact H8
    isplitl [H4]
    · iexists X4
      isplitr
      · ipureintro; intro y hy; unfold D4 at hy; omega
      · iexact H4
    · iexists X6
      isplitr
      · ipureintro; intro y hy; unfold D4 at hy; omega
      · iexact H6
  iintro %_u ⟨H2, H8, ⟨%Y4, %hY4, H4⟩, ⟨%Y6, %hY6, H6⟩⟩
  have hall : ∀ y : S1x128x2048.Idx, D4 16 0 y := fun y => Or.inl (by have : (y 2).val < 2048 := (y 2).isLt; omega)
  obtain rfl : Y4 = G4 := hY4.all hall
  obtain rfl : Y6 = G6 := hY6.all hall
  isplitl [H1]
  · iexact H1
  isplitl [H2]
  · iexact H2
  isplitl [H4]
  · iexact H4
  isplitl [H5]
  · iexists Z5
    isplitr
    · ipureintro; exact Lane.of_two hY5 hZ5
    · iexact H5
  isplitl [H6]
  · iexact H6
  isplitl [H7]
  · iexists Z7
    isplitr
    · ipureintro; exact Lane.of_two hY7 hZ7
    · iexact H7
  isplitl [H8]
  · iexact H8
  isplitl [H9]
  · iexact H9
  · iexact H10

/-! ## The tables and the positions -/

/-- What it is to be the four tables. -/
def IsTab (G : S4x32x128.Idx → Elt F .f32) : Prop :=
  ∀ (k : Fin 4) j, G ((Rect.unit (s := S4x32x128) ![k.val, 0, 0] S1x32x128.size (inbTabs k.val k.isLt)).emb j) = shapeCast S1x32x128 (table (F := F) k) shapeCasts_S32x128_S1x32x128 j

/-- What it is to be the positions with an axis added. -/
def IsRows (X3 : S8x2048.Idx → Elt F .i32) (G : S8x1x2048.Idx → Elt F .i32) : Prop :=
  ∀ r (hr : r < 8) j, G ((Rect.unit (s := S8x1x2048) ![r, 0, 0] S1x1x2048.size (inbRows r hr)).emb j)
    = shapeCast S1x1x2048 (fun j => X3 ((Rect.unit (s := S8x2048) ![r, 0] S1x2048.size (inbPos r hr)).emb j) : Vec F S1x2048 .i32) shapeCasts_S1x2048_S1x1x2048 j

theorem putTab_spec (c : Dev nD) (E : Set ℕ) (arg9 : Memref sig .tc .vmem S4x32x128 .f32) (k : ℕ) (hk : k < 4) (y : FVec F S32x128 .f32)
    (G X : S4x32x128.Idx → Elt F .f32)
    (hG : ∀ j, G ((Rect.unit (s := S4x32x128) ![k, 0, 0] S1x32x128.size (inbTabs k hk)).emb j) = shapeCast S1x32x128 y shapeCasts_S32x128_S1x32x128 j)
    (hX : Agree G (fun y => (y 0).val < k) X) (Q : PUnit → sProp 𝕄) :
    iprop(own c arg9 X ∗ (∀ X', ⌜Agree G (fun y => (y 0).val < k + 1) X'⌝ -∗ own c arg9 X' -∗ Q ⟨⟩)) ⊢ WP c E (putTab arg9 k hk y) Q := by
  unfold putTab
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iintro %X' %hX' H
  iapply Hk $$ %X' [] [H]
  · ipureintro
    refine Agree.put (r := Rect.unit (s := S4x32x128) ![k, 0, 0] S1x32x128.size (inbTabs k hk)) hX hX' hG fun y hy => ?_
    have b1 : (y 1).val < 32 := (y 1).isLt
    have b2 : (y 2).val < 128 := (y 2).isLt
    by_cases hc : (y 0).val = k
    · left
      rw [Rect.mem_set_unit]
      intro a
      fin_cases a
      · show k ≤ (y 0).val ∧ (y 0).val < k + 1; omega
      · show 0 ≤ (y 1).val ∧ (y 1).val < 0 + 32; omega
      · show 0 ≤ (y 2).val ∧ (y 2).val < 0 + 128; omega
    · right; dsimp only at hy ⊢; omega
  · iexact H

theorem putRow_spec (c : Dev nD) (E : Set ℕ) (arg3 : Memref sig .tc .vmem S8x2048 .i32) (arg10 : Memref sig .tc .vmem S8x1x2048 .i32)
    (X3 : S8x2048.Idx → Elt F .i32) (G : S8x1x2048.Idx → Elt F .i32) (hG : IsRows X3 G) (r : ℕ) (hr : r < 8) (u : PUnit) :
    iprop(own c arg3 X3 ∗ ∃ X, ⌜Agree G (fun y => (y 0).val < r) X⌝ ∗ own c arg10 X) ⊢ WP c E (putRow arg3 arg10 r hr u)
      (fun _ => iprop(own c arg3 X3 ∗ ∃ X, ⌜Agree G (fun y => (y 0).val < r + 1) X⌝ ∗ own c arg10 X)) := by
  unfold putRow
  refine BIBase.Entails.trans ?_ (wp_seq c E _ _ _)
  iintro ⟨H3, ⟨%X, %hX, H⟩⟩
  iapply (wp_ld c E X3)
  isplitl [H3]
  · iexact H3
  iintro %p %hp H3
  subst hp
  iapply (wp_seq c E)
  iapply (wp_ld c E X)
  isplitl [H]
  · iexact H
  iintro %v %hv H
  iapply (wp_st c E X)
  isplitl [H]
  · iexact H
  iintro %X' %hX' H
  isplitl [H3]
  · iexact H3
  iexists X'
  isplitr
  · ipureintro
    refine Agree.put (r := Rect.unit (s := S8x1x2048) ![r, 0, 0] S1x1x2048.size (inbRows r hr)) hX hX' (hG r hr) fun y hy => ?_
    have b1 : (y 1).val < 1 := (y 1).isLt
    have b2 : (y 2).val < 2048 := (y 2).isLt
    by_cases hc : (y 0).val = r
    · left
      rw [Rect.mem_set_unit]
      intro a
      fin_cases a
      · show r ≤ (y 0).val ∧ (y 0).val < r + 1; omega
      · show 0 ≤ (y 1).val ∧ (y 1).val < 0 + 1; omega
      · show 0 ≤ (y 2).val ∧ (y 2).val < 0 + 2048; omega
    · right; dsimp only at hy ⊢; omega
  · iexact H

theorem setup_spec (c : Dev nD) (E : Set ℕ) (arg3 : Memref sig .tc .vmem S8x2048 .i32) (arg9 : Memref sig .tc .vmem S4x32x128 .f32) (arg10 : Memref sig .tc .vmem S8x1x2048 .i32)
    (X3 : S8x2048.Idx → Elt F .i32) (X9 : S4x32x128.Idx → Elt F .f32) (X10 : S8x1x2048.Idx → Elt F .i32)
    (T : S4x32x128.Idx → Elt F .f32) (hT : IsTab T) (R : S8x1x2048.Idx → Elt F .i32) (hR : IsRows X3 R) :
    iprop(own c arg3 X3 ∗ own c arg9 X9 ∗ own c arg10 X10) ⊢ WP c E (setup arg3 arg9 arg10) (fun _ => iprop(own c arg3 X3 ∗ own c arg9 T ∗ own c arg10 R)) := by
  have ha : ∀ j, T ((Rect.unit (s := S4x32x128) ![0, 0, 0] S1x32x128.size (inbTabs 0 (by decide))).emb j) = shapeCast S1x32x128 (cos angleHi : FVec F S32x128 .f32) shapeCasts_S32x128_S1x32x128 j := hT 0
  have hb : ∀ j, T ((Rect.unit (s := S4x32x128) ![1, 0, 0] S1x32x128.size (inbTabs 1 (by decide))).emb j) = shapeCast S1x32x128 (sin angleHi : FVec F S32x128 .f32) shapeCasts_S32x128_S1x32x128 j := hT 1
  have hc : ∀ j, T ((Rect.unit (s := S4x32x128) ![2, 0, 0] S1x32x128.size (inbTabs 2 (by decide))).emb j) = shapeCast S1x32x128 (cos angleLo : FVec F S32x128 .f32) shapeCasts_S32x128_S1x32x128 j := hT 2
  have hd : ∀ j, T ((Rect.unit (s := S4x32x128) ![3, 0, 0] S1x32x128.size (inbTabs 3 (by decide))).emb j) = shapeCast S1x32x128 (sin angleLo : FVec F S32x128 .f32) shapeCasts_S32x128_S1x32x128 j := hT 3
  unfold setup
  iintro ⟨H3, H9, H10⟩
  iapply (wp_seq c E)
  iapply (putTab_spec c E arg9 0 _ (cos angleHi) T X9 ha (fun y hy => absurd hy (Nat.not_lt_zero _)))
  isplitl [H9]
  · iexact H9
  iintro %Y0 %h0 H9
  iapply (wp_seq c E)
  iapply (putTab_spec c E arg9 1 _ (sin angleHi) T Y0 hb h0)
  isplitl [H9]
  · iexact H9
  iintro %Y1 %h1 H9
  iapply (wp_seq c E)
  iapply (putTab_spec c E arg9 2 _ (cos angleLo) T Y1 hc h1)
  isplitl [H9]
  · iexact H9
  iintro %Y2 %h2 H9
  iapply (wp_seq c E)
  iapply (putTab_spec c E arg9 3 _ (sin angleLo) T Y2 hd h2)
  isplitl [H9]
  · iexact H9
  iintro %Y3 %h3 H9
  obtain rfl : Y3 = T := h3.all fun y => (y 0).isLt
  iapply (wp_then c E (wp_steps c E 8 (putRow arg3 arg10) (fun r _ => iprop(own c arg3 X3 ∗ ∃ X, ⌜Agree R (fun y => (y 0).val < r) X⌝ ∗ own c arg10 X))
    (fun n hn u => putRow_spec c E arg3 arg10 X3 R hR n hn u) ⟨⟩ 8 le_rfl))
  isplitl [H3 H10]
  · isplitl [H3]
    · iexact H3
    iexists X10
    isplitr
    · ipureintro; intro y hy; exact absurd hy (Nat.not_lt_zero _)
    · iexact H10
  iintro %_u ⟨H3, ⟨%X, %hX, H10⟩⟩
  obtain rfl : X = R := hX.all fun y => (y 0).isLt
  isplitl [H3]
  · iexact H3
  isplitl [H9]
  · iexact H9
  · iexact H10

end Cert.Kernel.RopeK

end
-- ==== Proof.RopeK.Run.lean ====
/- The pipeline's run: what the buffers hold point by point, the body at each point, the launch and the
   final contents of the four result arrays. -/
module

public import proofs.«01_k».proof.Proof.RopeK.Triple
public import proofs.«01_k».proof.Proof.Gen.Kernel.Frame
public import proofs.«01_k».proof.Proof.Gen.Kernel.Points
public import Idealize.ShloMosaic.Lib.Pipeline.DatRel
public import Idealize.ShloMosaic.Lib.Pipeline.ArrRel
public import Idealize.ShloMosaic.Lib.Claim
public import Idealize.ShloMosaic.Lib.Pointwise
public import Idealize.ShloMosaic.Lib.ValueIdxCore

@[expose] public section

set_option maxRecDepth 16384

noncomputable section

namespace Cert.Kernel.RopeK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## Contents given block by block -/

/-- Disjoint blocks may be given any contents. -/
theorem glue {s : Shape} {V ι : Type} (d : V) (r : ι → Rect s) (f : ∀ a, (r a).shape.Idx → V)
    (h : ∀ a b j k, (r a).emb j = (r b).emb k → a = b) : ∃ G : s.Idx → V, ∀ a j, G ((r a).emb j) = f a j := by
  classical
  refine ⟨fun y => if h : ∃ p : (Σ a, (r a).shape.Idx), (r p.1).emb p.2 = y then f h.choose.1 h.choose.2 else d, fun a j => ?_⟩
  have he : ∃ p : (Σ a, (r a).shape.Idx), (r p.1).emb p.2 = (r a).emb j := ⟨⟨a, j⟩, rfl⟩
  show (if h : ∃ p : (Σ a, (r a).shape.Idx), (r p.1).emb p.2 = (r a).emb j then f h.choose.1 h.choose.2 else d) = f a j
  rw [dif_pos he]
  have hs := he.choose_spec
  generalize he.choose = p at hs ⊢
  obtain ⟨b, k⟩ := p
  have hab : b = a := h b a k j hs
  subst hab
  have hk : k = j := (r b).emb.injective hs
  rw [hk]

theorem exists_tab : ∃ G : S4x32x128.Idx → Elt F .f32, IsTab G := by
  obtain ⟨G, hG⟩ := glue (s := S4x32x128) (Scalar.ofBits .f32 0#32 : Elt F .f32)
    (fun k : Fin 4 => Rect.unit (s := S4x32x128) ![k.val, 0, 0] S1x32x128.size (inbTabs k.val k.isLt))
    (fun k => shapeCast S1x32x128 (table (F := F) k) shapeCasts_S32x128_S1x32x128) (fun a b j k h => by
      have h0 : a.val + 1 * (j 0).val = b.val + 1 * (k 0).val := congrArg (fun i : S4x32x128.Idx => (i 0).val) h
      have hj : (j 0).val < 1 := (j 0).isLt
      have hk : (k 0).val < 1 := (k 0).isLt
      generalize (j 0).val = x at *
      generalize (k 0).val = y at *
      exact Fin.ext (by omega))
  exact ⟨G, hG⟩

theorem exists_rows (X3 : S8x2048.Idx → Elt F .i32) : ∃ G : S8x1x2048.Idx → Elt F .i32, IsRows X3 G := by
  obtain ⟨G, hG⟩ := glue (s := S8x1x2048) (0#32 : Elt F .i32)
    (fun r : Fin 8 => Rect.unit (s := S8x1x2048) ![r.val, 0, 0] S1x1x2048.size (inbRows r.val r.isLt))
    (fun r => shapeCast S1x1x2048 (fun j => X3 ((Rect.unit (s := S8x2048) ![r.val, 0] S1x2048.size (inbPos r.val r.isLt)).emb j) : Vec F S1x2048 .i32) shapeCasts_S1x2048_S1x1x2048)
    (fun a b j k h => by
      have h0 : a.val + 1 * (j 0).val = b.val + 1 * (k 0).val := congrArg (fun i : S8x1x2048.Idx => (i 0).val) h
      have hj : (j 0).val < 1 := (j 0).isLt
      have hk : (k 0).val < 1 := (k 0).isLt
      generalize (j 0).val = x at *
      generalize (k 0).val = y at *
      exact Fin.ext (by omega))
  exact ⟨G, fun r hr j => hG ⟨r, hr⟩ j⟩

theorem exists_rot (X1 : S1x2048x128.Idx → Elt F .bf16) (T : S4x32x128.Idx → Elt F .f32) (R : S8x1x2048.Idx → Elt F .i32) (i : grid0.Coords) :
    ∃ G, IsRot X1 T R i G := by
  obtain ⟨G, hG⟩ := glue (s := S16x128x128) (ι := Fin 16 × Fin 4 × Fin 2 × Fin 2) (Scalar.ofBits .f32 0#32 : Elt F .f32)
    (fun a => Rect.unit (s := S16x128x128) ![a.1.val, 64 * a.2.2.1.val + 32 * a.2.2.2.val + 8 * a.2.1.val, 0] S1x8x128.size
      (inb8 a.1.val (64 * a.2.2.1.val + 32 * a.2.2.2.val + 8 * a.2.1.val) a.1.isLt (by have := a.2.1.isLt; have := a.2.2.1.isLt; have := a.2.2.2.isLt; omega)))
    (fun a => if a.2.2.2 = 0 then
        shapeCast S1x8x128 (out1 (keyTile (blkAt X1 a.1.val a.1.isLt)) a.2.2.1.val a.2.1.val a.2.2.1.isLt a.2.1.isLt (cosG T (spread (F := F) (posAt R i a.1.val a.1.isLt)) a.2.1.val a.2.1.isLt) (sinG T (spread (F := F) (posAt R i a.1.val a.1.isLt)) a.2.1.val a.2.1.isLt)) shapeCasts_S8x128_S1x8x128
      else
        shapeCast S1x8x128 (out2 (keyTile (blkAt X1 a.1.val a.1.isLt)) a.2.2.1.val a.2.1.val a.2.2.1.isLt a.2.1.isLt (cosG T (spread (F := F) (posAt R i a.1.val a.1.isLt)) a.2.1.val a.2.1.isLt) (sinG T (spread (F := F) (posAt R i a.1.val a.1.isLt)) a.2.1.val a.2.1.isLt)) shapeCasts_S8x128_S1x8x128)
    (fun a b j k h => by
      obtain ⟨⟨a1, ha1⟩, ⟨a2, ha2⟩, ⟨a3, ha3⟩, ⟨a4, ha4⟩⟩ := a
      obtain ⟨⟨b1, hb1⟩, ⟨b2, hb2⟩, ⟨b3, hb3⟩, ⟨b4, hb4⟩⟩ := b
      have h0 : a1 + 1 * (j 0).val = b1 + 1 * (k 0).val := congrArg (fun i : S16x128x128.Idx => (i 0).val) h
      have h1 : (64 * a3 + 32 * a4 + 8 * a2) + 1 * (j 1).val = (64 * b3 + 32 * b4 + 8 * b2) + 1 * (k 1).val := congrArg (fun i : S16x128x128.Idx => (i 1).val) h
      have hj : (j 0).val < 1 := (j 0).isLt
      have hk : (k 0).val < 1 := (k 0).isLt
      have hj1 : (j 1).val < 8 := (j 1).isLt
      have hk1 : (k 1).val < 8 := (k 1).isLt
      generalize (j 0).val = x0 at *
      generalize (k 0).val = y0 at *
      generalize (j 1).val = x1 at *
      generalize (k 1).val = y1 at *
      have e1 : a1 = b1 := by omega
      have e3 : a3 = b3 := by omega
      have e4 : a4 = b4 := by omega
      have e2 : a2 = b2 := by omega
      subst e1 e2 e3 e4
      rfl)
  refine ⟨G, fun t ht g hg h hh => ⟨fun j => ?_, fun j => ?_⟩⟩
  · exact hG ⟨⟨t, ht⟩, ⟨g, hg⟩, ⟨h, hh⟩, 0⟩ j
  · exact hG ⟨⟨t, ht⟩, ⟨g, hg⟩, ⟨h, hh⟩, 1⟩ j

theorem exists_code (f : ∀ t (ht : t < 16) h (hh : h < 2), S1x64x128.Idx → Elt F .fp8e4m3) :
    ∃ G : S1x128x2048.Idx → Elt F .fp8e4m3, ∀ t (ht : t < 16) h (hh : h < 2) j,
      G ((Rect.unit (s := S1x128x2048) ![0, 64 * h, 128 * t] S1x64x128.size (inbCode (64 * h) t (by omega) ht)).emb j) = f t ht h hh j := by
  obtain ⟨G, hG⟩ := glue (s := S1x128x2048) (ι := Fin 16 × Fin 2) (f 0 (by decide) 0 (by decide) (fun a => ⟨0, by fin_cases a <;> decide⟩))
    (fun a => Rect.unit (s := S1x128x2048) ![0, 64 * a.2.val, 128 * a.1.val] S1x64x128.size (inbCode (64 * a.2.val) a.1.val (by have := a.2.isLt; omega) a.1.isLt))
    (fun a => f a.1.val a.1.isLt a.2.val a.2.isLt)
    (fun a b j k h => by
      obtain ⟨⟨a1, ha1⟩, ⟨a2, ha2⟩⟩ := a
      obtain ⟨⟨b1, hb1⟩, ⟨b2, hb2⟩⟩ := b
      have h1 : 64 * a2 + 1 * (j 1).val = 64 * b2 + 1 * (k 1).val := congrArg (fun i : S1x128x2048.Idx => (i 1).val) h
      have h2 : 128 * a1 + 1 * (j 2).val = 128 * b1 + 1 * (k 2).val := congrArg (fun i : S1x128x2048.Idx => (i 2).val) h
      have hj1 : (j 1).val < 64 := (j 1).isLt
      have hk1 : (k 1).val < 64 := (k 1).isLt
      have hj2 : (j 2).val < 128 := (j 2).isLt
      have hk2 : (k 2).val < 128 := (k 2).isLt
      generalize (j 2).val = x0 at *
      generalize (k 2).val = y0 at *
      generalize (j 1).val = x1 at *
      generalize (k 1).val = y1 at *
      have e1 : a1 = b1 := by omega
      have e2 : a2 = b2 := by omega
      subst e1 e2
      rfl)
  exact ⟨G, fun t ht h hh j => hG ⟨⟨t, ht⟩, ⟨h, hh⟩⟩ j⟩

/-! ## What the buffers hold -/

variable (m : (ℓ : Loc nD τ sig) → Buf (Elt F) ℓ) (ρ : Dev nD → PrngReg)

/-- The key block, the value block and the positions at one point. -/
abbrev xk (c : Dev nD) (t : Fin cfg0.N) : S1x2048x128.Idx → Elt F .bf16 := iblk m c 0 t
abbrev xv (c : Dev nD) (t : Fin cfg0.N) : S1x2048x128.Idx → Elt F .bf16 := iblk m c 1 t
abbrev xp (c : Dev nD) (t : Fin cfg0.N) : S8x2048.Idx → Elt F .i32 := iblk m c 2 t

/-- The tables as the first point leaves them. -/
def T0 : S4x32x128.Idx → Elt F .f32 := exists_tab.choose
theorem T0_spec : IsTab (T0 (F := F)) := exists_tab.choose_spec
/-- The positions as the first point leaves them. -/
def R0 (c : Dev nD) : S8x1x2048.Idx → Elt F .i32 := (exists_rows (xp m c t0_0)).choose
theorem R0_spec (c : Dev nD) : IsRows (xp m c t0_0) (R0 m c) := (exists_rows (xp m c t0_0)).choose_spec
/-- The running maxima at the end of a point. -/
def accP (c : Dev nD) (t : Fin cfg0.N) : Acc F := accAll (xk m c t) (xv m c t) T0 (R0 m c) (grid0.coords t)
/-- The rotated keys of a point. -/
def G8P (c : Dev nD) (t : Fin cfg0.N) : S16x128x128.Idx → Elt F .f32 := (exists_rot (xk m c t) T0 (R0 m c) (grid0.coords t)).choose
theorem G8P_spec (c : Dev nD) (t : Fin cfg0.N) : IsRot (xk m c t) T0 (R0 m c) (grid0.coords t) (G8P m c t) :=
  (exists_rot (xk m c t) T0 (R0 m c) (grid0.coords t)).choose_spec
theorem exists_G4 (c : Dev nD) (t : Fin cfg0.N) : ∃ G, IsCodeK (G8P m c t) (ikOf (accP m c t)) G :=
  exists_code fun n hn h hh => codeK (rotAt (G8P m c t) n h hn hh) (ikOf (accP m c t) h)
theorem exists_G6 (c : Dev nD) (t : Fin cfg0.N) : ∃ G, IsCodeV (xv m c t) (ivOf (accP m c t)) G :=
  exists_code fun n hn h hh => codeV (extractStridedSlice S64x128 ![64 * h, 0] (valTile (blkAt (xv m c t) n hn)) (slice64 (64 * h) (by omega))) (ivOf (accP m c t) h)
/-- The key codes of a point. -/
def G4P (c : Dev nD) (t : Fin cfg0.N) : S1x128x2048.Idx → Elt F .fp8e4m3 := (exists_G4 m c t).choose
theorem G4P_spec (c : Dev nD) (t : Fin cfg0.N) : IsCodeK (G8P m c t) (ikOf (accP m c t)) (G4P m c t) := (exists_G4 m c t).choose_spec
/-- The value codes of a point. -/
def G6P (c : Dev nD) (t : Fin cfg0.N) : S1x128x2048.Idx → Elt F .fp8e4m3 := (exists_G6 m c t).choose
theorem G6P_spec (c : Dev nD) (t : Fin cfg0.N) : IsCodeV (xv m c t) (ivOf (accP m c t)) (G6P m c t) := (exists_G6 m c t).choose_spec

/-- The key scale and the value scale of one head at one point. -/
def sK (c : Dev nD) (u : Fin cfg0.N) (h : ℕ) : FVec F S1x1 .f32 := scaleOf (kMax (accP m c u) h)
def sV (c : Dev nD) (u : Fin cfg0.N) (h : ℕ) : FVec F S1x1 .f32 := scaleOf (vMax (accP m c u) h)

/-- The lanes of the points below `n` hold those points' scales. -/
def Lanes (s : Fin cfg0.N → ℕ → FVec F S1x1 .f32) (n : ℕ) (X : S2x8.Idx → Elt F .f32) : Prop :=
  ∀ u : Fin cfg0.N, u.val < n → ∀ h (hh : h < 2) (j : S1x8.Idx), (j 1).val = u.val → ∀ o : S1x1.Idx,
    X ((Rect.unit (s := S2x8) ![h, 0] S1x8.size (inbScale h hh)).emb j) = s u h o

theorem laneSet_eq (b : ℕ) (hb : b < 8) (s : FVec F S1x1 .f32) (row : Vec F S1x8 .f32) (j : S1x8.Idx) (o : S1x1.Idx) :
    laneSet (BitVec.ofNat 32 b) s row j = if (j 1).val = b then s o else row j := by
  have hj : (j 1).val < 8 := (j 1).isLt
  have ho : ∀ o o' : S1x1.Idx, o = o' := fun o o' => by
    funext a
    have h1 : (o a).val < 1 := by fin_cases a <;> exact (o _).isLt
    have h2 : (o' a).val < 1 := by fin_cases a <;> exact (o' _).isLt
    exact Fin.ext (by omega)
  have hc : (cmpi .eq (iota .tc S1x8 32 [1] iota_S1x8_d1_w32 : IVec S1x8 32) (broadcast S1x8 (BitVec.ofNat 32 b))) j
      = IntOp.cmpi .eq (BitVec.ofNat 32 (j 1).val) (BitVec.ofNat 32 b) := by
    show IntOp.cmpi .eq (BitVec.ofNat 32 (0 * 8 + (j 1).val)) (BitVec.ofNat 32 b) = _
    rw [Nat.zero_mul, Nat.zero_add]
  have hs : broadcastTo S1x8 (shapeCast S1x1 s shapeCasts_S1x1_S1x1) broadcasts_S1x1_S1x8 j = s o := congrArg s (ho _ o)
  have hr : shapeCast S1x8 row shapeCasts_S1x8_S1x8 = row := shapeCast_id row _
  refine (show laneSet (BitVec.ofNat 32 b) s row j = Scalar.select
    ((cmpi .eq (iota .tc S1x8 32 [1] iota_S1x8_d1_w32 : IVec S1x8 32) (broadcast S1x8 (BitVec.ofNat 32 b))) j)
    (broadcastTo S1x8 (shapeCast S1x1 s shapeCasts_S1x1_S1x1) broadcasts_S1x1_S1x8 j) (shapeCast S1x8 row shapeCasts_S1x8_S1x8 j) from rfl).trans ?_
  rw [hc, hs, hr]
  by_cases hb' : (j 1).val = b
  · rw [if_pos hb', hb']; simp [IntOp.cmpi, Scalar.select]
  · rw [if_neg hb']
    have : BitVec.ofNat 32 (j 1).val ≠ BitVec.ofNat 32 b := fun h => hb' (by
      have := congrArg BitVec.toNat h
      rw [BitVec.toNat_ofNat, BitVec.toNat_ofNat, Nat.mod_eq_of_lt (by omega), Nat.mod_eq_of_lt (by omega)] at this
      exact this)
    have hf : (BitVec.ofNat 32 (j 1).val == BitVec.ofNat 32 b) = false := by rw [beq_eq_false_iff_ne]; exact this
    simp [IntOp.cmpi, Scalar.select, hf]

theorem Lanes.step (s : Fin cfg0.N → ℕ → FVec F S1x1 .f32) (t : Fin cfg0.N) (b : ℕ) (hb : b = t.val) {X X' : S2x8.Idx → Elt F .f32}
    (h : Lanes s t.val X) (hl : Lane (BitVec.ofNat 32 b) (s t 0) (s t 1) X X') : Lanes s (t.val + 1) X' := by
  have hN : t.val < 8 := lt_of_lt_of_eq t.isLt (show cfg0.N = 8 from N_0)
  subst hb
  intro u hu k hk j hj o
  have key : ∀ (sk : FVec F S1x1 .f32), sk = s t k →
      X' ((Rect.unit (s := S2x8) ![k, 0] S1x8.size (inbScale k hk)).emb j) = laneSet (BitVec.ofNat 32 t.val) sk (fun j => X ((Rect.unit (s := S2x8) ![k, 0] S1x8.size (inbScale k hk)).emb j)) j →
      X' ((Rect.unit (s := S2x8) ![k, 0] S1x8.size (inbScale k hk)).emb j) = s u k o := by
    intro sk hsk he
    rw [he, laneSet_eq _ hN _ _ _ o]
    by_cases hut : (j 1).val = t.val
    · rw [if_pos hut, hsk]
      have : u = t := Fin.ext (by omega)
      rw [this]
    · rw [if_neg hut]
      exact h u (by omega) k hk j hj o
  obtain ⟨h0, h1⟩ := hl
  obtain rfl | rfl : k = 0 ∨ k = 1 := by omega
  · exact key _ rfl (h0 j)
  · exact key _ rfl (h1 j)

/-! ## The scratch buffers between points -/

/-- The scratch buffers: the rotated keys, the tables and the positions. -/
abbrev scM0_0 : Memref sig .tc .vmem S16x128x128 .f32 := Memref.whole cc0_scratch0
abbrev scM0_1 : Memref sig .tc .vmem S4x32x128 .f32 := Memref.whole cc0_scratch1
abbrev scM0_2 : Memref sig .tc .vmem S8x1x2048 .i32 := Memref.whole cc0_scratch2

theorem PhiA0_eq (c : Dev nD) :
    (Pipeline.ΦA spec0 c : sProp 𝕄)
      = iprop(iprop((∃ d, own c scM0_0 d) ∗ (∃ d, own c scM0_1 d) ∗ (∃ d, own c scM0_2 d)) ∗ (∃ r, prngReg c r)) := by
  unfold Pipeline.ΦA own; rw [scopedRest0_eq]; simp only [scM0_0, scM0_1, scM0_2, owns_whole]; try rfl

/-- Between points: at first anything, then the tables and the positions. -/
def PhiS (c : Dev nD) (n : ℕ) : sProp 𝕄 :=
  if n = 0 then Pipeline.ΦA spec0 c
  else iprop(iprop((∃ d, own c scM0_0 d) ∗ own c scM0_1 T0 ∗ own c scM0_2 (R0 m c)) ∗ (∃ r, prngReg c r))

theorem PhiS_zero (c : Dev nD) : PhiS m c 0 = Pipeline.ΦA spec0 c := if_pos rfl
theorem PhiS_pos (c : Dev nD) (n : ℕ) (hz : n ≠ 0) :
    PhiS m c n = iprop(iprop((∃ d, own c scM0_0 d) ∗ own c scM0_1 T0 ∗ own c scM0_2 (R0 m c)) ∗ (∃ r, prngReg c r)) := if_neg hz

/-! ## The pipeline's proof data -/

/-- The windows of the scales, whose lanes are filled one a point. -/
def held : Fin 7 → Bool := fun w => w.val == 4 || w.val == 6

/-- What a scale window holds after a point. -/
def rel (c : Dev nD) (w : Fin cfg0.W) (t : Fin cfg0.N) : ((cfg0.win w).block.Idx → Elt F (cfg0.win w).elt) → Prop :=
  match w with
  | ⟨4, _⟩ => fun X => Lanes (sK m c) (t.val + 1) X
  | ⟨6, _⟩ => fun X => Lanes (sV m c) (t.val + 1) X
  | _ => fun _ => True

/-- What the body leaves point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => G4P m c t
    | ⟨4, h⟩ => Pipeline.Dat.unnamed (cfg := cfg0) ⟨4, h⟩ t
    | ⟨5, _⟩ => G6P m c t
    | ⟨6, h⟩ => Pipeline.Dat.unnamed (cfg := cfg0) ⟨6, h⟩ t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = G4P m c t := by dsimp only [dats]
theorem after0_5 (c : Dev nD) (t : Fin cfg0.N) : (dats m 0 c).after 5 t = G6P m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The relational reading of the proof data. -/
abbrev rdats (c : Dev nD) := (dats m 0 c).toRRel held (rel m c)

theorem finds4 (c : Dev nD) (t : Fin cfg0.N) (Y : S2x8.Idx → Elt F .f32) (h : (rdats m c).Finds 4 t Y) : Lanes (sK m c) t.val Y := by
  have hN : t.val < 8 := lt_of_lt_of_eq t.isLt (show cfg0.N = 8 from N_0)
  by_cases hz : t.val = 0
  · intro u hu; omega
  · rw [Pipeline.RDat.finds_of_pos (rdats m c) rfl hz] at h
    rcases h with h | h
    · have := (flush0_4 _).mp h
      simp only at this; omega
    · have := Dat.toRRel_leaves (dats m 0 c) (fgt := held) (Rl := rel m c) (w := 4) rfl h
      have e : t.val - 1 + 1 = t.val := by omega
      have h2 : Lanes (sK m c) (t.val - 1 + 1) Y := this
      rwa [e] at h2

theorem finds6 (c : Dev nD) (t : Fin cfg0.N) (Y : S2x8.Idx → Elt F .f32) (h : (rdats m c).Finds 6 t Y) : Lanes (sV m c) t.val Y := by
  have hN : t.val < 8 := lt_of_lt_of_eq t.isLt (show cfg0.N = 8 from N_0)
  by_cases hz : t.val = 0
  · intro u hu; omega
  · rw [Pipeline.RDat.finds_of_pos (rdats m c) rfl hz] at h
    rcases h with h | h
    · have := (flush0_6 _).mp h
      simp only at this; omega
    · have := Dat.toRRel_leaves (dats m 0 c) (fgt := held) (Rl := rel m c) (w := 6) rfl h
      have e : t.val - 1 + 1 = t.val := by omega
      have h2 : Lanes (sV m c) (t.val - 1 + 1) Y := this
      rwa [e] at h2

/-! ## The body at a point -/

theorem coords_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem first_iff (t : Fin cfg0.N) : first (grid0.coords t) ↔ t.val = 0 := by
  have ht : t.val < 8 := Nat.lt_of_lt_of_eq t.isLt N_0
  have e0 := coords_val t
  simp only [first, e0]
  word_cmp

/-- Each window's staging buffer at a point. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x8 .f32 := win0_6.stage (cfg0.slots t 6)
abbrev hs0_6 (t : Fin cfg0.N) : (ms0_6 t).IsWhole := hstage0_6 ((cfg0.slots t 6).cast nbuf0_6)

attribute [local irreducible] accAll rest scaleOf kMax vMax Lanes

set_option maxHeartbeats 1600000 in
/-- The two passes at a point, the tables and the positions in place. -/
theorem rest_at (c : Dev nD) (t : Fin cfg0.N) :
    iprop((∃ d, own c scM0_0 d) ∗ own c scM0_1 T0 ∗ own c scM0_2 (R0 m c)
        ∗ own c (ms0_0 t) (xk m c t) ∗ own c (ms0_1 t) (xv m c t)
        ∗ (∃ d, own c (ms0_3 t) d) ∗ (∃ Y, ⌜Lanes (sK m c) t.val Y⌝ ∗ own c (ms0_4 t) Y)
        ∗ (∃ d, own c (ms0_5 t) d) ∗ (∃ Y, ⌜Lanes (sV m c) t.val Y⌝ ∗ own c (ms0_6 t) Y))
      ⊢ WP c Set.univ (rest (grid0.coords t) (ms0_0 t) (ms0_1 t) (ms0_3 t) (hs0_3 t) (ms0_4 t) (ms0_5 t) (hs0_5 t) (ms0_6 t) scM0_0 scM0_1 scM0_2)
        (fun _ => iprop((∃ d, own c scM0_0 d) ∗ own c scM0_1 T0 ∗ own c scM0_2 (R0 m c)
        ∗ own c (ms0_0 t) (xk m c t) ∗ own c (ms0_1 t) (xv m c t)
        ∗ own c (ms0_3 t) (G4P m c t) ∗ (∃ Y, ⌜Lanes (sK m c) (t.val + 1) Y⌝ ∗ own c (ms0_4 t) Y)
        ∗ own c (ms0_5 t) (G6P m c t) ∗ (∃ Y, ⌜Lanes (sV m c) (t.val + 1) Y⌝ ∗ own c (ms0_6 t) Y))) := by
  iintro ⟨⟨%d8, H8⟩, H9, H10, H1, H2, ⟨%d4, H4⟩, ⟨%Y5, %h5, H5⟩, ⟨%d6, H6⟩, ⟨%Y7, %h7, H7⟩⟩
  iapply (wp_then c Set.univ (rest_spec c Set.univ (grid0.coords t) (ms0_0 t) (ms0_1 t) (ms0_3 t) (hs0_3 t) (ms0_4 t) (ms0_5 t) (hs0_5 t) (ms0_6 t) scM0_0 scM0_1 scM0_2
    (xk m c t) (xv m c t) T0 (R0 m c) d4 d6 Y5 Y7 d8 (G8P m c t) (G4P m c t) (G6P m c t) (G8P_spec m c t) (G4P_spec m c t) (G6P_spec m c t)))
  isplitl [H1 H2 H4 H5 H6 H7 H8 H9 H10]
  · isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    iexact H10
  iintro %u ⟨H1, H2, H4, ⟨%Z5, %k5, H5⟩, H6, ⟨%Z7, %k7, H7⟩, H8, H9, H10⟩
  isplitl [H8]; · iexists _; iexact H8
  isplitl [H9]; · iexact H9
  isplitl [H10]; · iexact H10
  isplitl [H1]; · iexact H1
  isplitl [H2]; · iexact H2
  isplitl [H4]; · iexact H4
  isplitl [H5]
  · iexists Z5; isplitr
    · ipureintro; exact Lanes.step (sK m c) t _ (coords_val t) h5 (by unfold sK accP; exact k5)
    iexact H5
  isplitl [H6]; · iexact H6
  iexists Z7; isplitr
  · ipureintro; exact Lanes.step (sV m c) t _ (coords_val t) h7 (by unfold sV accP; exact k7)
  iexact H7

/-- What the body is called with at a point. -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d))
    ∗ (∃ d, own c (ms0_3 t) ((dats m 0 c).before 3 t d))
    ∗ (∃ Y, ⌜(rdats m c).Finds 4 t Y⌝ ∗ own c (ms0_4 t) Y)
    ∗ (∃ d, own c (ms0_5 t) ((dats m 0 c).before 5 t d))
    ∗ (∃ Y, ⌜(rdats m c).Finds 6 t Y⌝ ∗ own c (ms0_6 t) Y))

/-- What it returns. -/
def bodyPost (c : Dev nD) (t : Fin cfg0.N) : sProp 𝕄 :=
  iprop((dats m 0 c).Φ t.succ ∗ (dats m 0 c).owesAt () t.succ
    ∗ own c (ms0_0 t) ((dats m 0 c).after 0 t)
    ∗ own c (ms0_1 t) ((dats m 0 c).after 1 t)
    ∗ own c (ms0_2 t) ((dats m 0 c).after 2 t)
    ∗ own c (ms0_3 t) ((dats m 0 c).after 3 t)
    ∗ (∃ Y, ⌜rel m c 4 t Y⌝ ∗ own c (ms0_4 t) Y)
    ∗ own c (ms0_5 t) ((dats m 0 c).after 5 t)
    ∗ (∃ Y, ⌜rel m c 6 t Y⌝ ∗ own c (ms0_6 t) Y))

set_option maxHeartbeats 1600000 in
theorem sound_body (c : Dev nD) (t : Fin cfg0.N) :
    bodyPre m c t ⊢ WP c Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_5]
  rw [show (dats m 0 c).Φ t.succ = PhiS m c (t.val + 1) from rfl, PhiS_pos m c (t.val + 1) (Nat.succ_ne_zero _)]
  rw [show (dats m 0 c).Φ t.castSucc = PhiS m c t.val from rfl]
  by_cases hz : t.val = 0
  · have ht : t = t0_0 := Fin.ext (by rw [hz]; rfl)
    have hR : IsRows (xp m c t) (R0 m c) := by rw [ht]; exact R0_spec m c
    rw [hz, PhiS_zero m c, PhiA0_eq, body_first _ ((first_iff t).mpr hz)]
    iintro ⟨⟨⟨HS0, ⟨%e1, HS1⟩, ⟨%e2, HS2⟩⟩, Hg⟩, Ho, ⟨%d0, H0⟩, ⟨%d1, H1⟩, ⟨%d2, H2⟩, ⟨%d3, H3⟩, ⟨%d4, %h4, H4⟩, ⟨%d5, H5⟩, ⟨%d6, %h6, H6⟩⟩
    iapply (wp_seq c Set.univ)
    iapply (wp_then c Set.univ (setup_spec c Set.univ (ms0_2 t) scM0_1 scM0_2 (xp m c t) e1 e2 T0 T0_spec (R0 m c) hR))
    isplitl [H2 HS1 HS2]
    · isplitl [H2]; · iexact H2
      isplitl [HS1]; · iexact HS1
      iexact HS2
    iintro %u ⟨H2, HS1, HS2⟩
    iapply (wp_then c Set.univ (rest_at m c t))
    isplitl [HS0 HS1 HS2 H0 H1 H3 H4 H5 H6]
    · isplitl [HS0]; · iexact HS0
      isplitl [HS1]; · iexact HS1
      isplitl [HS2]; · iexact HS2
      isplitl [H0]; · iexact H0
      isplitl [H1]; · iexact H1
      isplitl [H3]; · iexists _; iexact H3
      isplitl [H4]
      · iexists _; isplitr
        · ipureintro; exact finds4 m c t _ h4
        iexact H4
      isplitl [H5]; · iexists _; iexact H5
      iexists _; isplitr
      · ipureintro; exact finds6 m c t _ h6
      iexact H6
    iintro %u' ⟨HS0, HS1, HS2, H0, H1, H3, H4, H5, H6⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz, body_later _ (fun h => hz ((first_iff t).mp h))]
    iintro ⟨⟨⟨HS0, HS1, HS2⟩, Hg⟩, Ho, ⟨%d0, H0⟩, ⟨%d1, H1⟩, ⟨%d2, H2⟩, ⟨%d3, H3⟩, ⟨%d4, %h4, H4⟩, ⟨%d5, H5⟩, ⟨%d6, %h6, H6⟩⟩
    iapply (wp_then c Set.univ (rest_at m c t))
    isplitl [HS0 HS1 HS2 H0 H1 H3 H4 H5 H6]
    · isplitl [HS0]; · iexact HS0
      isplitl [HS1]; · iexact HS1
      isplitl [HS2]; · iexact HS2
      isplitl [H0]; · iexact H0
      isplitl [H1]; · iexact H1
      isplitl [H3]; · iexists _; iexact H3
      isplitl [H4]
      · iexists _; isplitr
        · ipureintro; exact finds4 m c t _ h4
        iexact H4
      isplitl [H5]; · iexists _; iexact H5
      iexists _; isplitr
      · ipureintro; exact finds6 m c t _ h6
      iexact H6
    iintro %u' ⟨HS0, HS1, HS2, H0, H1, H3, H4, H5, H6⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ held (rel m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 8 from N_0]; decide), PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-! ## The run and the frame -/

set_option backward.isDefEq.respectTransparency.types false in
/-- The launch. -/
theorem run_main_quiescent : θ_run defs (onTc (τ := τ) (main (F := F))) (s₀ m ρ)
    (fun r => (Pipeline.RDat.FramePost (cfgs 0) (fun c => (dats m 0 c).toRRel held (rel m c)) (V m)) r ∧ r.2.sem = fun _ => 0) :=
  Pipeline.RDat.θ_run_frame_track (Q' := _) cfgs (0 : Fin 1) launch0 defs₀ Variants.none (fun c => (dats m 0 c).toRRel held (rel m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ)
    (Pipeline.RDat.FramePost (cfgs 0) (fun c => (dats m 0 c).toRRel held (rel m c)) (V m)) :=
  (θ_run defs _ _).mono (fun _ h => h.1) (run_main_quiescent m ρ)

theorem post_args {r} (h : Pipeline.RDat.FramePost (cfgs 0) (fun c => (dats m 0 c).toRRel held (rel m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c))⟩

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨post_args m h.1, h.2⟩) (run_main_quiescent m ρ)

end Cert.Kernel.RopeK

end
-- ==== Proof.Rope.Body.lean ====
/- The kernel's body written once per kind of step: one table lookup, one group of eight rows of one
   tile, one tile, one scale, one tile of codes, with the repetitions as recursions over the number of
   steps done. `body_first` and `body_later` say that this is the printed body. -/
module

public import proofs.«01_k».proof.Proof.Gen.KernelIdeal
public import Idealize.ShloMosaic.Lib.Tactic

@[expose] public section

set_option synthInstance.maxSize 4096

noncomputable section

namespace Cert.KernelIdeal.Rope

open Cert.KernelIdeal Cert.KernelIdeal.Gen
open Idealize.ShloMosaic Idealize.SL.Sem

variable {F : FTy → Type} [FloatOps F] [Named F]

/-! ## Pure values -/

/-- The inverse frequency of each row: `1 / 10000 ^ (2 * row / 64)`. -/
def invFreq : FVec F S32x128 .f32 :=
  have v6777 : IVec S32x128 32 := iota .tc S32x128 32 [0] iota_S32x128_d0_w32
  have v6778 : FVec F S32x128 .f32 := sitofp .f32 v6777
  have cst_2712 : F .f32 := Scalar.ofBits .f32 0x40000000#32
  have v6781 : FVec F S32x128 .f32 := broadcast S32x128 cst_2712
  have v6782 : FVec F S32x128 .f32 := mulf v6781 v6778
  have cst_2713 : F .f32 := Scalar.ofBits .f32 0x42800000#32
  have v6783 : FVec F S32x128 .f32 := broadcast S32x128 cst_2713
  have v6784 : FVec F S32x128 .f32 := divf v6782 v6783
  have cst_2714 : F .f32 := Scalar.ofBits .f32 0x461C4000#32
  have v6785 : FVec F S32x128 .f32 := broadcast S32x128 cst_2714
  have v6786 : FVec F S32x128 .f32 := powf v6785 v6784
  have cst_2715 : F .f32 := Scalar.ofBits .f32 0x3F800000#32
  have v6787 : FVec F S32x128 .f32 := broadcast S32x128 cst_2715
  have v6788 : FVec F S32x128 .f32 := divf v6787 v6786
  v6788

/-- The leading bits of a frequency, by comparing with powers of two and rounding down. -/
def freqHi (f : FVec F S32x128 .f32) : FVec F S32x128 .f32 :=
  have cst_2716 : F .f32 := Scalar.ofBits .f32 0x3A000000#32
  have v6789 : FVec F S32x128 .f32 := broadcast S32x128 cst_2716
  have cst_2717 : F .f32 := Scalar.ofBits .f32 0x45000000#32
  have v6790 : FVec F S32x128 .f32 := broadcast S32x128 cst_2717
  have cst_2718 : F .f32 := Scalar.ofBits .f32 0x3F800000#32
  have v6791 : FVec F S32x128 .f32 := broadcast S32x128 cst_2718
  have v6792 : IVec S32x128 1 := cmpf .olt f v6791
  have cst_2719 : F .f32 := Scalar.ofBits .f32 0x39800000#32
  have v6793 : FVec F S32x128 .f32 := broadcast S32x128 cst_2719
  have v6794 : FVec F S32x128 .f32 := select v6792 v6793 v6789
  have cst_2720 : F .f32 := Scalar.ofBits .f32 0x45800000#32
  have v6795 : FVec F S32x128 .f32 := broadcast S32x128 cst_2720
  have v6796 : FVec F S32x128 .f32 := select v6792 v6795 v6790
  have cst_2721 : F .f32 := Scalar.ofBits .f32 0x3F000000#32
  have v6797 : FVec F S32x128 .f32 := broadcast S32x128 cst_2721
  have v6798 : IVec S32x128 1 := cmpf .olt f v6797
  have cst_2722 : F .f32 := Scalar.ofBits .f32 0x39000000#32
  have v6799 : FVec F S32x128 .f32 := broadcast S32x128 cst_2722
  have v6800 : FVec F S32x128 .f32 := select v6798 v6799 v6794
  have cst_2723 : F .f32 := Scalar.ofBits .f32 0x46000000#32
  have v6801 : FVec F S32x128 .f32 := broadcast S32x128 cst_2723
  have v6802 : FVec F S32x128 .f32 := select v6798 v6801 v6796
  have cst_2724 : F .f32 := Scalar.ofBits .f32 0x3E800000#32
  have v6803 : FVec F S32x128 .f32 := broadcast S32x128 cst_2724
  have v6804 : IVec S32x128 1 := cmpf .olt f v6803
  have cst_2725 : F .f32 := Scalar.ofBits .f32 0x38800000#32
  have v6805 : FVec F S32x128 .f32 := broadcast S32x128 cst_2725
  have v6806 : FVec F S32x128 .f32 := select v6804 v6805 v6800
  have cst_2726 : F .f32 := Scalar.ofBits .f32 0x46800000#32
  have v6807 : FVec F S32x128 .f32 := broadcast S32x128 cst_2726
  have v6808 : FVec F S32x128 .f32 := select v6804 v6807 v6802
  have cst_2727 : F .f32 := Scalar.ofBits .f32 0x3E000000#32
  have v6809 : FVec F S32x128 .f32 := broadcast S32x128 cst_2727
  have v6810 : IVec S32x128 1 := cmpf .olt f v6809
  have cst_2728 : F .f32 := Scalar.ofBits .f32 0x38000000#32
  have v6811 : FVec F S32x128 .f32 := broadcast S32x128 cst_2728
  have v6812 : FVec F S32x128 .f32 := select v6810 v6811 v6806
  have cst_2729 : F .f32 := Scalar.ofBits .f32 0x47000000#32
  have v6813 : FVec F S32x128 .f32 := broadcast S32x128 cst_2729
  have v6814 : FVec F S32x128 .f32 := select v6810 v6813 v6808
  have cst_2730 : F .f32 := Scalar.ofBits .f32 0x3D800000#32
  have v6815 : FVec F S32x128 .f32 := broadcast S32x128 cst_2730
  have v6816 : IVec S32x128 1 := cmpf .olt f v6815
  have cst_2731 : F .f32 := Scalar.ofBits .f32 0x37800000#32
  have v6817 : FVec F S32x128 .f32 := broadcast S32x128 cst_2731
  have v6818 : FVec F S32x128 .f32 := select v6816 v6817 v6812
  have cst_2732 : F .f32 := Scalar.ofBits .f32 0x47800000#32
  have v6819 : FVec F S32x128 .f32 := broadcast S32x128 cst_2732
  have v6820 : FVec F S32x128 .f32 := select v6816 v6819 v6814
  have cst_2733 : F .f32 := Scalar.ofBits .f32 0x3D000000#32
  have v6821 : FVec F S32x128 .f32 := broadcast S32x128 cst_2733
  have v6822 : IVec S32x128 1 := cmpf .olt f v6821
  have cst_2734 : F .f32 := Scalar.ofBits .f32 0x37000000#32
  have v6823 : FVec F S32x128 .f32 := broadcast S32x128 cst_2734
  have v6824 : FVec F S32x128 .f32 := select v6822 v6823 v6818
  have cst_2735 : F .f32 := Scalar.ofBits .f32 0x48000000#32
  have v6825 : FVec F S32x128 .f32 := broadcast S32x128 cst_2735
  have v6826 : FVec F S32x128 .f32 := select v6822 v6825 v6820
  have cst_2736 : F .f32 := Scalar.ofBits .f32 0x3C800000#32
  have v6827 : FVec F S32x128 .f32 := broadcast S32x128 cst_2736
  have v6828 : IVec S32x128 1 := cmpf .olt f v6827
  have cst_2737 : F .f32 := Scalar.ofBits .f32 0x36800000#32
  have v6829 : FVec F S32x128 .f32 := broadcast S32x128 cst_2737
  have v6830 : FVec F S32x128 .f32 := select v6828 v6829 v6824
  have cst_2738 : F .f32 := Scalar.ofBits .f32 0x48800000#32
  have v6831 : FVec F S32x128 .f32 := broadcast S32x128 cst_2738
  have v6832 : FVec F S32x128 .f32 := select v6828 v6831 v6826
  have cst_2739 : F .f32 := Scalar.ofBits .f32 0x3C000000#32
  have v6833 : FVec F S32x128 .f32 := broadcast S32x128 cst_2739
  have v6834 : IVec S32x128 1 := cmpf .olt f v6833
  have cst_2740 : F .f32 := Scalar.ofBits .f32 0x36000000#32
  have v6835 : FVec F S32x128 .f32 := broadcast S32x128 cst_2740
  have v6836 : FVec F S32x128 .f32 := select v6834 v6835 v6830
  have cst_2741 : F .f32 := Scalar.ofBits .f32 0x49000000#32
  have v6837 : FVec F S32x128 .f32 := broadcast S32x128 cst_2741
  have v6838 : FVec F S32x128 .f32 := select v6834 v6837 v6832
  have cst_2742 : F .f32 := Scalar.ofBits .f32 0x3B800000#32
  have v6839 : FVec F S32x128 .f32 := broadcast S32x128 cst_2742
  have v6840 : IVec S32x128 1 := cmpf .olt f v6839
  have cst_2743 : F .f32 := Scalar.ofBits .f32 0x35800000#32
  have v6841 : FVec F S32x128 .f32 := broadcast S32x128 cst_2743
  have v6842 : FVec F S32x128 .f32 := select v6840 v6841 v6836
  have cst_2744 : F .f32 := Scalar.ofBits .f32 0x49800000#32
  have v6843 : FVec F S32x128 .f32 := broadcast S32x128 cst_2744
  have v6844 : FVec F S32x128 .f32 := select v6840 v6843 v6838
  have cst_2745 : F .f32 := Scalar.ofBits .f32 0x3B000000#32
  have v6845 : FVec F S32x128 .f32 := broadcast S32x128 cst_2745
  have v6846 : IVec S32x128 1 := cmpf .olt f v6845
  have cst_2746 : F .f32 := Scalar.ofBits .f32 0x35000000#32
  have v6847 : FVec F S32x128 .f32 := broadcast S32x128 cst_2746
  have v6848 : FVec F S32x128 .f32 := select v6846 v6847 v6842
  have cst_2747 : F .f32 := Scalar.ofBits .f32 0x4A000000#32
  have v6849 : FVec F S32x128 .f32 := broadcast S32x128 cst_2747
  have v6850 : FVec F S32x128 .f32 := select v6846 v6849 v6844
  have cst_2748 : F .f32 := Scalar.ofBits .f32 0x3A800000#32
  have v6851 : FVec F S32x128 .f32 := broadcast S32x128 cst_2748
  have v6852 : IVec S32x128 1 := cmpf .olt f v6851
  have cst_2749 : F .f32 := Scalar.ofBits .f32 0x34800000#32
  have v6853 : FVec F S32x128 .f32 := broadcast S32x128 cst_2749
  have v6854 : FVec F S32x128 .f32 := select v6852 v6853 v6848
  have cst_2750 : F .f32 := Scalar.ofBits .f32 0x4A800000#32
  have v6855 : FVec F S32x128 .f32 := broadcast S32x128 cst_2750
  have v6856 : FVec F S32x128 .f32 := select v6852 v6855 v6850
  have cst_2751 : F .f32 := Scalar.ofBits .f32 0x3A000000#32
  have v6857 : FVec F S32x128 .f32 := broadcast S32x128 cst_2751
  have v6858 : IVec S32x128 1 := cmpf .olt f v6857
  have cst_2752 : F .f32 := Scalar.ofBits .f32 0x34000000#32
  have v6859 : FVec F S32x128 .f32 := broadcast S32x128 cst_2752
  have v6860 : FVec F S32x128 .f32 := select v6858 v6859 v6854
  have cst_2753 : F .f32 := Scalar.ofBits .f32 0x4B000000#32
  have v6861 : FVec F S32x128 .f32 := broadcast S32x128 cst_2753
  have v6862 : FVec F S32x128 .f32 := select v6858 v6861 v6856
  have cst_2754 : F .f32 := Scalar.ofBits .f32 0x39800000#32
  have v6863 : FVec F S32x128 .f32 := broadcast S32x128 cst_2754
  have v6864 : IVec S32x128 1 := cmpf .olt f v6863
  have cst_2755 : F .f32 := Scalar.ofBits .f32 0x33800000#32
  have v6865 : FVec F S32x128 .f32 := broadcast S32x128 cst_2755
  have v6866 : FVec F S32x128 .f32 := select v6864 v6865 v6860
  have cst_2756 : F .f32 := Scalar.ofBits .f32 0x4B800000#32
  have v6867 : FVec F S32x128 .f32 := broadcast S32x128 cst_2756
  have v6868 : FVec F S32x128 .f32 := select v6864 v6867 v6862
  have cst_2757 : F .f32 := Scalar.ofBits .f32 0x39000000#32
  have v6869 : FVec F S32x128 .f32 := broadcast S32x128 cst_2757
  have v6870 : IVec S32x128 1 := cmpf .olt f v6869
  have cst_2758 : F .f32 := Scalar.ofBits .f32 0x33000000#32
  have v6871 : FVec F S32x128 .f32 := broadcast S32x128 cst_2758
  have v6872 : FVec F S32x128 .f32 := select v6870 v6871 v6866
  have cst_2759 : F .f32 := Scalar.ofBits .f32 0x4C000000#32
  have v6873 : FVec F S32x128 .f32 := broadcast S32x128 cst_2759
  have v6874 : FVec F S32x128 .f32 := select v6870 v6873 v6868
  have v6875 : FVec F S32x128 .f32 := mulf f v6874
  have v6876 : FVec F S32x128 .f32 := floor v6875
  have v6877 : FVec F S32x128 .f32 := mulf v6876 v6872
  v6877

/-- The angle's reduction by whole turns, subtracted in three parts. -/
def reduce (a : FVec F S32x128 .f32) : FVec F S32x128 .f32 :=
  let n := roundeven (mulf a (broadcast S32x128 (Scalar.ofBits .f32 0x3E22F983#32)))
  subf (subf (subf a (mulf n (broadcast S32x128 (Named.named κ "two_pi_a" 0x40C90000#32))))
    (mulf n (broadcast S32x128 (Named.named κ "two_pi_b" 0x3AFDA000#32))))
    (mulf n (broadcast S32x128 (Named.named κ "two_pi_c" 0x34A22169#32)))

/-- The column number of each table entry, as a float. -/
def digit : FVec F S32x128 .f32 := sitofp .f32 (iota .tc S32x128 32 [1] iota_S32x128_d1_w32)

/-- The angles of the tables indexed by a position's upper digit. -/
def angleHi : FVec F S32x128 .f32 :=
  let d : FVec F S32x128 .f32 := mulf digit (broadcast S32x128 (Scalar.ofBits .f32 0x43000000#32))
  let h : FVec F S32x128 .f32 := freqHi invFreq
  addf (reduce (mulf d h)) (mulf d (subf invFreq h))

/-- The angles of the tables indexed by a position's lower digit. -/
def angleLo : FVec F S32x128 .f32 :=
  let h : FVec F S32x128 .f32 := freqHi invFreq
  addf (reduce (mulf digit h)) (mulf digit (subf invFreq h))

/-- The four tables: cosine and sine by the upper digit, cosine and sine by the lower digit. -/
def table (c : Fin 4) : FVec F S32x128 .f32 :=
  match c with
  | 0 => cos angleHi
  | 1 => sin angleHi
  | 2 => cos angleLo
  | 3 => sin angleLo

/-- A row of 128 positions, repeated over eight rows. -/
def spread (x : Vec F S1x1x128 .i32) : IVec S8x128 32 :=
  broadcastTo S8x128 (shapeCast S1x128 (shapeCast S1x128 x shapeCasts_S1x1x128_S1x128) shapeCasts_S1x128_S1x128) broadcasts_S1x128_S8x128

/-- The upper seven-bit digit of each position. -/
def hiOf (p : IVec S8x128 32) : IVec S8x128 32 :=
  andi (shrsi p (broadcast S8x128 7#32)) (broadcast S8x128 127#32)

/-- The lower seven-bit digit of each position. -/
def loOf (p : IVec S8x128 32) : IVec S8x128 32 := andi p (broadcast S8x128 127#32)

/-- An index made nonnegative as the gather wants it. -/
def normIdx (p : IVec S8x128 32) : IVec S8x128 32 :=
  shapeCast S8x128 (shapeCast S8x128x1
    (select (cmpi .slt p (broadcast S8x128 0#32)) (addi p (broadcast S8x128 128#32)) p)
    shapeCasts_S8x128_S8x128x1) shapeCasts_S8x128x1_S8x128

/-- Eight rows of a table looked up at each position's digit. -/
def look (tab : Vec F S1x8x128 .f32) (p : IVec S8x128 32) : FVec F S8x128 .f32 :=
  dynamicGather 1 (shapeCast S8x128 tab shapeCasts_S1x8x128_S8x128) (normIdx p)

/-- The tile of the keys, transposed: channel by position. -/
def keyTile (x : Vec F S1x128x128 .bf16) : FVec F S128x128 .f32 :=
  extf .f32 (transpose S128x128 [1, 0] (shapeCast S128x128 x shapeCasts_S1x128x128_S128x128) transposes_S128x128_p1_0_S128x128) bitsLt_bf16_f32

/-- The first rotated half. -/
def rot1 (x1 x2 c s : FVec F S8x128 .f32) : FVec F S8x128 .f32 := subf (mulf x1 c) (mulf x2 s)
/-- The second rotated half. -/
def rot2 (x1 x2 c s : FVec F S8x128 .f32) : FVec F S8x128 .f32 := addf (mulf x2 c) (mulf x1 s)

theorem slice8 (r : ℕ) (h : r ≤ 120) : S128x128.Slices ![r, 0] S8x128 := by
  refine ⟨rfl, fun a => ?_⟩
  fin_cases a
  · show r + 8 ≤ 128; omega
  · show 0 + 128 ≤ 128; omega
theorem slice64 (r : ℕ) (h : r ≤ 64) : S128x128.Slices ![r, 0] S64x128 := by
  refine ⟨rfl, fun a => ?_⟩
  fin_cases a
  · show r + 64 ≤ 128; omega
  · show 0 + 128 ≤ 128; omega
theorem slice16 (r : ℕ) (h : r ≤ 112) : S128x128.Slices ![r, 0] S16x128 := by
  refine ⟨rfl, fun a => ?_⟩
  fin_cases a
  · show r + 16 ≤ 128; omega
  · show 0 + 128 ≤ 128; omega
theorem inb8 (t r : ℕ) (ht : t < 16) (hr : r ≤ 120) :
    ∀ a, (![t, r, 0] : Fin 3 → ℕ) a + S1x8x128.size a ≤ S16x128x128.size a := by
  intro a; fin_cases a
  · show t + 1 ≤ 16; omega
  · show r + 8 ≤ 128; omega
  · show 0 + 128 ≤ 128; omega
theorem inb64 (t r : ℕ) (ht : t < 16) (hr : r ≤ 64) :
    ∀ a, (![t, r, 0] : Fin 3 → ℕ) a + S1x64x128.size a ≤ S16x128x128.size a := by
  intro a; fin_cases a
  · show t + 1 ≤ 16; omega
  · show r + 64 ≤ 128; omega
  · show 0 + 128 ≤ 128; omega
theorem inbTab (c r : ℕ) (hc : c < 4) (hr : r ≤ 24) :
    ∀ a, (![c, r, 0] : Fin 3 → ℕ) a + S1x8x128.size a ≤ S4x32x128.size a := by
  intro a; fin_cases a
  · show c + 1 ≤ 4; omega
  · show r + 8 ≤ 32; omega
  · show 0 + 128 ≤ 128; omega
theorem inbTabs (c : ℕ) (hc : c < 4) :
    ∀ a, (![c, 0, 0] : Fin 3 → ℕ) a + S1x32x128.size a ≤ S4x32x128.size a := by
  intro a; fin_cases a
  · show c + 1 ≤ 4; omega
  · show 0 + 32 ≤ 32; omega
  · show 0 + 128 ≤ 128; omega
theorem inbX (t : ℕ) (ht : t < 16) :
    ∀ a, (![0, 128 * t, 0] : Fin 3 → ℕ) a + S1x128x128.size a ≤ S1x2048x128.size a := by
  intro a; fin_cases a
  · show 0 + 1 ≤ 1; omega
  · show 128 * t + 128 ≤ 2048; omega
  · show 0 + 128 ≤ 128; omega
theorem inbPos (r : ℕ) (hr : r < 8) :
    ∀ a, (![r, 0] : Fin 2 → ℕ) a + S1x2048.size a ≤ S8x2048.size a := by
  intro a; fin_cases a
  · show r + 1 ≤ 8; omega
  · show 0 + 2048 ≤ 2048; omega
theorem inbRows (r : ℕ) (hr : r < 8) :
    ∀ a, (![r, 0, 0] : Fin 3 → ℕ) a + S1x1x2048.size a ≤ S8x1x2048.size a := by
  intro a; fin_cases a
  · show r + 1 ≤ 8; omega
  · show 0 + 1 ≤ 1; omega
  · show 0 + 2048 ≤ 2048; omega
theorem inbScale (h : ℕ) (hh : h < 2) :
    ∀ a, (![h, 0] : Fin 2 → ℕ) a + S1x8.size a ≤ S2x8.size a := by
  intro a; fin_cases a
  · show h + 1 ≤ 2; omega
  · show 0 + 8 ≤ 8; omega
theorem inbCode (r t : ℕ) (hr : r ≤ 64) (ht : t < 16) :
    ∀ a, (![0, r, 128 * t] : Fin 3 → ℕ) a + S1x64x128.size a ≤ S1x128x2048.size a := by
  intro a; fin_cases a
  · show 0 + 1 ≤ 1; omega
  · show r + 64 ≤ 128; omega
  · show 128 * t + 128 ≤ 2048; omega
theorem inbRow (i : grid0.Coords) (t : ℕ) (ht : t < 16) :
    ∀ a, (![(Scalar.indexCast (BitVec.ofNat 32 (i 0).val)).toNat, 0, 128 * t] : Fin 3 → ℕ) a + S1x1x128.size a ≤ S8x1x2048.size a := by
  have h := k0_off1_eq i
  have h0 : (Scalar.indexCast (BitVec.ofNat 32 (i 0).val)).toNat = (i 0).val := congrFun h 0
  have h1 : (i 0).val < 8 := (i 0).isLt
  intro a
  fin_cases a
  · show (Scalar.indexCast (BitVec.ofNat 32 (i 0).val)).toNat + 1 ≤ 8; omega
  · show 0 + 1 ≤ 1; omega
  · show 128 * t + 128 ≤ 2048; omega
theorem packCode (h t : ℕ) (hh : h < 2) (ht : t < 16) (hb) :
    (Rect.unit (s := S1x128x2048) ![0, 64 * h, 128 * t] S1x64x128.size hb).PackedRows (EltTy.packing .fp8e4m3) := by
  refine Or.inr ⟨by decide, rfl, Or.inl ⟨?_, ?_⟩⟩
  · show 4 ∣ 64 * h; omega
  · show 4 ∣ 64; omega

/-! ## One scale -/

/-- The largest entry of a block, as a one-by-one block. -/
def maxK (a : FVec F S8x128 .f32) : FVec F S1x1 .f32 :=
  broadcast S1x1 (extractAt ![0, 0, 0] (shapeCast S1x1x1
    (multiReduction .maximumf [1, 2] S1 (shapeCast S1x8x128 a shapeCasts_S8x128_S1x8x128) 0xFF800000#32 reduces_S1x8x128_S1 (.inl rfl) rfl)
    shapeCasts_S1_S1x1x1) inpos_S1x1x1_p0_0_0)

/-- The largest entry of each column of the values' accumulator. -/
def colMax (a : FVec F S16x128 .bf16) : FVec F S1x128 .f32 :=
  shapeCast S1x128 (multiReduction .maximumf [0] S128 (extf .f32 a bitsLt_bf16_f32) 0xFF800000#32 reduces_S16x128_S128 (.inl rfl) rfl) shapeCasts_S128_S1x128

/-- The largest entry of a row of 64. -/
def maxV (a : FVec F S1x64 .f32) : FVec F S1x1 .f32 :=
  broadcast S1x1 (extractAt ![0, 0, 0] (shapeCast S1x1x1
    (multiReduction .maximumf [1, 2] S1 (shapeCast S1x1x64 a shapeCasts_S1x64_S1x1x64) 0xFF800000#32 reduces_S1x1x64_S1 (.inl rfl) rfl)
    shapeCasts_S1_S1x1x1) inpos_S1x1x1_p0_0_0)

/-- The biased exponent of the largest entry divided by the largest code: the number of powers of two
    not above it. -/
def biased (amax : FVec F S1x1 .f32) : IVec S1x1 32 :=
  let y := mulf amax (broadcast S1x1 (Scalar.ofBits .f32 0x3B124925#32))
  let n : IVec S1x256 32 := iota .tc S1x256 32 [1] iota_S1x256_d1_w32
  let pow : FVec F S1x256 .f32 := bitcastToFloat .f32 (shli n (broadcast S1x256 23#32))
  let le : IVec S1x256 1 := cmpf .ole pow (broadcastTo S1x256 y broadcasts_S1x1_S1x256)
  andi (shapeCast S1x1 (multiReductionI .maxsi [1] S1 (select le n (broadcast S1x256 4294967295#32)) 2147483648#32 reduces_S1x256_S1 rfl) shapeCasts_S1_S1x1) (broadcast S1x1 255#32)

/-- The exponent: zero for a zero or an infinite quotient, else the biased exponent less 126. -/
def expo (b : IVec S1x1 32) : IVec S1x1 32 :=
  select (ori (cmpi .eq b (broadcast S1x1 0#32)) (cmpi .eq b (broadcast S1x1 255#32))) (broadcast S1x1 0#32) (subi b (broadcast S1x1 126#32))

/-- Two to the exponent. -/
def scaleOf (amax : FVec F S1x1 .f32) : FVec F S1x1 .f32 :=
  bitcastToFloat .f32 (shli (addi (broadcast S1x1 127#32) (expo (biased amax))) (broadcast S1x1 23#32))

/-- Two to minus the exponent. -/
def invOf (amax : FVec F S1x1 .f32) : FVec F S1x1 .f32 :=
  bitcastToFloat .f32 (shli (subi (broadcast S1x1 127#32) (expo (biased amax))) (broadcast S1x1 23#32))

/-- A row of scales with the lane of one batch row replaced. -/
def laneSet (b : BitVec 32) (s : FVec F S1x1 .f32) (row : Vec F S1x8 .f32) : FVec F S1x8 .f32 :=
  select (cmpi .eq (iota .tc S1x8 32 [1] iota_S1x8_d1_w32 : IVec S1x8 32) (broadcast S1x8 b))
    (broadcastTo S1x8 (shapeCast S1x1 s shapeCasts_S1x1_S1x1) broadcasts_S1x1_S1x8)
    (shapeCast S1x8 row shapeCasts_S1x8_S1x8)

/-! ## One tile of codes -/

/-- The codes of 64 key channels. -/
def codeK (x : Vec F S1x64x128 .f32) (inv : FVec F S1x1 .f32) : FVec F S1x64x128 .fp8e4m3 :=
  shapeCast S1x64x128 (truncf .fp8e4m3
    (minimumf (maximumf (mulf (shapeCast S64x128 x shapeCasts_S1x64x128_S64x128) (broadcastTo S64x128 inv broadcasts_S1x1_S64x128))
      (broadcast S64x128 (Scalar.ofBits .f32 0xC3E00000#32))) (broadcast S64x128 (Scalar.ofBits .f32 0x43E00000#32)))
    bitsLt_fp8e4m3_f32) shapeCasts_S64x128_S1x64x128

/-- The values' tile, transposed: channel by position. -/
def valTile (x : Vec F S1x128x128 .bf16) : FVec F S128x128 .bf16 :=
  transpose S128x128 [1, 0] (shapeCast S128x128 x shapeCasts_S1x128x128_S128x128) transposes_S128x128_p1_0_S128x128

/-- The codes of 64 value channels. -/
def codeV (x : FVec F S64x128 .bf16) (inv : FVec F S1x1 .bf16) : FVec F S1x64x128 .fp8e4m3 :=
  shapeCast S1x64x128 (truncf .fp8e4m3
    (minimumf (maximumf (mulf x (broadcastTo S64x128 inv broadcasts_S1x1_S64x128))
      (broadcast S64x128 (Scalar.ofBits .bf16 0xC3E0#16))) (broadcast S64x128 (Scalar.ofBits .bf16 0x43E0#16)))
    bitsLt_fp8e4m3_bf16) shapeCasts_S64x128_S1x64x128

/-- The running maximum of the values' absolute entries after one tile. -/
def accV (a : FVec F S16x128 .bf16) (x : Vec F S1x128x128 .bf16) : FVec F S16x128 .bf16 :=
  let y : FVec F S128x128 .bf16 := absf (shapeCast S128x128 x shapeCasts_S1x128x128_S128x128)
  let s (r : ℕ) (h : r ≤ 112) : FVec F S16x128 .bf16 := extractStridedSlice S16x128 ![r, 0] y (slice16 r h)
  maximumf (maximumf (maximumf (maximumf (maximumf (maximumf (maximumf (maximumf a (s 0 (by decide))) (s 16 (by decide))) (s 32 (by decide)))
    (s 48 (by decide))) (s 64 (by decide))) (s 80 (by decide))) (s 96 (by decide))) (s 112 (by decide))

/-! ## Programs -/

/-- A kernel program. -/
abbrev P (F : FTy → Type) [FloatOps F] [Named F] (α : Type) := Prog (TpuEff nD τ sig (Elt F) Λ₀ .tc) α

/-- One lookup: eight rows of one table at each position's digit. -/
def lookup (arg9 : Memref sig .tc .vmem S4x32x128 .f32) (c r : ℕ) (hc : c < 4) (hr : r ≤ 24) (p : IVec S8x128 32) : P F (FVec F S8x128 .f32) := do
  let v : Vec F S1x8x128 .f32 ← Prog.lift (.load arg9 (Rect.unit (s := S4x32x128) ![c, r, 0] S1x8x128.size (inbTab c r hc hr)).toLoadRect (View.loadsAt_vmem h_S1x8x128))
  pure (look v p)

/-- Eight rows of one tile of the rotated keys written. -/
def put8 (arg8 : Memref sig .tc .vmem S16x128x128 .f32) (t r : ℕ) (ht : t < 16) (hr : r ≤ 120) (y : FVec F S8x128 .f32) : P F PUnit := do
  let v : Vec F S1x8x128 .f32 ← Prog.lift (.load arg8 (Rect.unit (s := S16x128x128) ![t, r, 0] S1x8x128.size (inb8 t r ht hr)).toLoadRect (View.loadsAt_vmem h_S1x8x128))
  Prog.lift (.store arg8 (Rect.unit (s := S16x128x128) ![t, r, 0] S1x8x128.size (inb8 t r ht hr)) (shapeCast S1x8x128 y shapeCasts_S8x128_S1x8x128 : FVec F S1x8x128 .f32) Finset.univ (View.stores_vmem_bits_univ h_S1x8x128 rfl) (.inl rfl))

/-- The rotation of eight channel pairs of one head in one tile, and the head's running maximum. -/
def half (arg8 : Memref sig .tc .vmem S16x128x128 .f32) (t g h : ℕ) (ht : t < 16) (hg : g < 4) (hh : h < 2)
    (x : FVec F S128x128 .f32) (c s acc : FVec F S8x128 .f32) : P F (FVec F S8x128 .f32) := do
  let x1 : FVec F S8x128 .f32 := extractStridedSlice S8x128 ![64 * h + 8 * g, 0] x (slice8 _ (by omega))
  let x2 : FVec F S8x128 .f32 := extractStridedSlice S8x128 ![64 * h + 32 + 8 * g, 0] x (slice8 _ (by omega))
  put8 arg8 t (64 * h + 8 * g) ht (by omega) (rot1 x1 x2 c s)
  put8 arg8 t (64 * h + 32 + 8 * g) ht (by omega) (rot2 x1 x2 c s)
  pure (maximumf acc (maximumf (absf (rot1 x1 x2 c s)) (absf (rot2 x1 x2 c s))))

/-- The cosines (times) of the sum of two angles, from the four looked-up values. -/
def cosSum (c0 s0 c1 s1 : FVec F S8x128 .f32) : FVec F S8x128 .f32 := subf (mulf c0 c1) (mulf s0 s1)
/-- The sines of the sum of two angles. -/
def sinSum (c0 s0 c1 s1 : FVec F S8x128 .f32) : FVec F S8x128 .f32 := addf (mulf s0 c1) (mulf c0 s1)

/-- One group of eight channel pairs of a tile, both heads. -/
def group (arg8 : Memref sig .tc .vmem S16x128x128 .f32) (arg9 : Memref sig .tc .vmem S4x32x128 .f32) (t : ℕ) (ht : t < 16)
    (p : IVec S8x128 32) (x : FVec F S128x128 .f32) (g : ℕ) (hg : g < 4)
    (a : FVec F S8x128 .f32 × FVec F S8x128 .f32) : P F (FVec F S8x128 .f32 × FVec F S8x128 .f32) := do
  let c0 ← lookup arg9 0 (8 * g) (by decide) (by omega) (hiOf p)
  let s0 ← lookup arg9 1 (8 * g) (by decide) (by omega) (hiOf p)
  let c1 ← lookup arg9 2 (8 * g) (by decide) (by omega) (loOf p)
  let s1 ← lookup arg9 3 (8 * g) (by decide) (by omega) (loOf p)
  let a0 ← half arg8 t g 0 ht hg (by decide) x (cosSum c0 s0 c1 s1) (sinSum c0 s0 c1 s1) a.1
  let a1 ← half arg8 t g 1 ht hg (by decide) x (cosSum c0 s0 c1 s1) (sinSum c0 s0 c1 s1) a.2
  pure (a0, a1)

/-- The first `n` of a run of steps, each from what the one before returned. -/
def steps {α : Type} (N : ℕ) (f : (n : ℕ) → n < N → α → P F α) (a : α) : (n : ℕ) → n ≤ N → P F α :=
  fun n => Nat.rec (motive := fun n => n ≤ N → P F α) (fun _ => pure a) (fun n ih h => ih (Nat.le_of_succ_le h) >>= f n h) n

/-- What the rotation pass carries: the two heads' running maxima of the keys and the values' one. -/
abbrev Acc (F : FTy → Type) := (FVec F S8x128 .f32 × FVec F S8x128 .f32) × FVec F S16x128 .bf16

/-- One tile of 128 positions: the keys rotated into scratch, the maxima updated. -/
def tile (i : grid0.Coords) (arg1 arg2 : Memref sig .tc .vmem S1x2048x128 .bf16) (arg8 : Memref sig .tc .vmem S16x128x128 .f32)
    (arg9 : Memref sig .tc .vmem S4x32x128 .f32) (arg10 : Memref sig .tc .vmem S8x1x2048 .i32) (t : ℕ) (ht : t < 16) (a : Acc F) : P F (Acc F) := do
  let p : Vec F S1x1x128 .i32 ← Prog.lift (.load arg10 (Rect.unit (s := S8x1x2048) ![(Scalar.indexCast (BitVec.ofNat 32 (i 0).val)).toNat, 0, 128 * t] S1x1x128.size (inbRow i t ht)).toLoadRect (View.loadsAt_vmem h_S1x1x128))
  let x : Vec F S1x128x128 .bf16 ← Prog.lift (.load arg1 (Rect.unit (s := S1x2048x128) ![0, 128 * t, 0] S1x128x128.size (inbX t ht)).toLoadRect (View.loadsAt_vmem h_S1x128x128))
  let k ← steps 4 (group arg8 arg9 t ht (spread (F := F) p) (keyTile x)) a.1 4 le_rfl
  let v : Vec F S1x128x128 .bf16 ← Prog.lift (.load arg2 (Rect.unit (s := S1x2048x128) ![0, 128 * t, 0] S1x128x128.size (inbX t ht)).toLoadRect (View.loadsAt_vmem h_S1x128x128))
  pure (k, accV a.2 v)

/-- One scale written into its lane. -/
def putScale (arg : Memref sig .tc .vmem S2x8 .f32) (b : BitVec 32) (h : ℕ) (hh : h < 2) (s : FVec F S1x1 .f32) : P F PUnit := do
  let row : Vec F S1x8 .f32 ← Prog.lift (.load arg (Rect.unit (s := S2x8) ![h, 0] S1x8.size (inbScale h hh)).toLoadRect (View.loadsAt_vmem h_S1x8))
  let _ : Vec F S1x8 .f32 ← Prog.lift (.load arg (Rect.unit (s := S2x8) ![h, 0] S1x8.size (inbScale h hh)).toLoadRect (View.loadsAt_vmem h_S1x8))
  Prog.lift (.store arg (Rect.unit (s := S2x8) ![h, 0] S1x8.size (inbScale h hh)) (laneSet b s row) Finset.univ (View.stores_vmem_bits_univ h_S1x8 rfl) (.inl rfl))

/-- One block of codes written. -/
def putCode (arg : Memref sig .tc .vmem S1x128x2048 .fp8e4m3) (harg : arg.IsWhole) (h t : ℕ) (hh : h < 2) (ht : t < 16) (w : FVec F S1x64x128 .fp8e4m3) : P F PUnit := do
  let _ : Vec F S1x64x128 .fp8e4m3 ← Prog.lift (.load arg (Rect.unit (s := S1x128x2048) ![0, 64 * h, 128 * t] S1x64x128.size (inbCode (64 * h) t (by omega) ht)).toLoadRect (View.loadsAt_vmem h_S1x64x128))
  Prog.lift (.store arg (Rect.unit (s := S1x128x2048) ![0, 64 * h, 128 * t] S1x64x128.size (inbCode (64 * h) t (by omega) ht)) w Finset.univ (View.stores_vmem h_S1x64x128 (harg.storeExact_slice rfl _ (packCode h t hh ht _)) (fun _ => rfl)) (.inl rfl))

/-- The codes of one head in one tile. -/
def codeHead (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (h t : ℕ) (hh : h < 2) (ht : t < 16) (v : FVec F S128x128 .bf16)
    (ik : FVec F S1x1 .f32) (iv : FVec F S1x1 .bf16) : P F PUnit := do
  let x : Vec F S1x64x128 .f32 ← Prog.lift (.load arg8 (Rect.unit (s := S16x128x128) ![t, 64 * h, 0] S1x64x128.size (inb64 t (64 * h) ht (by omega))).toLoadRect (View.loadsAt_vmem h_S1x64x128))
  putCode arg4 harg4 h t hh ht (codeK x ik)
  putCode arg6 harg6 h t hh ht (codeV (extractStridedSlice S64x128 ![64 * h, 0] v (slice64 (64 * h) (by omega))) iv)

/-- The codes of one tile. -/
def codeTile (arg2 : Memref sig .tc .vmem S1x2048x128 .bf16) (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (ik0 ik1 : FVec F S1x1 .f32) (iv0 iv1 : FVec F S1x1 .bf16) (t : ℕ) (ht : t < 16) (_ : PUnit) : P F PUnit := do
  let v : Vec F S1x128x128 .bf16 ← Prog.lift (.load arg2 (Rect.unit (s := S1x2048x128) ![0, 128 * t, 0] S1x128x128.size (inbX t ht)).toLoadRect (View.loadsAt_vmem h_S1x128x128))
  codeHead arg4 harg4 arg6 harg6 arg8 0 t (by decide) ht (valTile v) ik0 iv0
  codeHead arg4 harg4 arg6 harg6 arg8 1 t (by decide) ht (valTile v) ik1 iv1

/-- The half of the body after the tables are there. -/
def rest (i : grid0.Coords) (arg1 : Memref sig .tc .vmem S1x2048x128 .bf16) (arg2 : Memref sig .tc .vmem S1x2048x128 .bf16)
    (arg4 : Memref sig .tc .vmem S1x128x2048 .fp8e4m3) (harg4 : arg4.IsWhole) (arg5 : Memref sig .tc .vmem S2x8 .f32)
    (arg6 : Memref sig .tc .vmem S1x128x2048 .fp8e4m3) (harg6 : arg6.IsWhole) (arg7 : Memref sig .tc .vmem S2x8 .f32)
    (arg8 : Memref sig .tc .vmem S16x128x128 .f32) (arg9 : Memref sig .tc .vmem S4x32x128 .f32) (arg10 : Memref sig .tc .vmem S8x1x2048 .i32) : P F PUnit := do
  let a ← steps 16 (tile i arg1 arg2 arg8 arg9 arg10)
    ((broadcast S8x128 (Scalar.ofBits .f32 0x00000000#32), broadcast S8x128 (Scalar.ofBits .f32 0x00000000#32)), broadcast S16x128 (Scalar.ofBits .bf16 0x0000#16)) 16 le_rfl
  let v0 : FVec F S1x64 .f32 := extractStridedSlice S1x64 ![0, 0] (colMax a.2) slices_S1x128_o0_0_S1x64
  let v1 : FVec F S1x64 .f32 := extractStridedSlice S1x64 ![0, 64] (colMax a.2) slices_S1x128_o0_64_S1x64
  putScale arg5 (BitVec.ofNat 32 (i 0).val) 0 (by decide) (scaleOf (maxK a.1.1))
  putScale arg7 (BitVec.ofNat 32 (i 0).val) 0 (by decide) (scaleOf (maxV v0))
  putScale arg5 (BitVec.ofNat 32 (i 0).val) 1 (by decide) (scaleOf (maxK a.1.2))
  putScale arg7 (BitVec.ofNat 32 (i 0).val) 1 (by decide) (scaleOf (maxV v1))
  steps 16 (codeTile arg2 arg4 harg4 arg6 harg6 arg8 (invOf (maxK a.1.1)) (invOf (maxK a.1.2))
    (truncf .bf16 (invOf (maxV v0)) bitsLt_bf16_f32) (truncf .bf16 (invOf (maxV v1)) bitsLt_bf16_f32)) ⟨⟩ 16 le_rfl

/-- One table written. -/
def putTab (arg9 : Memref sig .tc .vmem S4x32x128 .f32) (c : ℕ) (hc : c < 4) (y : FVec F S32x128 .f32) : P F PUnit := do
  let _ : Vec F S1x32x128 .f32 ← Prog.lift (.load arg9 (Rect.unit (s := S4x32x128) ![c, 0, 0] S1x32x128.size (inbTabs c hc)).toLoadRect (View.loadsAt_vmem h_S1x32x128))
  Prog.lift (.store arg9 (Rect.unit (s := S4x32x128) ![c, 0, 0] S1x32x128.size (inbTabs c hc)) (shapeCast S1x32x128 y shapeCasts_S32x128_S1x32x128 : FVec F S1x32x128 .f32) Finset.univ (View.stores_vmem_bits_univ h_S1x32x128 rfl) (.inl rfl))

/-- One row of positions copied to scratch. -/
def putRow (arg3 : Memref sig .tc .vmem S8x2048 .i32) (arg10 : Memref sig .tc .vmem S8x1x2048 .i32) (r : ℕ) (hr : r < 8) (_ : PUnit) : P F PUnit := do
  let p : Vec F S1x2048 .i32 ← Prog.lift (.load arg3 (Rect.unit (s := S8x2048) ![r, 0] S1x2048.size (inbPos r hr)).toLoadRect (View.loadsAt_vmem h_S1x2048))
  let _ : Vec F S1x1x2048 .i32 ← Prog.lift (.load arg10 (Rect.unit (s := S8x1x2048) ![r, 0, 0] S1x1x2048.size (inbRows r hr)).toLoadRect (View.loadsAt_vmem h_S1x1x2048))
  Prog.lift (.store arg10 (Rect.unit (s := S8x1x2048) ![r, 0, 0] S1x1x2048.size (inbRows r hr)) (shapeCast S1x1x2048 p shapeCasts_S1x2048_S1x1x2048 : IVec S1x1x2048 32) Finset.univ (View.stores_vmem_bits_univ h_S1x1x2048 rfl) (.inl rfl))

/-- The tables and the rows of positions, written on the first batch row. -/
def setup (arg3 : Memref sig .tc .vmem S8x2048 .i32) (arg9 : Memref sig .tc .vmem S4x32x128 .f32) (arg10 : Memref sig .tc .vmem S8x1x2048 .i32) : P F PUnit := do
  putTab arg9 0 (by decide) (cos angleHi)
  putTab arg9 1 (by decide) (sin angleHi)
  putTab arg9 2 (by decide) (cos angleLo)
  putTab arg9 3 (by decide) (sin angleLo)
  steps 8 (putRow arg3 arg10) ⟨⟩ 8 le_rfl

/-- Whether this is the first batch row, as the kernel computes it. -/
abbrev first (i : grid0.Coords) : Prop :=
  Scalar.cmpi .ne (Scalar.extui (Scalar.cmpi .eq (BitVec.ofNat 32 (i 0).val) 0#32 : BitVec 1) : BitVec 32) 0#32 = 1#1

/-- The printed body on the first batch row. -/
theorem body_first (i : grid0.Coords) (hc : first i) (arg1 : Memref sig .tc .vmem S1x2048x128 .bf16) (harg1 : arg1.IsWhole) (arg2 : Memref sig .tc .vmem S1x2048x128 .bf16) (harg2 : arg2.IsWhole) (arg3 : Memref sig .tc .vmem S8x2048 .i32) (harg3 : arg3.IsWhole) (arg4 : Memref sig .tc .vmem S1x128x2048 .fp8e4m3) (harg4 : arg4.IsWhole) (arg5 : Memref sig .tc .vmem S2x8 .f32) (harg5 : arg5.IsWhole) (arg6 : Memref sig .tc .vmem S1x128x2048 .fp8e4m3) (harg6 : arg6.IsWhole) (arg7 : Memref sig .tc .vmem S2x8 .f32) (harg7 : arg7.IsWhole) (arg8 : Memref sig .tc .vmem S16x128x128 .f32) (harg8 : arg8.IsWhole) (arg9 : Memref sig .tc .vmem S4x32x128 .f32) (harg9 : arg9.IsWhole) (arg10 : Memref sig .tc .vmem S8x1x2048 .i32) (harg10 : arg10.IsWhole) :
    cc0_rope_fp8_kv_quant (F := F) i arg1 harg1 arg2 harg2 arg3 harg3 arg4 harg4 arg5 harg5 arg6 harg6 arg7 harg7 arg8 harg8 arg9 harg9 arg10 harg10
      = (setup arg3 arg9 arg10 >>= fun _ => rest i arg1 arg2 arg4 harg4 arg5 arg6 harg6 arg7 arg8 arg9 arg10) := by
  unfold cc0_rope_fp8_kv_quant k0_part170 k0_part6
  dsimp only
  rw [dif_pos hc]
  sl_kernel_rfl

/-- The printed body on every other batch row. -/
theorem body_later (i : grid0.Coords) (hc : ¬ first i) (arg1 : Memref sig .tc .vmem S1x2048x128 .bf16) (harg1 : arg1.IsWhole) (arg2 : Memref sig .tc .vmem S1x2048x128 .bf16) (harg2 : arg2.IsWhole) (arg3 : Memref sig .tc .vmem S8x2048 .i32) (harg3 : arg3.IsWhole) (arg4 : Memref sig .tc .vmem S1x128x2048 .fp8e4m3) (harg4 : arg4.IsWhole) (arg5 : Memref sig .tc .vmem S2x8 .f32) (harg5 : arg5.IsWhole) (arg6 : Memref sig .tc .vmem S1x128x2048 .fp8e4m3) (harg6 : arg6.IsWhole) (arg7 : Memref sig .tc .vmem S2x8 .f32) (harg7 : arg7.IsWhole) (arg8 : Memref sig .tc .vmem S16x128x128 .f32) (harg8 : arg8.IsWhole) (arg9 : Memref sig .tc .vmem S4x32x128 .f32) (harg9 : arg9.IsWhole) (arg10 : Memref sig .tc .vmem S8x1x2048 .i32) (harg10 : arg10.IsWhole) :
    cc0_rope_fp8_kv_quant (F := F) i arg1 harg1 arg2 harg2 arg3 harg3 arg4 harg4 arg5 harg5 arg6 harg6 arg7 harg7 arg8 harg8 arg9 harg9 arg10 harg10
      = rest i arg1 arg2 arg4 harg4 arg5 arg6 harg6 arg7 arg8 arg9 arg10 := by
  unfold cc0_rope_fp8_kv_quant k0_part170 k0_part6
  dsimp only
  rw [dif_neg hc]
  sl_kernel_rfl

end Cert.KernelIdeal.Rope

end
-- ==== Proof.Rope.Triple.lean ====
/- What one load, one store and a run of steps do, told by the contents of the buffers. -/
module

public import proofs.«01_k».proof.Proof.Rope.Body
public import Idealize.ShloMosaic.Lib.Pipeline.FrameBody
public import Idealize.ShloMosaic.Lib.Writes

@[expose] public section

set_option maxRecDepth 16384

noncomputable section

namespace Cert.KernelIdeal.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The weakest precondition of a kernel program on one core. -/
abbrev WP (c : Dev nD) (E : Set ℕ) {α : Type} (p : P F α) (Q : α → sProp 𝕄) : sProp 𝕄 :=
  wp frame (wpE (defs₀ (F := F)) Variants.none (c : Thread nD τ) none) E p Q

/-- A buffer of the core at contents `X`. -/
abbrev own (c : Dev nD) {s : Shape} {e : EltTy} (m : Memref sig .tc .vmem s e) (X : s.Idx → Elt F e) : sProp 𝕄 :=
  owns (c : Thread nD τ) m fullShare X

/-- A load hands on the part of the contents it reads. -/
theorem wp_ld (c : Dev nD) (E : Set ℕ) {s : Shape} {e : EltTy} {m : Memref sig .tc .vmem s e} {r : Rect s} {hl : m.view.LoadsAt r.toLoadRect}
    (X : s.Idx → Elt F e) (Q : (r.shape.Idx → Elt F e) → sProp 𝕄) :
    iprop(own c m X ∗ (∀ v, ⌜v = fun j => X (r.emb j)⌝ -∗ own c m X -∗ Q v)) ⊢ WP (F := F) c E (Prog.lift (.load m r.toLoadRect hl)) Q := by
  unfold own owns
  iintro ⟨⟨%f, %hf, H⟩, Hk⟩
  subst hf
  iapply (wp_load (defs := defs₀ (F := F)) Variants.none (c : Thread nD τ) none E (S := m.view.set) (m.view.setOn_subset_set _)) $$ [H]
  · iexact H
  iintro H
  iapply (le_wp_ret frame (wpE (defs₀ (F := F)) Variants.none (c : Thread nD τ) none) E _ Q)
  iapply Hk $$ %(m.view.readAt (Elt F) r.toLoadRect f) [] [H]
  · ipureintro; rfl
  iexists f
  isplitr
  · ipureintro; rfl
  · iexact H

/-- A store leaves its payload on its rectangle and everything else as it was. -/
theorem wp_st (c : Dev nD) (E : Set ℕ) {s : Shape} {e : EltTy} {m : Memref sig .tc .vmem s e} {r : Rect s} {w : r.shape.Idx → Elt F e}
    {hx : (m.access r).Stores Finset.univ} {hm : Finset.univ = Finset.univ ∨ ∀ a, r.stride a = 1}
    (X : s.Idx → Elt F e) (Q : PUnit → sProp 𝕄) :
    iprop(own c m X ∗ (∀ X', ⌜(∀ j, X' (r.emb j) = w j) ∧ ∀ y, y ∉ r.set → X' y = X y⌝ -∗ own c m X' -∗ Q ⟨⟩))
      ⊢ WP (F := F) c E (Prog.lift (.store m r w Finset.univ hx hm)) Q := by
  unfold own owns
  iintro ⟨⟨%f, %hf, H⟩, Hk⟩
  subst hf
  iapply (wp_store_writes₀ (defs := defs₀ (F := F)) Variants.none (c : Thread nD τ) none E (S := m.view.set) (View.set_slice_subset _ _)) $$ [H]
  · iexact H
  iintro H
  iapply (le_wp_ret frame (wpE (defs₀ (F := F)) Variants.none (c : Thread nD τ) none) E _ Q)
  iapply Hk $$ %(m.view.read (Elt F) (m.view.writes (Elt F) f [⟨r, w⟩])) [] [H]
  · ipureintro
    refine ⟨fun j => View.read_writes_cons_emb _ _ r w [] j, fun y hy => ?_⟩
    exact View.read_writes_cons_miss _ _ ⟨r, w⟩ [] y hy
  · iexists _
    isplitr
    · ipureintro; rfl
    · iexact H

/-- A continuation proved from a program's own postcondition. -/
theorem wp_then (c : Dev nD) (E : Set ℕ) {α : Type} {p : P F α} {A : sProp 𝕄} {R : α → sProp 𝕄} (h : A ⊢ WP c E p R) (Q : α → sProp 𝕄) :
    iprop(A ∗ (∀ a, R a -∗ Q a)) ⊢ WP c E p Q := by
  iintro ⟨HA, Hk⟩
  iapply (wp_wand_r frame (wpE (defs₀ (F := F)) Variants.none (c : Thread nD τ) none) E)
  isplitl [HA]
  · iapply h; iexact HA
  · iexact Hk

/-- A returned value. -/
theorem wp_val (c : Dev nD) (E : Set ℕ) {α : Type} (a : α) (Q : α → sProp 𝕄) : Q a ⊢ WP (F := F) c E (pure a) Q :=
  le_wp_ret frame (wpE (defs₀ (F := F)) Variants.none (c : Thread nD τ) none) E a Q

/-- One program after another. -/
theorem wp_seq (c : Dev nD) (E : Set ℕ) {α β : Type} (p : P F α) (k : α → P F β) (Q : β → sProp 𝕄) :
    WP c E p (fun a => WP c E (k a) Q) ⊢ WP c E (p >>= k) Q := by
  exact BIBase.Entails.of_eq (wp_bind frame (wpE (defs₀ (F := F)) Variants.none (c : Thread nD τ) none) E p k Q).symm

/-- An invariant of every step holds after a run of steps. -/
theorem wp_steps (c : Dev nD) (E : Set ℕ) {α : Type} (N : ℕ) (f : (n : ℕ) → n < N → α → P F α) (I : ℕ → α → sProp 𝕄)
    (h : ∀ n (hn : n < N) a, I n a ⊢ WP c E (f n hn a) (I (n + 1))) (a : α) :
    ∀ n (hn : n ≤ N), I 0 a ⊢ WP c E (steps N f a n hn) (I n)
  | 0, _ => wp_val c E a _
  | n + 1, hn => ((wp_steps c E N f I h a n (Nat.le_of_succ_le hn)).trans
      (wp_mono frame (wpE (defs₀ (F := F)) Variants.none (c : Thread nD τ) none) E (fun x => h n hn x))).trans
      (wp_seq c E (steps N f a n (Nat.le_of_succ_le hn)) (f n hn) _)

/-- The first `n` steps of a run of pure steps. -/
def iter {α : Type} (N : ℕ) (f : (n : ℕ) → n < N → α → α) (a : α) : (n : ℕ) → n ≤ N → α
  | 0, _ => a
  | n + 1, h => f n h (iter N f a n (Nat.le_of_succ_le h))

/-! ## What the kernel's units read and write -/

/-- Eight rows of one table. -/
def tabAt (T : S4x32x128.Idx → Elt F .f32) (c r : ℕ) (hc : c < 4) (hr : r ≤ 24) : Vec F S1x8x128 .f32 :=
  fun j => T ((Rect.unit (s := S4x32x128) ![c, r, 0] S1x8x128.size (inbTab c r hc hr)).emb j)

/-- The positions of one tile. -/
def posAt (R : S8x1x2048.Idx → Elt F .i32) (i : grid0.Coords) (t : ℕ) (ht : t < 16) : Vec F S1x1x128 .i32 :=
  fun j => R ((Rect.unit (s := S8x1x2048) ![(Scalar.indexCast (BitVec.ofNat 32 (i 0).val)).toNat, 0, 128 * t] S1x1x128.size (inbRow i t ht)).emb j)

/-- One tile of an input block. -/
def blkAt (X : S1x2048x128.Idx → Elt F .bf16) (t : ℕ) (ht : t < 16) : Vec F S1x128x128 .bf16 :=
  fun j => X ((Rect.unit (s := S1x2048x128) ![0, 128 * t, 0] S1x128x128.size (inbX t ht)).emb j)

/-- The cosines of one group's angles. -/
def cosG (T : S4x32x128.Idx → Elt F .f32) (p : IVec S8x128 32) (g : ℕ) (hg : g < 4) : FVec F S8x128 .f32 :=
  cosSum (look (tabAt T 0 (8 * g) (by decide) (by omega)) (hiOf p)) (look (tabAt T 1 (8 * g) (by decide) (by omega)) (hiOf p))
    (look (tabAt T 2 (8 * g) (by decide) (by omega)) (loOf p)) (look (tabAt T 3 (8 * g) (by decide) (by omega)) (loOf p))
/-- The sines of one group's angles. -/
def sinG (T : S4x32x128.Idx → Elt F .f32) (p : IVec S8x128 32) (g : ℕ) (hg : g < 4) : FVec F S8x128 .f32 :=
  sinSum (look (tabAt T 0 (8 * g) (by decide) (by omega)) (hiOf p)) (look (tabAt T 1 (8 * g) (by decide) (by omega)) (hiOf p))
    (look (tabAt T 2 (8 * g) (by decide) (by omega)) (loOf p)) (look (tabAt T 3 (8 * g) (by decide) (by omega)) (loOf p))

/-- The first rotated half of one group of one head. -/
def out1 (x : FVec F S128x128 .f32) (h g : ℕ) (hh : h < 2) (hg : g < 4) (c s : FVec F S8x128 .f32) : FVec F S8x128 .f32 :=
  rot1 (extractStridedSlice S8x128 ![64 * h + 8 * g, 0] x (slice8 _ (by omega))) (extractStridedSlice S8x128 ![64 * h + 32 + 8 * g, 0] x (slice8 _ (by omega))) c s
/-- The second rotated half of one group of one head. -/
def out2 (x : FVec F S128x128 .f32) (h g : ℕ) (hh : h < 2) (hg : g < 4) (c s : FVec F S8x128 .f32) : FVec F S8x128 .f32 :=
  rot2 (extractStridedSlice S8x128 ![64 * h + 8 * g, 0] x (slice8 _ (by omega))) (extractStridedSlice S8x128 ![64 * h + 32 + 8 * g, 0] x (slice8 _ (by omega))) c s
/-- One head's running maximum after one group. -/
def halfAcc (x : FVec F S128x128 .f32) (h g : ℕ) (hh : h < 2) (hg : g < 4) (c s acc : FVec F S8x128 .f32) : FVec F S8x128 .f32 :=
  maximumf acc (maximumf (absf (out1 x h g hh hg c s)) (absf (out2 x h g hh hg c s)))

/-- Both heads' running maxima after one group. -/
def groupAcc (T : S4x32x128.Idx → Elt F .f32) (p : IVec S8x128 32) (x : FVec F S128x128 .f32) (g : ℕ) (hg : g < 4)
    (a : FVec F S8x128 .f32 × FVec F S8x128 .f32) : FVec F S8x128 .f32 × FVec F S8x128 .f32 :=
  (halfAcc x 0 g (by decide) hg (cosG T p g hg) (sinG T p g hg) a.1, halfAcc x 1 g (by decide) hg (cosG T p g hg) (sinG T p g hg) a.2)

/-- The maxima after one tile. -/
def tileAcc (X1 X2 : S1x2048x128.Idx → Elt F .bf16) (T : S4x32x128.Idx → Elt F .f32) (R : S8x1x2048.Idx → Elt F .i32) (i : grid0.Coords)
    (t : ℕ) (ht : t < 16) (a : Acc F) : Acc F :=
  (iter 4 (groupAcc T (spread (F := F) (posAt R i t ht)) (keyTile (blkAt X1 t ht))) a.1 4 le_rfl, accV a.2 (blkAt X2 t ht))

/-- What the accumulators start at. -/
def acc0 : Acc F :=
  ((broadcast S8x128 (Scalar.ofBits .f32 0x00000000#32), broadcast S8x128 (Scalar.ofBits .f32 0x00000000#32)), broadcast S16x128 (Scalar.ofBits .bf16 0x0000#16))

/-- The maxima after all tiles. -/
def accAll (X1 X2 : S1x2048x128.Idx → Elt F .bf16) (T : S4x32x128.Idx → Elt F .f32) (R : S8x1x2048.Idx → Elt F .i32) (i : grid0.Coords) : Acc F :=
  iter 16 (tileAcc X1 X2 T R i) acc0 16 le_rfl

/-- What it is to be the rotated keys of a step: what each group writes, at the rows it writes. -/
def IsRot (X1 : S1x2048x128.Idx → Elt F .bf16) (T : S4x32x128.Idx → Elt F .f32) (R : S8x1x2048.Idx → Elt F .i32) (i : grid0.Coords)
    (G : S16x128x128.Idx → Elt F .f32) : Prop :=
  ∀ t (ht : t < 16) g (hg : g < 4) h (hh : h < 2),
    (∀ j, G ((Rect.unit (s := S16x128x128) ![t, 64 * h + 8 * g, 0] S1x8x128.size (inb8 t (64 * h + 8 * g) ht (by omega))).emb j)
      = shapeCast S1x8x128 (out1 (keyTile (blkAt X1 t ht)) h g hh hg (cosG T (spread (F := F) (posAt R i t ht)) g hg) (sinG T (spread (F := F) (posAt R i t ht)) g hg)) shapeCasts_S8x128_S1x8x128 j)
    ∧ ∀ j, G ((Rect.unit (s := S16x128x128) ![t, 64 * h + 32 + 8 * g, 0] S1x8x128.size (inb8 t (64 * h + 32 + 8 * g) ht (by omega))).emb j)
      = shapeCast S1x8x128 (out2 (keyTile (blkAt X1 t ht)) h g hh hg (cosG T (spread (F := F) (posAt R i t ht)) g hg) (sinG T (spread (F := F) (posAt R i t ht)) g hg)) shapeCasts_S8x128_S1x8x128 j

/-- The entries rotated before half `h` of group `g` of tile `t`. -/
def D8 (t g h : ℕ) (y : S16x128x128.Idx) : Prop :=
  (y 0).val < t ∨ ((y 0).val = t ∧ ((y 1).val % 32 / 8 < g ∨ ((y 1).val % 32 / 8 = g ∧ (y 1).val / 64 < h)))

/-- Contents that agree with `G` on `D`. -/
def Agree {s : Shape} {e : EltTy} (G : s.Idx → Elt F e) (D : s.Idx → Prop) (X : s.Idx → Elt F e) : Prop := ∀ y, D y → X y = G y

theorem Agree.mono {s : Shape} {e : EltTy} {G : s.Idx → Elt F e} {D D' : s.Idx → Prop} {X : s.Idx → Elt F e} (h : Agree G D X) (hD : ∀ y, D' y → D y) : Agree G D' X :=
  fun y hy => h y (hD y hy)

/-- A store of `G`'s entries enlarges the agreement by its rectangle. -/
theorem Agree.put {s : Shape} {e : EltTy} {G : s.Idx → Elt F e} {D D' : s.Idx → Prop} {X X' : s.Idx → Elt F e} {r : Rect s} {w : r.shape.Idx → Elt F e}
    (h : Agree G D X) (hX : (∀ j, X' (r.emb j) = w j) ∧ ∀ y, y ∉ r.set → X' y = X y) (hG : ∀ j, G (r.emb j) = w j)
    (hD : ∀ y, D' y → y ∈ r.set ∨ D y) : Agree G D' X' := by
  intro y hy
  by_cases hm : y ∈ r.set
  · obtain ⟨x, rfl⟩ : ∃ x, r.emb x = y := r.exists_idx_of_mem hm
    rw [hX.1, hG]
  · rw [hX.2 y hm, h y ((hD y hy).resolve_left hm)]

theorem lookup_spec (c : Dev nD) (E : Set ℕ) (arg9 : Memref sig .tc .vmem S4x32x128 .f32) (k r : ℕ) (hk : k < 4) (hr : r ≤ 24) (p : IVec S8x128 32)
    (T : S4x32x128.Idx → Elt F .f32) (Q : FVec F S8x128 .f32 → sProp 𝕄) :
    iprop(own c arg9 T ∗ (own c arg9 T -∗ Q (look (tabAt T k r hk hr) p))) ⊢ WP c E (lookup arg9 k r hk hr p) Q := by
  unfold lookup
  refine BIBase.Entails.trans ?_ (wp_seq c E _ _ _)
  iintro ⟨H, Hk⟩
  iapply (wp_ld c E T)
  isplitl [H]
  · iexact H
  iintro %v %hv H
  obtain rfl : v = tabAt T k r hk hr := hv
  iapply (wp_val c E)
  iapply Hk
  iexact H

theorem put8_spec (c : Dev nD) (E : Set ℕ) (arg8 : Memref sig .tc .vmem S16x128x128 .f32) (t r : ℕ) (ht : t < 16) (hr : r ≤ 120) (y : FVec F S8x128 .f32)
    (X : S16x128x128.Idx → Elt F .f32) (Q : PUnit → sProp 𝕄) :
    iprop(own c arg8 X ∗ (∀ X', ⌜(∀ j, X' ((Rect.unit (s := S16x128x128) ![t, r, 0] S1x8x128.size (inb8 t r ht hr)).emb j) = shapeCast S1x8x128 y shapeCasts_S8x128_S1x8x128 j)
        ∧ ∀ z, z ∉ (Rect.unit (s := S16x128x128) ![t, r, 0] S1x8x128.size (inb8 t r ht hr)).set → X' z = X z⌝ -∗ own c arg8 X' -∗ Q ⟨⟩))
      ⊢ WP c E (put8 arg8 t r ht hr y) Q := by
  unfold put8
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iexact Hk

theorem half_spec (c : Dev nD) (E : Set ℕ) (arg8 : Memref sig .tc .vmem S16x128x128 .f32) (t g h : ℕ) (ht : t < 16) (hg : g < 4) (hh : h < 2)
    (x : FVec F S128x128 .f32) (co si acc : FVec F S8x128 .f32) (G X : S16x128x128.Idx → Elt F .f32)
    (h1 : ∀ j, G ((Rect.unit (s := S16x128x128) ![t, 64 * h + 8 * g, 0] S1x8x128.size (inb8 t (64 * h + 8 * g) ht (by omega))).emb j) = shapeCast S1x8x128 (out1 x h g hh hg co si) shapeCasts_S8x128_S1x8x128 j)
    (h2 : ∀ j, G ((Rect.unit (s := S16x128x128) ![t, 64 * h + 32 + 8 * g, 0] S1x8x128.size (inb8 t (64 * h + 32 + 8 * g) ht (by omega))).emb j) = shapeCast S1x8x128 (out2 x h g hh hg co si) shapeCasts_S8x128_S1x8x128 j)
    (hX : Agree G (D8 t g h) X) (Q : FVec F S8x128 .f32 → sProp 𝕄) :
    iprop(own c arg8 X ∗ (∀ X', ⌜Agree G (D8 t g (h + 1)) X'⌝ -∗ own c arg8 X' -∗ Q (halfAcc x h g hh hg co si acc))) ⊢ WP c E (half arg8 t g h ht hg hh x co si acc) Q := by
  change _ ⊢ WP c E (put8 arg8 t (64 * h + 8 * g) ht (by omega) (out1 x h g hh hg co si) >>= fun _ =>
    put8 arg8 t (64 * h + 32 + 8 * g) ht (by omega) (out2 x h g hh hg co si) >>= fun _ => pure (halfAcc x h g hh hg co si acc)) Q
  refine BIBase.Entails.trans ?_ (wp_seq c E _ _ _)
  iintro ⟨H, Hk⟩
  iapply (put8_spec c E arg8 t (64 * h + 8 * g) ht _ _ X)
  isplitl [H]
  · iexact H
  iintro %X' %hX' H
  iapply (wp_seq c E)
  iapply (put8_spec c E arg8 t (64 * h + 32 + 8 * g) ht _ _ X')
  isplitl [H]
  · iexact H
  iintro %X'' %hX'' H
  iapply (wp_val c E)
  iapply Hk $$ %X'' [] [H]
  · ipureintro
    have a1 : Agree G (fun y => y ∈ (Rect.unit (s := S16x128x128) ![t, 64 * h + 8 * g, 0] S1x8x128.size (inb8 t (64 * h + 8 * g) ht (by omega))).set ∨ D8 t g h y) X' :=
      Agree.put (r := Rect.unit (s := S16x128x128) ![t, 64 * h + 8 * g, 0] S1x8x128.size (inb8 t (64 * h + 8 * g) ht (by omega))) hX hX' h1 fun y hy => hy
    refine Agree.put (r := Rect.unit (s := S16x128x128) ![t, 64 * h + 32 + 8 * g, 0] S1x8x128.size (inb8 t (64 * h + 32 + 8 * g) ht (by omega))) a1 hX'' h2 fun y hy => ?_
    have hm : ∀ r (hr : r ≤ 120), y ∈ (Rect.unit (s := S16x128x128) ![t, r, 0] S1x8x128.size (inb8 t r ht hr)).set ↔ (y 0).val = t ∧ r ≤ (y 1).val ∧ (y 1).val < r + 8 := by
      intro r hr
      rw [Rect.mem_set_unit]
      constructor
      · intro hy
        have b0 : t ≤ (y 0).val ∧ (y 0).val < t + 1 := hy 0
        have b1 : r ≤ (y 1).val ∧ (y 1).val < r + 8 := hy 1
        omega
      · rintro ⟨b0, b1, b2⟩ a
        have b3 : (y 2).val < 128 := (y 2).isLt
        fin_cases a
        · show t ≤ (y 0).val ∧ (y 0).val < t + 1; omega
        · show r ≤ (y 1).val ∧ (y 1).val < r + 8; omega
        · show 0 ≤ (y 2).val ∧ (y 2).val < 0 + 128; omega
    rw [hm _ (by omega), hm _ (by omega)]
    have b1 : (y 1).val < 128 := (y 1).isLt
    unfold D8 at hy ⊢
    omega
  · iexact H

theorem group_spec (c : Dev nD) (E : Set ℕ) (arg8 : Memref sig .tc .vmem S16x128x128 .f32) (arg9 : Memref sig .tc .vmem S4x32x128 .f32) (t : ℕ) (ht : t < 16)
    (X1 : S1x2048x128.Idx → Elt F .bf16) (T : S4x32x128.Idx → Elt F .f32) (R : S8x1x2048.Idx → Elt F .i32) (i : grid0.Coords)
    (G : S16x128x128.Idx → Elt F .f32) (hG : IsRot X1 T R i G) (g : ℕ) (hg : g < 4) (a : FVec F S8x128 .f32 × FVec F S8x128 .f32) (a' : FVec F S8x128 .f32 × FVec F S8x128 .f32) :
    iprop(⌜a = a'⌝ ∗ (∃ X8, ⌜Agree G (D8 t g 0) X8⌝ ∗ own c arg8 X8) ∗ own c arg9 T)
      ⊢ WP c E (group arg8 arg9 t ht (spread (F := F) (posAt R i t ht)) (keyTile (blkAt X1 t ht)) g hg a)
        (fun b => iprop(⌜b = groupAcc T (spread (F := F) (posAt R i t ht)) (keyTile (blkAt X1 t ht)) g hg a'⌝ ∗ (∃ X8, ⌜Agree G (D8 t (g + 1) 0) X8⌝ ∗ own c arg8 X8) ∗ own c arg9 T)) := by
  unfold group
  iintro ⟨%ha, ⟨%X8, %h8, H8⟩, H9⟩
  subst ha
  iapply (wp_seq c E)
  iapply (lookup_spec c E arg9 0 (8 * g) _ _ _ T)
  isplitl [H9]
  · iexact H9
  iintro H9
  iapply (wp_seq c E)
  iapply (lookup_spec c E arg9 1 (8 * g) _ _ _ T)
  isplitl [H9]
  · iexact H9
  iintro H9
  iapply (wp_seq c E)
  iapply (lookup_spec c E arg9 2 (8 * g) _ _ _ T)
  isplitl [H9]
  · iexact H9
  iintro H9
  iapply (wp_seq c E)
  iapply (lookup_spec c E arg9 3 (8 * g) _ _ _ T)
  isplitl [H9]
  · iexact H9
  iintro H9
  iapply (wp_seq c E)
  iapply (half_spec c E arg8 t g 0 ht hg (by decide) _ _ _ _ G X8 (hG t ht g hg 0 (by decide)).1 (hG t ht g hg 0 (by decide)).2 h8)
  isplitl [H8]
  · iexact H8
  iintro %X8' %h8' H8
  iapply (wp_seq c E)
  iapply (half_spec c E arg8 t g 1 ht hg (by decide) _ _ _ _ G X8' (hG t ht g hg 1 (by decide)).1 (hG t ht g hg 1 (by decide)).2 h8')
  isplitl [H8]
  · iexact H8
  iintro %X8'' %h8'' H8
  iapply (wp_val c E)
  isplitr
  · ipureintro; rfl
  isplitl [H8]
  · iexists X8''
    isplitr
    · ipureintro
      refine h8''.mono fun y hy => ?_
      have b1 : (y 1).val < 128 := (y 1).isLt
      unfold D8 at hy ⊢
      omega
    · iexact H8
  · iexact H9

/-- Contents that agree with `G` everywhere are `G`. -/
theorem Agree.all {s : Shape} {e : EltTy} {G : s.Idx → Elt F e} {D : s.Idx → Prop} {X : s.Idx → Elt F e} (h : Agree G D X) (hD : ∀ y, D y) : X = G :=
  funext fun y => h y (hD y)

theorem tile_spec (c : Dev nD) (E : Set ℕ) (i : grid0.Coords) (arg1 arg2 : Memref sig .tc .vmem S1x2048x128 .bf16)
    (arg8 : Memref sig .tc .vmem S16x128x128 .f32) (arg9 : Memref sig .tc .vmem S4x32x128 .f32) (arg10 : Memref sig .tc .vmem S8x1x2048 .i32)
    (X1 X2 : S1x2048x128.Idx → Elt F .bf16) (T : S4x32x128.Idx → Elt F .f32) (R : S8x1x2048.Idx → Elt F .i32)
    (G : S16x128x128.Idx → Elt F .f32) (hG : IsRot X1 T R i G) (t : ℕ) (ht : t < 16) (a : Acc F) :
    iprop(⌜∀ h, a = iter 16 (tileAcc X1 X2 T R i) acc0 t h⌝ ∗ own c arg1 X1 ∗ own c arg2 X2 ∗ (∃ X8, ⌜Agree G (D8 t 0 0) X8⌝ ∗ own c arg8 X8) ∗ own c arg9 T ∗ own c arg10 R)
      ⊢ WP c E (tile i arg1 arg2 arg8 arg9 arg10 t ht a)
        (fun b => iprop(⌜∀ h, b = iter 16 (tileAcc X1 X2 T R i) acc0 (t + 1) h⌝ ∗ own c arg1 X1 ∗ own c arg2 X2 ∗ (∃ X8, ⌜Agree G (D8 (t + 1) 0 0) X8⌝ ∗ own c arg8 X8) ∗ own c arg9 T ∗ own c arg10 R)) := by
  unfold tile
  iintro ⟨%ha, H1, H2, H8, H9, H10⟩
  obtain rfl := ha (Nat.le_of_lt ht)
  iapply (wp_seq c E)
  iapply (wp_ld c E R)
  isplitl [H10]
  · iexact H10
  iintro %p %hp H10
  obtain rfl : p = posAt R i t ht := hp
  iapply (wp_seq c E)
  iapply (wp_ld c E X1)
  isplitl [H1]
  · iexact H1
  iintro %x %hx H1
  obtain rfl : x = blkAt X1 t ht := hx
  iapply (wp_seq c E)
  iapply (wp_then c E (wp_steps c E 4 (group arg8 arg9 t ht (spread (F := F) (posAt R i t ht)) (keyTile (blkAt X1 t ht)))
    (fun n b => iprop(⌜∀ h, b = iter 4 (groupAcc T (spread (F := F) (posAt R i t ht)) (keyTile (blkAt X1 t ht))) (iter 16 (tileAcc X1 X2 T R i) acc0 t (Nat.le_of_lt ht)).1 n h⌝
      ∗ (∃ X8, ⌜Agree G (D8 t n 0) X8⌝ ∗ own c arg8 X8) ∗ own c arg9 T)) ?_ _ 4 le_rfl))
  · intro n hn b
    iintro ⟨%hb, H8, H9⟩
    iapply (wp_then c E (group_spec c E arg8 arg9 t ht X1 T R i G hG n hn b _))
    isplitl [H8 H9]
    · isplitr
      · ipureintro; exact hb (Nat.le_of_lt hn)
      isplitl [H8]
      · iexact H8
      · iexact H9
    iintro %b' ⟨%hb', H8, H9⟩
    isplitr
    · ipureintro; intro h; exact hb'
    isplitl [H8]
    · iexact H8
    · iexact H9
  isplitl [H8 H9]
  · isplitr
    · ipureintro; intro h; rfl
    isplitl [H8]
    · iexact H8
    · iexact H9
  iintro %k ⟨%hk, ⟨%X8, %h8, H8⟩, H9⟩
  iapply (wp_seq c E)
  iapply (wp_ld c E X2)
  isplitl [H2]
  · iexact H2
  iintro %v %hv H2
  obtain rfl : v = blkAt X2 t ht := hv
  iapply (wp_val c E)
  isplitr
  · ipureintro; intro h; rw [hk le_rfl]; rfl
  isplitl [H1]
  · iexact H1
  isplitl [H2]
  · iexact H2
  isplitl [H8]
  · iexists X8
    isplitr
    · ipureintro
      refine h8.mono fun y hy => ?_
      have b1 : (y 1).val < 128 := (y 1).isLt
      unfold D8 at hy ⊢
      omega
    · iexact H8
  isplitl [H9]
  · iexact H9
  · iexact H10

/-! ## The scales -/

/-- The contents of a block of scales after one lane of both rows is replaced. -/
def Lane (b : BitVec 32) (s0 s1 : FVec F S1x1 .f32) (X X' : S2x8.Idx → Elt F .f32) : Prop :=
  (∀ j, X' ((Rect.unit (s := S2x8) ![0, 0] S1x8.size (inbScale 0 (by decide))).emb j) = laneSet b s0 (fun j => X ((Rect.unit (s := S2x8) ![0, 0] S1x8.size (inbScale 0 (by decide))).emb j)) j)
  ∧ ∀ j, X' ((Rect.unit (s := S2x8) ![1, 0] S1x8.size (inbScale 1 (by decide))).emb j) = laneSet b s1 (fun j => X ((Rect.unit (s := S2x8) ![1, 0] S1x8.size (inbScale 1 (by decide))).emb j)) j

theorem putScale_spec (c : Dev nD) (E : Set ℕ) (arg : Memref sig .tc .vmem S2x8 .f32) (b : BitVec 32) (h : ℕ) (hh : h < 2) (s : FVec F S1x1 .f32)
    (X : S2x8.Idx → Elt F .f32) (Q : PUnit → sProp 𝕄) :
    iprop(own c arg X ∗ (∀ X', ⌜(∀ j, X' ((Rect.unit (s := S2x8) ![h, 0] S1x8.size (inbScale h hh)).emb j) = laneSet b s (fun j => X ((Rect.unit (s := S2x8) ![h, 0] S1x8.size (inbScale h hh)).emb j)) j)
        ∧ ∀ z, z ∉ (Rect.unit (s := S2x8) ![h, 0] S1x8.size (inbScale h hh)).set → X' z = X z⌝ -∗ own c arg X' -∗ Q ⟨⟩))
      ⊢ WP c E (putScale arg b h hh s) Q := by
  unfold putScale
  refine BIBase.Entails.trans ?_ (wp_seq c E _ _ _)
  iintro ⟨H, Hk⟩
  iapply (wp_ld c E X)
  isplitl [H]
  · iexact H
  iintro %v %hv H
  subst hv
  iapply (wp_seq c E)
  iapply (wp_ld c E X)
  isplitl [H]
  · iexact H
  iintro %v' %hv' H
  iapply (wp_st c E X)
  isplitl [H]
  · iexact H
  iexact Hk

/-- Both rows' stores make the lane's replacement. -/
theorem Lane.of_two {b : BitVec 32} {s0 s1 : FVec F S1x1 .f32} {X X' X'' : S2x8.Idx → Elt F .f32}
    (h0 : (∀ j, X' ((Rect.unit (s := S2x8) ![0, 0] S1x8.size (inbScale 0 (by decide))).emb j) = laneSet b s0 (fun j => X ((Rect.unit (s := S2x8) ![0, 0] S1x8.size (inbScale 0 (by decide))).emb j)) j)
        ∧ ∀ z, z ∉ (Rect.unit (s := S2x8) ![0, 0] S1x8.size (inbScale 0 (by decide))).set → X' z = X z)
    (h1 : (∀ j, X'' ((Rect.unit (s := S2x8) ![1, 0] S1x8.size (inbScale 1 (by decide))).emb j) = laneSet b s1 (fun j => X' ((Rect.unit (s := S2x8) ![1, 0] S1x8.size (inbScale 1 (by decide))).emb j)) j)
        ∧ ∀ z, z ∉ (Rect.unit (s := S2x8) ![1, 0] S1x8.size (inbScale 1 (by decide))).set → X'' z = X' z) : Lane b s0 s1 X X'' := by
  have n01 : ∀ j, ((Rect.unit (s := S2x8) ![0, 0] S1x8.size (inbScale 0 (by decide))).emb j) ∉ (Rect.unit (s := S2x8) ![1, 0] S1x8.size (inbScale 1 (by decide))).set := by
    intro j hj
    have a := (Rect.mem_set_unit.mp hj 0).1
    have b : (j 0).val < 1 := (j 0).isLt
    have a' : 1 ≤ 0 + 1 * (j 0).val := a
    omega
  have n10 : ∀ j, ((Rect.unit (s := S2x8) ![1, 0] S1x8.size (inbScale 1 (by decide))).emb j) ∉ (Rect.unit (s := S2x8) ![0, 0] S1x8.size (inbScale 0 (by decide))).set := by
    intro j hj
    have a := (Rect.mem_set_unit.mp hj 0).2
    have a' : 1 + 1 * (j 0).val < 0 + 1 := a
    omega
  refine ⟨fun j => ?_, fun j => ?_⟩
  · rw [h1.2 _ (n01 j), h0.1]
  · rw [h1.1]
    exact congrArg (fun row => laneSet b s1 row j) (funext fun j => h0.2 _ (n10 j))

/-! ## The codes -/

/-- The rotated keys of one head in one tile. -/
def rotAt (G8 : S16x128x128.Idx → Elt F .f32) (t h : ℕ) (ht : t < 16) (hh : h < 2) : Vec F S1x64x128 .f32 :=
  fun j => G8 ((Rect.unit (s := S16x128x128) ![t, 64 * h, 0] S1x64x128.size (inb64 t (64 * h) ht (by omega))).emb j)

/-- What it is to be the key codes of a step, from the rotated keys and the heads' inverse scales. -/
def IsCodeK (G8 : S16x128x128.Idx → Elt F .f32) (ik : ℕ → FVec F S1x1 .f32) (G : S1x128x2048.Idx → Elt F .fp8e4m3) : Prop :=
  ∀ t (ht : t < 16) h (hh : h < 2) j, G ((Rect.unit (s := S1x128x2048) ![0, 64 * h, 128 * t] S1x64x128.size (inbCode (64 * h) t (by omega) ht)).emb j) = codeK (rotAt G8 t h ht hh) (ik h) j

/-- What it is to be the value codes of a step, from the values and the heads' inverse scales. -/
def IsCodeV (X2 : S1x2048x128.Idx → Elt F .bf16) (iv : ℕ → FVec F S1x1 .bf16) (G : S1x128x2048.Idx → Elt F .fp8e4m3) : Prop :=
  ∀ t (ht : t < 16) h (hh : h < 2) j, G ((Rect.unit (s := S1x128x2048) ![0, 64 * h, 128 * t] S1x64x128.size (inbCode (64 * h) t (by omega) ht)).emb j)
    = codeV (extractStridedSlice S64x128 ![64 * h, 0] (valTile (blkAt X2 t ht)) (slice64 (64 * h) (by omega))) (iv h) j

/-- The codes written before head `h` of tile `t`. -/
def D4 (t h : ℕ) (y : S1x128x2048.Idx) : Prop := (y 2).val / 128 < t ∨ ((y 2).val / 128 = t ∧ (y 1).val / 64 < h)

theorem putCode_spec (c : Dev nD) (E : Set ℕ) (arg : Memref sig .tc .vmem S1x128x2048 .fp8e4m3) (harg : arg.IsWhole) (h t : ℕ) (hh : h < 2) (ht : t < 16)
    (w : FVec F S1x64x128 .fp8e4m3) (G X : S1x128x2048.Idx → Elt F .fp8e4m3)
    (hw : ∀ j, G ((Rect.unit (s := S1x128x2048) ![0, 64 * h, 128 * t] S1x64x128.size (inbCode (64 * h) t (by omega) ht)).emb j) = w j)
    (hX : Agree G (D4 t h) X) (Q : PUnit → sProp 𝕄) :
    iprop(own c arg X ∗ (∀ X', ⌜Agree G (D4 t (h + 1)) X'⌝ -∗ own c arg X' -∗ Q ⟨⟩)) ⊢ WP c E (putCode arg harg h t hh ht w) Q := by
  unfold putCode
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iintro %X' %hX' H
  iapply Hk $$ %X' [] [H]
  · ipureintro
    refine Agree.put (r := Rect.unit (s := S1x128x2048) ![0, 64 * h, 128 * t] S1x64x128.size (inbCode (64 * h) t (by omega) ht)) hX hX' hw fun y hy => ?_
    have b0 : (y 0).val < 1 := (y 0).isLt
    have b1 : (y 1).val < 128 := (y 1).isLt
    have b2 : (y 2).val < 2048 := (y 2).isLt
    unfold D4 at hy ⊢
    by_cases hc : (y 2).val / 128 = t ∧ (y 1).val / 64 = h
    · left
      rw [Rect.mem_set_unit]
      intro a
      fin_cases a
      · show 0 ≤ (y 0).val ∧ (y 0).val < 0 + 1; omega
      · show 64 * h ≤ (y 1).val ∧ (y 1).val < 64 * h + 64; omega
      · show 128 * t ≤ (y 2).val ∧ (y 2).val < 128 * t + 128; omega
    · right; omega
  · iexact H

theorem codeHead_spec (c : Dev nD) (E : Set ℕ) (arg4 : Memref sig .tc .vmem S1x128x2048 .fp8e4m3) (harg4 : arg4.IsWhole) (arg6 : Memref sig .tc .vmem S1x128x2048 .fp8e4m3) (harg6 : arg6.IsWhole)
    (arg8 : Memref sig .tc .vmem S16x128x128 .f32) (h t : ℕ) (hh : h < 2) (ht : t < 16) (X2 : S1x2048x128.Idx → Elt F .bf16)
    (ik : ℕ → FVec F S1x1 .f32) (iv : ℕ → FVec F S1x1 .bf16) (G8 : S16x128x128.Idx → Elt F .f32) (G4 G6 X4 X6 : S1x128x2048.Idx → Elt F .fp8e4m3)
    (h4 : IsCodeK G8 ik G4) (h6 : IsCodeV X2 iv G6) (hX4 : Agree G4 (D4 t h) X4) (hX6 : Agree G6 (D4 t h) X6) (Q : PUnit → sProp 𝕄) :
    iprop(own c arg8 G8 ∗ own c arg4 X4 ∗ own c arg6 X6 ∗ (∀ X4' X6', ⌜Agree G4 (D4 t (h + 1)) X4' ∧ Agree G6 (D4 t (h + 1)) X6'⌝ -∗ own c arg8 G8 -∗ own c arg4 X4' -∗ own c arg6 X6' -∗ Q ⟨⟩))
      ⊢ WP c E (codeHead arg4 harg4 arg6 harg6 arg8 h t hh ht (valTile (blkAt X2 t ht)) (ik h) (iv h)) Q := by
  unfold codeHead
  refine BIBase.Entails.trans ?_ (wp_seq c E _ _ _)
  iintro ⟨H8, H4, H6, Hk⟩
  iapply (wp_ld c E G8)
  isplitl [H8]
  · iexact H8
  iintro %x %hx H8
  obtain rfl : x = rotAt G8 t h ht hh := hx
  iapply (wp_seq c E)
  iapply (putCode_spec c E arg4 harg4 h t hh ht _ G4 X4 (h4 t ht h hh) hX4)
  isplitl [H4]
  · iexact H4
  iintro %X4' %h4' H4
  iapply (putCode_spec c E arg6 harg6 h t hh ht _ G6 X6 (h6 t ht h hh) hX6)
  isplitl [H6]
  · iexact H6
  iintro %X6' %h6' H6
  iapply Hk $$ %X4' %X6' [] [H8] [H4] [H6]
  · ipureintro; exact ⟨h4', h6'⟩
  · iexact H8
  · iexact H4
  · iexact H6

theorem codeTile_spec (c : Dev nD) (E : Set ℕ) (arg2 : Memref sig .tc .vmem S1x2048x128 .bf16) (arg4 : Memref sig .tc .vmem S1x128x2048 .fp8e4m3) (harg4 : arg4.IsWhole)
    (arg6 : Memref sig .tc .vmem S1x128x2048 .fp8e4m3) (harg6 : arg6.IsWhole)
    (arg8 : Memref sig .tc .vmem S16x128x128 .f32) (X2 : S1x2048x128.Idx → Elt F .bf16)
    (ik : ℕ → FVec F S1x1 .f32) (iv : ℕ → FVec F S1x1 .bf16) (G8 : S16x128x128.Idx → Elt F .f32) (G4 G6 : S1x128x2048.Idx → Elt F .fp8e4m3)
    (h4 : IsCodeK G8 ik G4) (h6 : IsCodeV X2 iv G6) (t : ℕ) (ht : t < 16) (u : PUnit) :
    iprop(own c arg2 X2 ∗ own c arg8 G8 ∗ (∃ X4, ⌜Agree G4 (D4 t 0) X4⌝ ∗ own c arg4 X4) ∗ (∃ X6, ⌜Agree G6 (D4 t 0) X6⌝ ∗ own c arg6 X6))
      ⊢ WP c E (codeTile arg2 arg4 harg4 arg6 harg6 arg8 (ik 0) (ik 1) (iv 0) (iv 1) t ht u)
        (fun _ => iprop(own c arg2 X2 ∗ own c arg8 G8 ∗ (∃ X4, ⌜Agree G4 (D4 (t + 1) 0) X4⌝ ∗ own c arg4 X4) ∗ (∃ X6, ⌜Agree G6 (D4 (t + 1) 0) X6⌝ ∗ own c arg6 X6))) := by
  unfold codeTile
  iintro ⟨H2, H8, ⟨%X4, %hX4, H4⟩, ⟨%X6, %hX6, H6⟩⟩
  iapply (wp_seq c E)
  iapply (wp_ld c E X2)
  isplitl [H2]
  · iexact H2
  iintro %v %hv H2
  obtain rfl : v = blkAt X2 t ht := hv
  iapply (wp_seq c E)
  iapply (codeHead_spec c E arg4 harg4 arg6 harg6 arg8 0 t _ ht X2 ik iv G8 G4 G6 X4 X6 h4 h6 hX4 hX6)
  isplitl [H8]
  · iexact H8
  isplitl [H4]
  · iexact H4
  isplitl [H6]
  · iexact H6
  iintro %X4' %X6' %hX' H8 H4 H6
  iapply (codeHead_spec c E arg4 harg4 arg6 harg6 arg8 1 t _ ht X2 ik iv G8 G4 G6 X4' X6' h4 h6 hX'.1 hX'.2)
  isplitl [H8]
  · iexact H8
  isplitl [H4]
  · iexact H4
  isplitl [H6]
  · iexact H6
  iintro %X4'' %X6'' %hX'' H8 H4 H6
  have hm : ∀ y, D4 (t + 1) 0 y → D4 t 2 y := by
    intro y hy
    have b1 : (y 1).val < 128 := (y 1).isLt
    unfold D4 at hy ⊢
    omega
  isplitl [H2]
  · iexact H2
  isplitl [H8]
  · iexact H8
  isplitl [H4]
  · iexists X4''
    isplitr
    · ipureintro; exact hX''.1.mono hm
    · iexact H4
  · iexists X6''
    isplitr
    · ipureintro; exact hX''.2.mono hm
    · iexact H6

/-! ## A step -/

/-- The largest key entry of each head. -/
def kMax (a : Acc F) (h : ℕ) : FVec F S1x1 .f32 := maxK (if h = 0 then a.1.1 else a.1.2)
/-- The largest value entry of each head. -/
def vMax (a : Acc F) (h : ℕ) : FVec F S1x1 .f32 :=
  maxV (if h = 0 then extractStridedSlice S1x64 ![0, 0] (colMax a.2) slices_S1x128_o0_0_S1x64 else extractStridedSlice S1x64 ![0, 64] (colMax a.2) slices_S1x128_o0_64_S1x64)
/-- The inverse scales of the keys. -/
def ikOf (a : Acc F) (h : ℕ) : FVec F S1x1 .f32 := invOf (kMax a h)
/-- The inverse scales of the values. -/
def ivOf (a : Acc F) (h : ℕ) : FVec F S1x1 .bf16 := truncf .bf16 (invOf (vMax a h)) bitsLt_bf16_f32

theorem iter_zero {α : Type} (N : ℕ) (f : (n : ℕ) → n < N → α → α) (a : α) (h : 0 ≤ N) : iter N f a 0 h = a := rfl

attribute [local irreducible] iter steps tile codeTile

theorem rest_spec (c : Dev nD) (E : Set ℕ) (i : grid0.Coords) (arg1 : Memref sig .tc .vmem S1x2048x128 .bf16) (arg2 : Memref sig .tc .vmem S1x2048x128 .bf16)
    (arg4 : Memref sig .tc .vmem S1x128x2048 .fp8e4m3) (harg4 : arg4.IsWhole) (arg5 : Memref sig .tc .vmem S2x8 .f32)
    (arg6 : Memref sig .tc .vmem S1x128x2048 .fp8e4m3) (harg6 : arg6.IsWhole) (arg7 : Memref sig .tc .vmem S2x8 .f32)
    (arg8 : Memref sig .tc .vmem S16x128x128 .f32) (arg9 : Memref sig .tc .vmem S4x32x128 .f32) (arg10 : Memref sig .tc .vmem S8x1x2048 .i32)
    (X1 X2 : S1x2048x128.Idx → Elt F .bf16) (T : S4x32x128.Idx → Elt F .f32) (R : S8x1x2048.Idx → Elt F .i32)
    (X4 X6 : S1x128x2048.Idx → Elt F .fp8e4m3) (X5 X7 : S2x8.Idx → Elt F .f32) (X8 : S16x128x128.Idx → Elt F .f32)
    (G8 : S16x128x128.Idx → Elt F .f32) (G4 G6 : S1x128x2048.Idx → Elt F .fp8e4m3)
    (h8 : IsRot X1 T R i G8) (h4 : IsCodeK G8 (ikOf (accAll X1 X2 T R i)) G4) (h6 : IsCodeV X2 (ivOf (accAll X1 X2 T R i)) G6) :
    iprop(own c arg1 X1 ∗ own c arg2 X2 ∗ own c arg4 X4 ∗ own c arg5 X5 ∗ own c arg6 X6 ∗ own c arg7 X7 ∗ own c arg8 X8 ∗ own c arg9 T ∗ own c arg10 R)
      ⊢ WP c E (rest i arg1 arg2 arg4 harg4 arg5 arg6 harg6 arg7 arg8 arg9 arg10)
        (fun _ => iprop(own c arg1 X1 ∗ own c arg2 X2 ∗ own c arg4 G4
          ∗ (∃ X5', ⌜Lane (BitVec.ofNat 32 (i 0).val) (scaleOf (kMax (accAll X1 X2 T R i) 0)) (scaleOf (kMax (accAll X1 X2 T R i) 1)) X5 X5'⌝ ∗ own c arg5 X5')
          ∗ own c arg6 G6
          ∗ (∃ X7', ⌜Lane (BitVec.ofNat 32 (i 0).val) (scaleOf (vMax (accAll X1 X2 T R i) 0)) (scaleOf (vMax (accAll X1 X2 T R i) 1)) X7 X7'⌝ ∗ own c arg7 X7')
          ∗ own c arg8 G8 ∗ own c arg9 T ∗ own c arg10 R)) := by
  have hs : iprop(⌜∀ h, (acc0 : Acc F) = iter 16 (tileAcc X1 X2 T R i) acc0 0 h⌝ ∗ own c arg1 X1 ∗ own c arg2 X2 ∗ (∃ X8, ⌜Agree G8 (D8 0 0 0) X8⌝ ∗ own c arg8 X8) ∗ own c arg9 T ∗ own c arg10 R)
      ⊢ WP c E (steps 16 (tile i arg1 arg2 arg8 arg9 arg10) acc0 16 le_rfl)
        (fun a => iprop(⌜∀ h, a = iter 16 (tileAcc X1 X2 T R i) acc0 16 h⌝ ∗ own c arg1 X1 ∗ own c arg2 X2 ∗ (∃ X8, ⌜Agree G8 (D8 16 0 0) X8⌝ ∗ own c arg8 X8) ∗ own c arg9 T ∗ own c arg10 R)) := by
    refine wp_steps c E 16 (tile i arg1 arg2 arg8 arg9 arg10)
      (fun t a => iprop(⌜∀ h, a = iter 16 (tileAcc X1 X2 T R i) acc0 t h⌝ ∗ own c arg1 X1 ∗ own c arg2 X2 ∗ (∃ X8, ⌜Agree G8 (D8 t 0 0) X8⌝ ∗ own c arg8 X8) ∗ own c arg9 T ∗ own c arg10 R)) ?_ acc0 16 le_rfl
    intro n hn a
    exact tile_spec c E i arg1 arg2 arg8 arg9 arg10 X1 X2 T R G8 h8 n hn a
  unfold rest
  iintro ⟨H1, H2, H4, H5, H6, H7, H8, H9, H10⟩
  iapply (wp_seq c E)
  iapply (wp_then c E hs)
  isplitl [H1 H2 H8 H9 H10]
  · isplitr
    · ipureintro; intro h; exact (iter_zero _ _ _ _).symm
    isplitl [H1]
    · iexact H1
    isplitl [H2]
    · iexact H2
    isplitl [H8]
    · iexists X8
      isplitr
      · ipureintro; intro y hy; exfalso; unfold D8 at hy; omega
      · iexact H8
    isplitl [H9]
    · iexact H9
    · iexact H10
  iintro %a ⟨%ha, H1, H2, ⟨%X8', %hX8, H8⟩, H9, H10⟩
  obtain rfl : a = accAll X1 X2 T R i := ha le_rfl
  obtain rfl : X8' = G8 := hX8.all fun y => Or.inl (show (y 0).val < 16 from (y 0).isLt)
  iapply (wp_seq c E)
  iapply (putScale_spec c E arg5 _ 0 _ _ X5)
  isplitl [H5]
  · iexact H5
  iintro %Y5 %hY5 H5
  iapply (wp_seq c E)
  iapply (putScale_spec c E arg7 _ 0 _ _ X7)
  isplitl [H7]
  · iexact H7
  iintro %Y7 %hY7 H7
  iapply (wp_seq c E)
  iapply (putScale_spec c E arg5 _ 1 _ _ Y5)
  isplitl [H5]
  · iexact H5
  iintro %Z5 %hZ5 H5
  iapply (wp_seq c E)
  iapply (putScale_spec c E arg7 _ 1 _ _ Y7)
  isplitl [H7]
  · iexact H7
  iintro %Z7 %hZ7 H7
  iapply (wp_then c E (wp_steps c E 16 (codeTile arg2 arg4 harg4 arg6 harg6 arg8 (ikOf (accAll X1 X2 T R i) 0) (ikOf (accAll X1 X2 T R i) 1) (ivOf (accAll X1 X2 T R i) 0) (ivOf (accAll X1 X2 T R i) 1))
    (fun t _ => iprop(own c arg2 X2 ∗ own c arg8 X8' ∗ (∃ X4, ⌜Agree G4 (D4 t 0) X4⌝ ∗ own c arg4 X4) ∗ (∃ X6, ⌜Agree G6 (D4 t 0) X6⌝ ∗ own c arg6 X6)))
    (fun n hn u => codeTile_spec c E arg2 arg4 harg4 arg6 harg6 arg8 X2 _ _ X8' G4 G6 h4 h6 n hn u) ⟨⟩ 16 le_rfl))
  isplitl [H2 H8 H4 H6]
  · isplitl [H2]
    · iexact H2
    isplitl [H8]
    · iexact H8
    isplitl [H4]
    · iexists X4
      isplitr
      · ipureintro; intro y hy; unfold D4 at hy; omega
      · iexact H4
    · iexists X6
      isplitr
      · ipureintro; intro y hy; unfold D4 at hy; omega
      · iexact H6
  iintro %_u ⟨H2, H8, ⟨%Y4, %hY4, H4⟩, ⟨%Y6, %hY6, H6⟩⟩
  have hall : ∀ y : S1x128x2048.Idx, D4 16 0 y := fun y => Or.inl (by have : (y 2).val < 2048 := (y 2).isLt; omega)
  obtain rfl : Y4 = G4 := hY4.all hall
  obtain rfl : Y6 = G6 := hY6.all hall
  isplitl [H1]
  · iexact H1
  isplitl [H2]
  · iexact H2
  isplitl [H4]
  · iexact H4
  isplitl [H5]
  · iexists Z5
    isplitr
    · ipureintro; exact Lane.of_two hY5 hZ5
    · iexact H5
  isplitl [H6]
  · iexact H6
  isplitl [H7]
  · iexists Z7
    isplitr
    · ipureintro; exact Lane.of_two hY7 hZ7
    · iexact H7
  isplitl [H8]
  · iexact H8
  isplitl [H9]
  · iexact H9
  · iexact H10

/-! ## The tables and the positions -/

/-- What it is to be the four tables. -/
def IsTab (G : S4x32x128.Idx → Elt F .f32) : Prop :=
  ∀ (k : Fin 4) j, G ((Rect.unit (s := S4x32x128) ![k.val, 0, 0] S1x32x128.size (inbTabs k.val k.isLt)).emb j) = shapeCast S1x32x128 (table (F := F) k) shapeCasts_S32x128_S1x32x128 j

/-- What it is to be the positions with an axis added. -/
def IsRows (X3 : S8x2048.Idx → Elt F .i32) (G : S8x1x2048.Idx → Elt F .i32) : Prop :=
  ∀ r (hr : r < 8) j, G ((Rect.unit (s := S8x1x2048) ![r, 0, 0] S1x1x2048.size (inbRows r hr)).emb j)
    = shapeCast S1x1x2048 (fun j => X3 ((Rect.unit (s := S8x2048) ![r, 0] S1x2048.size (inbPos r hr)).emb j) : Vec F S1x2048 .i32) shapeCasts_S1x2048_S1x1x2048 j

theorem putTab_spec (c : Dev nD) (E : Set ℕ) (arg9 : Memref sig .tc .vmem S4x32x128 .f32) (k : ℕ) (hk : k < 4) (y : FVec F S32x128 .f32)
    (G X : S4x32x128.Idx → Elt F .f32)
    (hG : ∀ j, G ((Rect.unit (s := S4x32x128) ![k, 0, 0] S1x32x128.size (inbTabs k hk)).emb j) = shapeCast S1x32x128 y shapeCasts_S32x128_S1x32x128 j)
    (hX : Agree G (fun y => (y 0).val < k) X) (Q : PUnit → sProp 𝕄) :
    iprop(own c arg9 X ∗ (∀ X', ⌜Agree G (fun y => (y 0).val < k + 1) X'⌝ -∗ own c arg9 X' -∗ Q ⟨⟩)) ⊢ WP c E (putTab arg9 k hk y) Q := by
  unfold putTab
  refine BIBase.Entails.trans ?_ (wp_seq c E _ _ _)
  iintro ⟨H, Hk⟩
  iapply (wp_ld c E X)
  isplitl [H]
  · iexact H
  iintro %v %hv H
  iapply (wp_st c E X)
  isplitl [H]
  · iexact H
  iintro %X' %hX' H
  iapply Hk $$ %X' [] [H]
  · ipureintro
    refine Agree.put (r := Rect.unit (s := S4x32x128) ![k, 0, 0] S1x32x128.size (inbTabs k hk)) hX hX' hG fun y hy => ?_
    have b1 : (y 1).val < 32 := (y 1).isLt
    have b2 : (y 2).val < 128 := (y 2).isLt
    by_cases hc : (y 0).val = k
    · left
      rw [Rect.mem_set_unit]
      intro a
      fin_cases a
      · show k ≤ (y 0).val ∧ (y 0).val < k + 1; omega
      · show 0 ≤ (y 1).val ∧ (y 1).val < 0 + 32; omega
      · show 0 ≤ (y 2).val ∧ (y 2).val < 0 + 128; omega
    · right; dsimp only at hy ⊢; omega
  · iexact H

theorem putRow_spec (c : Dev nD) (E : Set ℕ) (arg3 : Memref sig .tc .vmem S8x2048 .i32) (arg10 : Memref sig .tc .vmem S8x1x2048 .i32)
    (X3 : S8x2048.Idx → Elt F .i32) (G : S8x1x2048.Idx → Elt F .i32) (hG : IsRows X3 G) (r : ℕ) (hr : r < 8) (u : PUnit) :
    iprop(own c arg3 X3 ∗ ∃ X, ⌜Agree G (fun y => (y 0).val < r) X⌝ ∗ own c arg10 X) ⊢ WP c E (putRow arg3 arg10 r hr u)
      (fun _ => iprop(own c arg3 X3 ∗ ∃ X, ⌜Agree G (fun y => (y 0).val < r + 1) X⌝ ∗ own c arg10 X)) := by
  unfold putRow
  refine BIBase.Entails.trans ?_ (wp_seq c E _ _ _)
  iintro ⟨H3, ⟨%X, %hX, H⟩⟩
  iapply (wp_ld c E X3)
  isplitl [H3]
  · iexact H3
  iintro %p %hp H3
  subst hp
  iapply (wp_seq c E)
  iapply (wp_ld c E X)
  isplitl [H]
  · iexact H
  iintro %v %hv H
  iapply (wp_st c E X)
  isplitl [H]
  · iexact H
  iintro %X' %hX' H
  isplitl [H3]
  · iexact H3
  iexists X'
  isplitr
  · ipureintro
    refine Agree.put (r := Rect.unit (s := S8x1x2048) ![r, 0, 0] S1x1x2048.size (inbRows r hr)) hX hX' (hG r hr) fun y hy => ?_
    have b1 : (y 1).val < 1 := (y 1).isLt
    have b2 : (y 2).val < 2048 := (y 2).isLt
    by_cases hc : (y 0).val = r
    · left
      rw [Rect.mem_set_unit]
      intro a
      fin_cases a
      · show r ≤ (y 0).val ∧ (y 0).val < r + 1; omega
      · show 0 ≤ (y 1).val ∧ (y 1).val < 0 + 1; omega
      · show 0 ≤ (y 2).val ∧ (y 2).val < 0 + 2048; omega
    · right; dsimp only at hy ⊢; omega
  · iexact H

theorem setup_spec (c : Dev nD) (E : Set ℕ) (arg3 : Memref sig .tc .vmem S8x2048 .i32) (arg9 : Memref sig .tc .vmem S4x32x128 .f32) (arg10 : Memref sig .tc .vmem S8x1x2048 .i32)
    (X3 : S8x2048.Idx → Elt F .i32) (X9 : S4x32x128.Idx → Elt F .f32) (X10 : S8x1x2048.Idx → Elt F .i32)
    (T : S4x32x128.Idx → Elt F .f32) (hT : IsTab T) (R : S8x1x2048.Idx → Elt F .i32) (hR : IsRows X3 R) :
    iprop(own c arg3 X3 ∗ own c arg9 X9 ∗ own c arg10 X10) ⊢ WP c E (setup arg3 arg9 arg10) (fun _ => iprop(own c arg3 X3 ∗ own c arg9 T ∗ own c arg10 R)) := by
  have ha : ∀ j, T ((Rect.unit (s := S4x32x128) ![0, 0, 0] S1x32x128.size (inbTabs 0 (by decide))).emb j) = shapeCast S1x32x128 (cos angleHi : FVec F S32x128 .f32) shapeCasts_S32x128_S1x32x128 j := hT 0
  have hb : ∀ j, T ((Rect.unit (s := S4x32x128) ![1, 0, 0] S1x32x128.size (inbTabs 1 (by decide))).emb j) = shapeCast S1x32x128 (sin angleHi : FVec F S32x128 .f32) shapeCasts_S32x128_S1x32x128 j := hT 1
  have hc : ∀ j, T ((Rect.unit (s := S4x32x128) ![2, 0, 0] S1x32x128.size (inbTabs 2 (by decide))).emb j) = shapeCast S1x32x128 (cos angleLo : FVec F S32x128 .f32) shapeCasts_S32x128_S1x32x128 j := hT 2
  have hd : ∀ j, T ((Rect.unit (s := S4x32x128) ![3, 0, 0] S1x32x128.size (inbTabs 3 (by decide))).emb j) = shapeCast S1x32x128 (sin angleLo : FVec F S32x128 .f32) shapeCasts_S32x128_S1x32x128 j := hT 3
  unfold setup
  iintro ⟨H3, H9, H10⟩
  iapply (wp_seq c E)
  iapply (putTab_spec c E arg9 0 _ (cos angleHi) T X9 ha (fun y hy => absurd hy (Nat.not_lt_zero _)))
  isplitl [H9]
  · iexact H9
  iintro %Y0 %h0 H9
  iapply (wp_seq c E)
  iapply (putTab_spec c E arg9 1 _ (sin angleHi) T Y0 hb h0)
  isplitl [H9]
  · iexact H9
  iintro %Y1 %h1 H9
  iapply (wp_seq c E)
  iapply (putTab_spec c E arg9 2 _ (cos angleLo) T Y1 hc h1)
  isplitl [H9]
  · iexact H9
  iintro %Y2 %h2 H9
  iapply (wp_seq c E)
  iapply (putTab_spec c E arg9 3 _ (sin angleLo) T Y2 hd h2)
  isplitl [H9]
  · iexact H9
  iintro %Y3 %h3 H9
  obtain rfl : Y3 = T := h3.all fun y => (y 0).isLt
  iapply (wp_then c E (wp_steps c E 8 (putRow arg3 arg10) (fun r _ => iprop(own c arg3 X3 ∗ ∃ X, ⌜Agree R (fun y => (y 0).val < r) X⌝ ∗ own c arg10 X))
    (fun n hn u => putRow_spec c E arg3 arg10 X3 R hR n hn u) ⟨⟩ 8 le_rfl))
  isplitl [H3 H10]
  · isplitl [H3]
    · iexact H3
    iexists X10
    isplitr
    · ipureintro; intro y hy; exact absurd hy (Nat.not_lt_zero _)
    · iexact H10
  iintro %_u ⟨H3, ⟨%X, %hX, H10⟩⟩
  obtain rfl : X = R := hX.all fun y => (y 0).isLt
  isplitl [H3]
  · iexact H3
  isplitl [H9]
  · iexact H9
  · iexact H10

end Cert.KernelIdeal.Rope

end
-- ==== Proof.Rope.Run.lean ====
/- The pipeline's run: what the buffers hold point by point, the body at each point, the launch and the
   final contents of the four result arrays. -/
module

public import proofs.«01_k».proof.Proof.Rope.Triple
public import proofs.«01_k».proof.Proof.Gen.KernelIdeal.Frame
public import proofs.«01_k».proof.Proof.Gen.KernelIdeal.Points
public import Idealize.ShloMosaic.Lib.Pipeline.DatRel
public import Idealize.ShloMosaic.Lib.Pipeline.ArrRel
public import Idealize.ShloMosaic.Lib.Claim
public import Idealize.ShloMosaic.Lib.Pointwise
public import Idealize.ShloMosaic.Lib.ValueIdxCore

@[expose] public section

set_option maxRecDepth 16384

noncomputable section

namespace Cert.KernelIdeal.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F] [Named F]

local notation "𝕄" => MT nD τ sig Unit (Elt F) ℕ (UR sig nD τ) ℕ

/-! ## Contents given block by block -/

/-- Disjoint blocks may be given any contents. -/
theorem glue {s : Shape} {V ι : Type} (d : V) (r : ι → Rect s) (f : ∀ a, (r a).shape.Idx → V)
    (h : ∀ a b j k, (r a).emb j = (r b).emb k → a = b) : ∃ G : s.Idx → V, ∀ a j, G ((r a).emb j) = f a j := by
  classical
  refine ⟨fun y => if h : ∃ p : (Σ a, (r a).shape.Idx), (r p.1).emb p.2 = y then f h.choose.1 h.choose.2 else d, fun a j => ?_⟩
  have he : ∃ p : (Σ a, (r a).shape.Idx), (r p.1).emb p.2 = (r a).emb j := ⟨⟨a, j⟩, rfl⟩
  show (if h : ∃ p : (Σ a, (r a).shape.Idx), (r p.1).emb p.2 = (r a).emb j then f h.choose.1 h.choose.2 else d) = f a j
  rw [dif_pos he]
  have hs := he.choose_spec
  generalize he.choose = p at hs ⊢
  obtain ⟨b, k⟩ := p
  have hab : b = a := h b a k j hs
  subst hab
  have hk : k = j := (r b).emb.injective hs
  rw [hk]

theorem exists_tab : ∃ G : S4x32x128.Idx → Elt F .f32, IsTab G := by
  obtain ⟨G, hG⟩ := glue (s := S4x32x128) (Scalar.ofBits .f32 0#32 : Elt F .f32)
    (fun k : Fin 4 => Rect.unit (s := S4x32x128) ![k.val, 0, 0] S1x32x128.size (inbTabs k.val k.isLt))
    (fun k => shapeCast S1x32x128 (table (F := F) k) shapeCasts_S32x128_S1x32x128) (fun a b j k h => by
      have h0 : a.val + 1 * (j 0).val = b.val + 1 * (k 0).val := congrArg (fun i : S4x32x128.Idx => (i 0).val) h
      have hj : (j 0).val < 1 := (j 0).isLt
      have hk : (k 0).val < 1 := (k 0).isLt
      generalize (j 0).val = x at *
      generalize (k 0).val = y at *
      exact Fin.ext (by omega))
  exact ⟨G, hG⟩

theorem exists_rows (X3 : S8x2048.Idx → Elt F .i32) : ∃ G : S8x1x2048.Idx → Elt F .i32, IsRows X3 G := by
  obtain ⟨G, hG⟩ := glue (s := S8x1x2048) (0#32 : Elt F .i32)
    (fun r : Fin 8 => Rect.unit (s := S8x1x2048) ![r.val, 0, 0] S1x1x2048.size (inbRows r.val r.isLt))
    (fun r => shapeCast S1x1x2048 (fun j => X3 ((Rect.unit (s := S8x2048) ![r.val, 0] S1x2048.size (inbPos r.val r.isLt)).emb j) : Vec F S1x2048 .i32) shapeCasts_S1x2048_S1x1x2048)
    (fun a b j k h => by
      have h0 : a.val + 1 * (j 0).val = b.val + 1 * (k 0).val := congrArg (fun i : S8x1x2048.Idx => (i 0).val) h
      have hj : (j 0).val < 1 := (j 0).isLt
      have hk : (k 0).val < 1 := (k 0).isLt
      generalize (j 0).val = x at *
      generalize (k 0).val = y at *
      exact Fin.ext (by omega))
  exact ⟨G, fun r hr j => hG ⟨r, hr⟩ j⟩

theorem exists_rot (X1 : S1x2048x128.Idx → Elt F .bf16) (T : S4x32x128.Idx → Elt F .f32) (R : S8x1x2048.Idx → Elt F .i32) (i : grid0.Coords) :
    ∃ G, IsRot X1 T R i G := by
  obtain ⟨G, hG⟩ := glue (s := S16x128x128) (ι := Fin 16 × Fin 4 × Fin 2 × Fin 2) (Scalar.ofBits .f32 0#32 : Elt F .f32)
    (fun a => Rect.unit (s := S16x128x128) ![a.1.val, 64 * a.2.2.1.val + 32 * a.2.2.2.val + 8 * a.2.1.val, 0] S1x8x128.size
      (inb8 a.1.val (64 * a.2.2.1.val + 32 * a.2.2.2.val + 8 * a.2.1.val) a.1.isLt (by have := a.2.1.isLt; have := a.2.2.1.isLt; have := a.2.2.2.isLt; omega)))
    (fun a => if a.2.2.2 = 0 then
        shapeCast S1x8x128 (out1 (keyTile (blkAt X1 a.1.val a.1.isLt)) a.2.2.1.val a.2.1.val a.2.2.1.isLt a.2.1.isLt (cosG T (spread (F := F) (posAt R i a.1.val a.1.isLt)) a.2.1.val a.2.1.isLt) (sinG T (spread (F := F) (posAt R i a.1.val a.1.isLt)) a.2.1.val a.2.1.isLt)) shapeCasts_S8x128_S1x8x128
      else
        shapeCast S1x8x128 (out2 (keyTile (blkAt X1 a.1.val a.1.isLt)) a.2.2.1.val a.2.1.val a.2.2.1.isLt a.2.1.isLt (cosG T (spread (F := F) (posAt R i a.1.val a.1.isLt)) a.2.1.val a.2.1.isLt) (sinG T (spread (F := F) (posAt R i a.1.val a.1.isLt)) a.2.1.val a.2.1.isLt)) shapeCasts_S8x128_S1x8x128)
    (fun a b j k h => by
      obtain ⟨⟨a1, ha1⟩, ⟨a2, ha2⟩, ⟨a3, ha3⟩, ⟨a4, ha4⟩⟩ := a
      obtain ⟨⟨b1, hb1⟩, ⟨b2, hb2⟩, ⟨b3, hb3⟩, ⟨b4, hb4⟩⟩ := b
      have h0 : a1 + 1 * (j 0).val = b1 + 1 * (k 0).val := congrArg (fun i : S16x128x128.Idx => (i 0).val) h
      have h1 : (64 * a3 + 32 * a4 + 8 * a2) + 1 * (j 1).val = (64 * b3 + 32 * b4 + 8 * b2) + 1 * (k 1).val := congrArg (fun i : S16x128x128.Idx => (i 1).val) h
      have hj : (j 0).val < 1 := (j 0).isLt
      have hk : (k 0).val < 1 := (k 0).isLt
      have hj1 : (j 1).val < 8 := (j 1).isLt
      have hk1 : (k 1).val < 8 := (k 1).isLt
      generalize (j 0).val = x0 at *
      generalize (k 0).val = y0 at *
      generalize (j 1).val = x1 at *
      generalize (k 1).val = y1 at *
      have e1 : a1 = b1 := by omega
      have e3 : a3 = b3 := by omega
      have e4 : a4 = b4 := by omega
      have e2 : a2 = b2 := by omega
      subst e1 e2 e3 e4
      rfl)
  refine ⟨G, fun t ht g hg h hh => ⟨fun j => ?_, fun j => ?_⟩⟩
  · exact hG ⟨⟨t, ht⟩, ⟨g, hg⟩, ⟨h, hh⟩, 0⟩ j
  · exact hG ⟨⟨t, ht⟩, ⟨g, hg⟩, ⟨h, hh⟩, 1⟩ j

theorem exists_code (f : ∀ t (ht : t < 16) h (hh : h < 2), S1x64x128.Idx → Elt F .fp8e4m3) :
    ∃ G : S1x128x2048.Idx → Elt F .fp8e4m3, ∀ t (ht : t < 16) h (hh : h < 2) j,
      G ((Rect.unit (s := S1x128x2048) ![0, 64 * h, 128 * t] S1x64x128.size (inbCode (64 * h) t (by omega) ht)).emb j) = f t ht h hh j := by
  obtain ⟨G, hG⟩ := glue (s := S1x128x2048) (ι := Fin 16 × Fin 2) (f 0 (by decide) 0 (by decide) (fun a => ⟨0, by fin_cases a <;> decide⟩))
    (fun a => Rect.unit (s := S1x128x2048) ![0, 64 * a.2.val, 128 * a.1.val] S1x64x128.size (inbCode (64 * a.2.val) a.1.val (by have := a.2.isLt; omega) a.1.isLt))
    (fun a => f a.1.val a.1.isLt a.2.val a.2.isLt)
    (fun a b j k h => by
      obtain ⟨⟨a1, ha1⟩, ⟨a2, ha2⟩⟩ := a
      obtain ⟨⟨b1, hb1⟩, ⟨b2, hb2⟩⟩ := b
      have h1 : 64 * a2 + 1 * (j 1).val = 64 * b2 + 1 * (k 1).val := congrArg (fun i : S1x128x2048.Idx => (i 1).val) h
      have h2 : 128 * a1 + 1 * (j 2).val = 128 * b1 + 1 * (k 2).val := congrArg (fun i : S1x128x2048.Idx => (i 2).val) h
      have hj1 : (j 1).val < 64 := (j 1).isLt
      have hk1 : (k 1).val < 64 := (k 1).isLt
      have hj2 : (j 2).val < 128 := (j 2).isLt
      have hk2 : (k 2).val < 128 := (k 2).isLt
      generalize (j 2).val = x0 at *
      generalize (k 2).val = y0 at *
      generalize (j 1).val = x1 at *
      generalize (k 1).val = y1 at *
      have e1 : a1 = b1 := by omega
      have e2 : a2 = b2 := by omega
      subst e1 e2
      rfl)
  exact ⟨G, fun t ht h hh j => hG ⟨⟨t, ht⟩, ⟨h, hh⟩⟩ j⟩

/-! ## What the buffers hold -/

variable (m : (ℓ : Loc nD τ sig) → Buf (Elt F) ℓ) (ρ : Dev nD → PrngReg)

/-- The key block, the value block and the positions at one point. -/
abbrev xk (c : Dev nD) (t : Fin cfg0.N) : S1x2048x128.Idx → Elt F .bf16 := iblk m c 0 t
abbrev xv (c : Dev nD) (t : Fin cfg0.N) : S1x2048x128.Idx → Elt F .bf16 := iblk m c 1 t
abbrev xp (c : Dev nD) (t : Fin cfg0.N) : S8x2048.Idx → Elt F .i32 := iblk m c 2 t

/-- The tables as the first point leaves them. -/
def T0 : S4x32x128.Idx → Elt F .f32 := exists_tab.choose
theorem T0_spec : IsTab (T0 (F := F)) := exists_tab.choose_spec
/-- The positions as the first point leaves them. -/
def R0 (c : Dev nD) : S8x1x2048.Idx → Elt F .i32 := (exists_rows (xp m c t0_0)).choose
theorem R0_spec (c : Dev nD) : IsRows (xp m c t0_0) (R0 m c) := (exists_rows (xp m c t0_0)).choose_spec
/-- The running maxima at the end of a point. -/
def accP (c : Dev nD) (t : Fin cfg0.N) : Acc F := accAll (xk m c t) (xv m c t) T0 (R0 m c) (grid0.coords t)
/-- The rotated keys of a point. -/
def G8P (c : Dev nD) (t : Fin cfg0.N) : S16x128x128.Idx → Elt F .f32 := (exists_rot (xk m c t) T0 (R0 m c) (grid0.coords t)).choose
theorem G8P_spec (c : Dev nD) (t : Fin cfg0.N) : IsRot (xk m c t) T0 (R0 m c) (grid0.coords t) (G8P m c t) :=
  (exists_rot (xk m c t) T0 (R0 m c) (grid0.coords t)).choose_spec
theorem exists_G4 (c : Dev nD) (t : Fin cfg0.N) : ∃ G, IsCodeK (G8P m c t) (ikOf (accP m c t)) G :=
  exists_code fun n hn h hh => codeK (rotAt (G8P m c t) n h hn hh) (ikOf (accP m c t) h)
theorem exists_G6 (c : Dev nD) (t : Fin cfg0.N) : ∃ G, IsCodeV (xv m c t) (ivOf (accP m c t)) G :=
  exists_code fun n hn h hh => codeV (extractStridedSlice S64x128 ![64 * h, 0] (valTile (blkAt (xv m c t) n hn)) (slice64 (64 * h) (by omega))) (ivOf (accP m c t) h)
/-- The key codes of a point. -/
def G4P (c : Dev nD) (t : Fin cfg0.N) : S1x128x2048.Idx → Elt F .fp8e4m3 := (exists_G4 m c t).choose
theorem G4P_spec (c : Dev nD) (t : Fin cfg0.N) : IsCodeK (G8P m c t) (ikOf (accP m c t)) (G4P m c t) := (exists_G4 m c t).choose_spec
/-- The value codes of a point. -/
def G6P (c : Dev nD) (t : Fin cfg0.N) : S1x128x2048.Idx → Elt F .fp8e4m3 := (exists_G6 m c t).choose
theorem G6P_spec (c : Dev nD) (t : Fin cfg0.N) : IsCodeV (xv m c t) (ivOf (accP m c t)) (G6P m c t) := (exists_G6 m c t).choose_spec

/-- The key scale and the value scale of one head at one point. -/
def sK (c : Dev nD) (u : Fin cfg0.N) (h : ℕ) : FVec F S1x1 .f32 := scaleOf (kMax (accP m c u) h)
def sV (c : Dev nD) (u : Fin cfg0.N) (h : ℕ) : FVec F S1x1 .f32 := scaleOf (vMax (accP m c u) h)

/-- The lanes of the points below `n` hold those points' scales. -/
def Lanes (s : Fin cfg0.N → ℕ → FVec F S1x1 .f32) (n : ℕ) (X : S2x8.Idx → Elt F .f32) : Prop :=
  ∀ u : Fin cfg0.N, u.val < n → ∀ h (hh : h < 2) (j : S1x8.Idx), (j 1).val = u.val → ∀ o : S1x1.Idx,
    X ((Rect.unit (s := S2x8) ![h, 0] S1x8.size (inbScale h hh)).emb j) = s u h o

theorem laneSet_eq (b : ℕ) (hb : b < 8) (s : FVec F S1x1 .f32) (row : Vec F S1x8 .f32) (j : S1x8.Idx) (o : S1x1.Idx) :
    laneSet (BitVec.ofNat 32 b) s row j = if (j 1).val = b then s o else row j := by
  have hj : (j 1).val < 8 := (j 1).isLt
  have ho : ∀ o o' : S1x1.Idx, o = o' := fun o o' => by
    funext a
    have h1 : (o a).val < 1 := by fin_cases a <;> exact (o _).isLt
    have h2 : (o' a).val < 1 := by fin_cases a <;> exact (o' _).isLt
    exact Fin.ext (by omega)
  have hc : (cmpi .eq (iota .tc S1x8 32 [1] iota_S1x8_d1_w32 : IVec S1x8 32) (broadcast S1x8 (BitVec.ofNat 32 b))) j
      = IntOp.cmpi .eq (BitVec.ofNat 32 (j 1).val) (BitVec.ofNat 32 b) := by
    show IntOp.cmpi .eq (BitVec.ofNat 32 (0 * 8 + (j 1).val)) (BitVec.ofNat 32 b) = _
    rw [Nat.zero_mul, Nat.zero_add]
  have hs : broadcastTo S1x8 (shapeCast S1x1 s shapeCasts_S1x1_S1x1) broadcasts_S1x1_S1x8 j = s o := congrArg s (ho _ o)
  have hr : shapeCast S1x8 row shapeCasts_S1x8_S1x8 = row := shapeCast_id row _
  refine (show laneSet (BitVec.ofNat 32 b) s row j = Scalar.select
    ((cmpi .eq (iota .tc S1x8 32 [1] iota_S1x8_d1_w32 : IVec S1x8 32) (broadcast S1x8 (BitVec.ofNat 32 b))) j)
    (broadcastTo S1x8 (shapeCast S1x1 s shapeCasts_S1x1_S1x1) broadcasts_S1x1_S1x8 j) (shapeCast S1x8 row shapeCasts_S1x8_S1x8 j) from rfl).trans ?_
  rw [hc, hs, hr]
  by_cases hb' : (j 1).val = b
  · rw [if_pos hb', hb']; simp [IntOp.cmpi, Scalar.select]
  · rw [if_neg hb']
    have : BitVec.ofNat 32 (j 1).val ≠ BitVec.ofNat 32 b := fun h => hb' (by
      have := congrArg BitVec.toNat h
      rw [BitVec.toNat_ofNat, BitVec.toNat_ofNat, Nat.mod_eq_of_lt (by omega), Nat.mod_eq_of_lt (by omega)] at this
      exact this)
    have hf : (BitVec.ofNat 32 (j 1).val == BitVec.ofNat 32 b) = false := by rw [beq_eq_false_iff_ne]; exact this
    simp [IntOp.cmpi, Scalar.select, hf]

theorem Lanes.step (s : Fin cfg0.N → ℕ → FVec F S1x1 .f32) (t : Fin cfg0.N) (b : ℕ) (hb : b = t.val) {X X' : S2x8.Idx → Elt F .f32}
    (h : Lanes s t.val X) (hl : Lane (BitVec.ofNat 32 b) (s t 0) (s t 1) X X') : Lanes s (t.val + 1) X' := by
  have hN : t.val < 8 := lt_of_lt_of_eq t.isLt (show cfg0.N = 8 from N_0)
  subst hb
  intro u hu k hk j hj o
  have key : ∀ (sk : FVec F S1x1 .f32), sk = s t k →
      X' ((Rect.unit (s := S2x8) ![k, 0] S1x8.size (inbScale k hk)).emb j) = laneSet (BitVec.ofNat 32 t.val) sk (fun j => X ((Rect.unit (s := S2x8) ![k, 0] S1x8.size (inbScale k hk)).emb j)) j →
      X' ((Rect.unit (s := S2x8) ![k, 0] S1x8.size (inbScale k hk)).emb j) = s u k o := by
    intro sk hsk he
    rw [he, laneSet_eq _ hN _ _ _ o]
    by_cases hut : (j 1).val = t.val
    · rw [if_pos hut, hsk]
      have : u = t := Fin.ext (by omega)
      rw [this]
    · rw [if_neg hut]
      exact h u (by omega) k hk j hj o
  obtain ⟨h0, h1⟩ := hl
  obtain rfl | rfl : k = 0 ∨ k = 1 := by omega
  · exact key _ rfl (h0 j)
  · exact key _ rfl (h1 j)

/-! ## The scratch buffers between points -/

/-- The scratch buffers: the rotated keys, the tables and the positions. -/
abbrev scM0_0 : Memref sig .tc .vmem S16x128x128 .f32 := Memref.whole cc0_scratch0
abbrev scM0_1 : Memref sig .tc .vmem S4x32x128 .f32 := Memref.whole cc0_scratch1
abbrev scM0_2 : Memref sig .tc .vmem S8x1x2048 .i32 := Memref.whole cc0_scratch2

theorem PhiA0_eq (c : Dev nD) :
    (Pipeline.ΦA spec0 c : sProp 𝕄)
      = iprop(iprop((∃ d, own c scM0_0 d) ∗ (∃ d, own c scM0_1 d) ∗ (∃ d, own c scM0_2 d)) ∗ (∃ r, prngReg c r)) := by
  unfold Pipeline.ΦA own; rw [scopedRest0_eq]; simp only [scM0_0, scM0_1, scM0_2, owns_whole]; try rfl

/-- Between points: at first anything, then the tables and the positions. -/
def PhiS (c : Dev nD) (n : ℕ) : sProp 𝕄 :=
  if n = 0 then Pipeline.ΦA spec0 c
  else iprop(iprop((∃ d, own c scM0_0 d) ∗ own c scM0_1 T0 ∗ own c scM0_2 (R0 m c)) ∗ (∃ r, prngReg c r))

theorem PhiS_zero (c : Dev nD) : PhiS m c 0 = Pipeline.ΦA spec0 c := if_pos rfl
theorem PhiS_pos (c : Dev nD) (n : ℕ) (hz : n ≠ 0) :
    PhiS m c n = iprop(iprop((∃ d, own c scM0_0 d) ∗ own c scM0_1 T0 ∗ own c scM0_2 (R0 m c)) ∗ (∃ r, prngReg c r)) := if_neg hz

/-! ## The pipeline's proof data -/

/-- The windows of the scales, whose lanes are filled one a point. -/
def held : Fin 7 → Bool := fun w => w.val == 4 || w.val == 6

/-- What a scale window holds after a point. -/
def rel (c : Dev nD) (w : Fin cfg0.W) (t : Fin cfg0.N) : ((cfg0.win w).block.Idx → Elt F (cfg0.win w).elt) → Prop :=
  match w with
  | ⟨4, _⟩ => fun X => Lanes (sK m c) (t.val + 1) X
  | ⟨6, _⟩ => fun X => Lanes (sV m c) (t.val + 1) X
  | _ => fun _ => True

/-- What the body leaves point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => G4P m c t
    | ⟨4, h⟩ => Pipeline.Dat.unnamed (cfg := cfg0) ⟨4, h⟩ t
    | ⟨5, _⟩ => G6P m c t
    | ⟨6, h⟩ => Pipeline.Dat.unnamed (cfg := cfg0) ⟨6, h⟩ t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = G4P m c t := by dsimp only [dats]
theorem after0_5 (c : Dev nD) (t : Fin cfg0.N) : (dats m 0 c).after 5 t = G6P m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The relational reading of the proof data. -/
abbrev rdats (c : Dev nD) := (dats m 0 c).toRRel held (rel m c)

theorem finds4 (c : Dev nD) (t : Fin cfg0.N) (Y : S2x8.Idx → Elt F .f32) (h : (rdats m c).Finds 4 t Y) : Lanes (sK m c) t.val Y := by
  have hN : t.val < 8 := lt_of_lt_of_eq t.isLt (show cfg0.N = 8 from N_0)
  by_cases hz : t.val = 0
  · intro u hu; omega
  · rw [Pipeline.RDat.finds_of_pos (rdats m c) rfl hz] at h
    rcases h with h | h
    · have := (flush0_4 _).mp h
      simp only at this; omega
    · have := Dat.toRRel_leaves (dats m 0 c) (fgt := held) (Rl := rel m c) (w := 4) rfl h
      have e : t.val - 1 + 1 = t.val := by omega
      have h2 : Lanes (sK m c) (t.val - 1 + 1) Y := this
      rwa [e] at h2

theorem finds6 (c : Dev nD) (t : Fin cfg0.N) (Y : S2x8.Idx → Elt F .f32) (h : (rdats m c).Finds 6 t Y) : Lanes (sV m c) t.val Y := by
  have hN : t.val < 8 := lt_of_lt_of_eq t.isLt (show cfg0.N = 8 from N_0)
  by_cases hz : t.val = 0
  · intro u hu; omega
  · rw [Pipeline.RDat.finds_of_pos (rdats m c) rfl hz] at h
    rcases h with h | h
    · have := (flush0_6 _).mp h
      simp only at this; omega
    · have := Dat.toRRel_leaves (dats m 0 c) (fgt := held) (Rl := rel m c) (w := 6) rfl h
      have e : t.val - 1 + 1 = t.val := by omega
      have h2 : Lanes (sV m c) (t.val - 1 + 1) Y := this
      rwa [e] at h2

/-! ## The body at a point -/

theorem coords_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem first_iff (t : Fin cfg0.N) : first (grid0.coords t) ↔ t.val = 0 := by
  have ht : t.val < 8 := Nat.lt_of_lt_of_eq t.isLt N_0
  have e0 := coords_val t
  simp only [first, e0]
  word_cmp

/-- Each window's staging buffer at a point. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x8 .f32 := win0_6.stage (cfg0.slots t 6)
abbrev hs0_6 (t : Fin cfg0.N) : (ms0_6 t).IsWhole := hstage0_6 ((cfg0.slots t 6).cast nbuf0_6)

attribute [local irreducible] accAll rest scaleOf kMax vMax Lanes

set_option maxHeartbeats 1600000 in
/-- The two passes at a point, the tables and the positions in place. -/
theorem rest_at (c : Dev nD) (t : Fin cfg0.N) :
    iprop((∃ d, own c scM0_0 d) ∗ own c scM0_1 T0 ∗ own c scM0_2 (R0 m c)
        ∗ own c (ms0_0 t) (xk m c t) ∗ own c (ms0_1 t) (xv m c t)
        ∗ (∃ d, own c (ms0_3 t) d) ∗ (∃ Y, ⌜Lanes (sK m c) t.val Y⌝ ∗ own c (ms0_4 t) Y)
        ∗ (∃ d, own c (ms0_5 t) d) ∗ (∃ Y, ⌜Lanes (sV m c) t.val Y⌝ ∗ own c (ms0_6 t) Y))
      ⊢ WP c Set.univ (rest (grid0.coords t) (ms0_0 t) (ms0_1 t) (ms0_3 t) (hs0_3 t) (ms0_4 t) (ms0_5 t) (hs0_5 t) (ms0_6 t) scM0_0 scM0_1 scM0_2)
        (fun _ => iprop((∃ d, own c scM0_0 d) ∗ own c scM0_1 T0 ∗ own c scM0_2 (R0 m c)
        ∗ own c (ms0_0 t) (xk m c t) ∗ own c (ms0_1 t) (xv m c t)
        ∗ own c (ms0_3 t) (G4P m c t) ∗ (∃ Y, ⌜Lanes (sK m c) (t.val + 1) Y⌝ ∗ own c (ms0_4 t) Y)
        ∗ own c (ms0_5 t) (G6P m c t) ∗ (∃ Y, ⌜Lanes (sV m c) (t.val + 1) Y⌝ ∗ own c (ms0_6 t) Y))) := by
  iintro ⟨⟨%d8, H8⟩, H9, H10, H1, H2, ⟨%d4, H4⟩, ⟨%Y5, %h5, H5⟩, ⟨%d6, H6⟩, ⟨%Y7, %h7, H7⟩⟩
  iapply (wp_then c Set.univ (rest_spec c Set.univ (grid0.coords t) (ms0_0 t) (ms0_1 t) (ms0_3 t) (hs0_3 t) (ms0_4 t) (ms0_5 t) (hs0_5 t) (ms0_6 t) scM0_0 scM0_1 scM0_2
    (xk m c t) (xv m c t) T0 (R0 m c) d4 d6 Y5 Y7 d8 (G8P m c t) (G4P m c t) (G6P m c t) (G8P_spec m c t) (G4P_spec m c t) (G6P_spec m c t)))
  isplitl [H1 H2 H4 H5 H6 H7 H8 H9 H10]
  · isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    iexact H10
  iintro %u ⟨H1, H2, H4, ⟨%Z5, %k5, H5⟩, H6, ⟨%Z7, %k7, H7⟩, H8, H9, H10⟩
  isplitl [H8]; · iexists _; iexact H8
  isplitl [H9]; · iexact H9
  isplitl [H10]; · iexact H10
  isplitl [H1]; · iexact H1
  isplitl [H2]; · iexact H2
  isplitl [H4]; · iexact H4
  isplitl [H5]
  · iexists Z5; isplitr
    · ipureintro; exact Lanes.step (sK m c) t _ (coords_val t) h5 (by unfold sK accP; exact k5)
    iexact H5
  isplitl [H6]; · iexact H6
  iexists Z7; isplitr
  · ipureintro; exact Lanes.step (sV m c) t _ (coords_val t) h7 (by unfold sV accP; exact k7)
  iexact H7

/-- What the body is called with at a point. -/
def bodyPre (c : Dev nD) (t : Fin cfg0.N) : sProp 𝕄 :=
  iprop((dats m 0 c).Φ t.castSucc ∗ (dats m 0 c).owesAt () t.castSucc
    ∗ (∃ d, own c (ms0_0 t) ((dats m 0 c).before 0 t d))
    ∗ (∃ d, own c (ms0_1 t) ((dats m 0 c).before 1 t d))
    ∗ (∃ d, own c (ms0_2 t) ((dats m 0 c).before 2 t d))
    ∗ (∃ d, own c (ms0_3 t) ((dats m 0 c).before 3 t d))
    ∗ (∃ Y, ⌜(rdats m c).Finds 4 t Y⌝ ∗ own c (ms0_4 t) Y)
    ∗ (∃ d, own c (ms0_5 t) ((dats m 0 c).before 5 t d))
    ∗ (∃ Y, ⌜(rdats m c).Finds 6 t Y⌝ ∗ own c (ms0_6 t) Y))

/-- What it returns. -/
def bodyPost (c : Dev nD) (t : Fin cfg0.N) : sProp 𝕄 :=
  iprop((dats m 0 c).Φ t.succ ∗ (dats m 0 c).owesAt () t.succ
    ∗ own c (ms0_0 t) ((dats m 0 c).after 0 t)
    ∗ own c (ms0_1 t) ((dats m 0 c).after 1 t)
    ∗ own c (ms0_2 t) ((dats m 0 c).after 2 t)
    ∗ own c (ms0_3 t) ((dats m 0 c).after 3 t)
    ∗ (∃ Y, ⌜rel m c 4 t Y⌝ ∗ own c (ms0_4 t) Y)
    ∗ own c (ms0_5 t) ((dats m 0 c).after 5 t)
    ∗ (∃ Y, ⌜rel m c 6 t Y⌝ ∗ own c (ms0_6 t) Y))

set_option maxHeartbeats 1600000 in
theorem sound_body (c : Dev nD) (t : Fin cfg0.N) :
    bodyPre m c t ⊢ WP c Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_5]
  rw [show (dats m 0 c).Φ t.succ = PhiS m c (t.val + 1) from rfl, PhiS_pos m c (t.val + 1) (Nat.succ_ne_zero _)]
  rw [show (dats m 0 c).Φ t.castSucc = PhiS m c t.val from rfl]
  by_cases hz : t.val = 0
  · have ht : t = t0_0 := Fin.ext (by rw [hz]; rfl)
    have hR : IsRows (xp m c t) (R0 m c) := by rw [ht]; exact R0_spec m c
    rw [hz, PhiS_zero m c, PhiA0_eq, body_first _ ((first_iff t).mpr hz)]
    iintro ⟨⟨⟨HS0, ⟨%e1, HS1⟩, ⟨%e2, HS2⟩⟩, Hg⟩, Ho, ⟨%d0, H0⟩, ⟨%d1, H1⟩, ⟨%d2, H2⟩, ⟨%d3, H3⟩, ⟨%d4, %h4, H4⟩, ⟨%d5, H5⟩, ⟨%d6, %h6, H6⟩⟩
    iapply (wp_seq c Set.univ)
    iapply (wp_then c Set.univ (setup_spec c Set.univ (ms0_2 t) scM0_1 scM0_2 (xp m c t) e1 e2 T0 T0_spec (R0 m c) hR))
    isplitl [H2 HS1 HS2]
    · isplitl [H2]; · iexact H2
      isplitl [HS1]; · iexact HS1
      iexact HS2
    iintro %u ⟨H2, HS1, HS2⟩
    iapply (wp_then c Set.univ (rest_at m c t))
    isplitl [HS0 HS1 HS2 H0 H1 H3 H4 H5 H6]
    · isplitl [HS0]; · iexact HS0
      isplitl [HS1]; · iexact HS1
      isplitl [HS2]; · iexact HS2
      isplitl [H0]; · iexact H0
      isplitl [H1]; · iexact H1
      isplitl [H3]; · iexists _; iexact H3
      isplitl [H4]
      · iexists _; isplitr
        · ipureintro; exact finds4 m c t _ h4
        iexact H4
      isplitl [H5]; · iexists _; iexact H5
      iexists _; isplitr
      · ipureintro; exact finds6 m c t _ h6
      iexact H6
    iintro %u' ⟨HS0, HS1, HS2, H0, H1, H3, H4, H5, H6⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz, body_later _ (fun h => hz ((first_iff t).mp h))]
    iintro ⟨⟨⟨HS0, HS1, HS2⟩, Hg⟩, Ho, ⟨%d0, H0⟩, ⟨%d1, H1⟩, ⟨%d2, H2⟩, ⟨%d3, H3⟩, ⟨%d4, %h4, H4⟩, ⟨%d5, H5⟩, ⟨%d6, %h6, H6⟩⟩
    iapply (wp_then c Set.univ (rest_at m c t))
    isplitl [HS0 HS1 HS2 H0 H1 H3 H4 H5 H6]
    · isplitl [HS0]; · iexact HS0
      isplitl [HS1]; · iexact HS1
      isplitl [HS2]; · iexact HS2
      isplitl [H0]; · iexact H0
      isplitl [H1]; · iexact H1
      isplitl [H3]; · iexists _; iexact H3
      isplitl [H4]
      · iexists _; isplitr
        · ipureintro; exact finds4 m c t _ h4
        iexact H4
      isplitl [H5]; · iexists _; iexact H5
      iexists _; isplitr
      · ipureintro; exact finds6 m c t _ h6
      iexact H6
    iintro %u' ⟨HS0, HS1, HS2, H0, H1, H3, H4, H5, H6⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ held (rel m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 8 from N_0]; decide), PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-! ## The run and the frame -/

set_option backward.isDefEq.respectTransparency.types false in
/-- The launch. -/
theorem run_main_quiescent : θ_run defs (onTc (τ := τ) (main (F := F))) (s₀ m ρ)
    (fun r => (Pipeline.RDat.FramePost (cfgs 0) (fun c => (dats m 0 c).toRRel held (rel m c)) (V m)) r ∧ r.2.sem = fun _ => 0) :=
  Pipeline.RDat.θ_run_frame_track (Q' := _) cfgs (0 : Fin 1) launch0 defs₀ Variants.none (fun c => (dats m 0 c).toRRel held (rel m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ)
    (Pipeline.RDat.FramePost (cfgs 0) (fun c => (dats m 0 c).toRRel held (rel m c)) (V m)) :=
  (θ_run defs _ _).mono (fun _ h => h.1) (run_main_quiescent m ρ)

theorem post_args {r} (h : Pipeline.RDat.FramePost (cfgs 0) (fun c => (dats m 0 c).toRRel held (rel m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c))⟩

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨post_args m h.1, h.2⟩) (run_main_quiescent m ρ)

end Cert.KernelIdeal.Rope

end
-- ==== Proof.Rope.Math.lean ====
/- The mathematics of the rotation and of the quantiser over the extended reals, free of any program. -/
module

public import Idealize.ShloMosaic.PureOps.Ideal.Laws
public import Idealize.ShloMosaic.Lib.IdealHost
public import Idealize.ShloMosaic.Lib.SortNet.Extract

@[expose] public section

noncomputable section

namespace Cert.RopeMath

open Idealize.ShloMosaic

/-- The value of an f32 pattern. -/
abbrev lit (b : BitVec 32) : EReal := Ideal.ofBits .f32 b

/-- The frequency of channel pair `i`. -/
def freq (i : ℕ) : EReal :=
  Ideal.div (lit 0x3F800000#32) (Ideal.pow (lit 0x461C4000#32) (Ideal.div (lit 0x40000000#32 * ((i : ℝ) : EReal)) (lit 0x42800000#32)))

/-- The angle of channel pair `i` at position `p`. -/
def ang (p : BitVec 32) (i : ℕ) : EReal := ((p.toInt : ℝ) : EReal) * freq i

/-- Channel `q` of a rotated head of 64 channels. -/
def rot (x : ℕ → EReal) (p : BitVec 32) (q : ℕ) : EReal :=
  if q < 32 then x q * Ideal.cos (ang p q) - x (q + 32) * Ideal.sin (ang p q)
  else x q * Ideal.cos (ang p (q - 32)) + x (q - 32) * Ideal.sin (ang p (q - 32))

/-- The absolute value. -/
def mag (x : EReal) : EReal := max x (-x)

/-- The largest absolute entry of a head. -/
def amax (f : ℕ → ℕ → EReal) : EReal := ⨆ n : Fin 2048, ⨆ q : Fin 64, mag (f n.val q.val)

/-- The largest absolute entry over the largest code. -/
def quot (a : EReal) : EReal := a * lit 0x3B124925#32

/-- The exponent of the scale. -/
def expo (y : EReal) : EReal :=
  if y < lit 0x00800000#32 then lit 0x00000000#32
  else Ideal.liftRound Int.floor (Ideal.div (Ideal.log y) (Ideal.log (lit 0x40000000#32))) + lit 0x3F800000#32

/-- The scale. -/
def scale (a : EReal) : EReal := Ideal.pow (lit 0x40000000#32) (expo (quot a))
/-- Its inverse. -/
def inv (a : EReal) : EReal := Ideal.pow (lit 0x40000000#32) (-expo (quot a))
/-- One code. -/
def code (x i : EReal) : EReal := min (lit 0x43E00000#32) (max (lit 0xC3E00000#32) (x * i))

/-! ## Patterns -/

theorem lit_two : lit 0x40000000#32 = ((2 : ℝ) : EReal) := by
  simp [Ideal.ofBits, Ideal.ieee, -EReal.coe_mul]; norm_num

theorem lit_half_turns : ∃ r : ℝ, lit 0x3E22F983#32 = (r : EReal) := by
  refine ⟨10680707 * 2 ^ (-26 : ℤ), ?_⟩
  simp [Ideal.ofBits, Ideal.ieee, -EReal.coe_mul]

theorem lit_def (b : BitVec 32) : lit b = Ideal.ieee 8 23 b := rfl

theorem ex_pow : ∀ j : Fin 256, ((BitVec.ofNat 32 j.val <<< (23 : ℕ)).extractLsb' 23 8).toNat = j.val
    ∧ ((BitVec.ofNat 32 j.val <<< (23 : ℕ)).extractLsb' 0 23).toNat = 0
    ∧ ((BitVec.ofNat 32 j.val <<< (23 : ℕ)).extractLsb' 31 1 == 1#1) = false := by decide +kernel

theorem ieee_normal (b : BitVec 32) (e : ℕ) (h1 : (b.extractLsb' 23 8).toNat = e) (h2 : (b.extractLsb' 0 23).toNat = 0)
    (h3 : (b.extractLsb' (8 + 23) 1 == 1#1) = false) (he : 1 ≤ e) (he' : e ≤ 254) :
    Ideal.ieee 8 23 b = (((2 : ℝ) ^ ((e : ℤ) - 127) : ℝ) : EReal) := by
  unfold Ideal.ieee
  dsimp only
  rw [h1, h2, h3, if_neg (by omega), if_neg (by omega)]
  congr 1
  have : ((2 : ℝ) ^ 23 : ℝ) = (2 : ℝ) ^ ((23 : ℕ) : ℤ) := (zpow_natCast 2 23).symm
  rw [if_neg (by decide), one_mul, Nat.add_zero, Nat.cast_pow, Nat.cast_ofNat, this, ← zpow_add₀ (by norm_num : (2 : ℝ) ≠ 0)]
  congr 1
  push_cast
  ring

theorem ieee_inf (b : BitVec 32) (h1 : (b.extractLsb' 23 8).toNat = 255) (h2 : (b.extractLsb' 0 23).toNat = 0)
    (h3 : (b.extractLsb' (8 + 23) 1 == 1#1) = false) : Ideal.ieee 8 23 b = ⊤ := by
  unfold Ideal.ieee
  dsimp only
  rw [h1, h2, h3, if_pos (by norm_num), if_pos rfl, if_neg (by decide)]

theorem lit_pow (j : ℕ) (h1 : 1 ≤ j) (h2 : j ≤ 254) :
    lit (BitVec.ofNat 32 j <<< (23 : ℕ)) = (((2 : ℝ) ^ ((j : ℤ) - 127) : ℝ) : EReal) := by
  obtain ⟨e1, e2, e3⟩ := ex_pow ⟨j, by omega⟩
  rw [lit_def]
  exact ieee_normal _ j e1 e2 e3 h1 h2

theorem lit_min : lit 0x00800000#32 = (((2 : ℝ) ^ (-126 : ℤ) : ℝ) : EReal) := by
  have := lit_pow 1 (by norm_num) (by norm_num)
  rw [show (BitVec.ofNat 32 1 <<< (23 : ℕ)) = 0x00800000#32 from by decide] at this
  rw [this]; norm_num

theorem lit_top : lit (BitVec.ofNat 32 255 <<< (23 : ℕ)) = ⊤ := by
  obtain ⟨e1, e2, e3⟩ := ex_pow ⟨255, by omega⟩
  rw [lit_def]
  exact ieee_inf _ e1 e2 e3

/-! ## The scale -/

/-- One candidate of the exponent search. -/
def cand (y : EReal) (k : ℕ) : BitVec 32 :=
  if lit (BitVec.ofNat 32 k <<< (23 : ℕ)) ≤ y then BitVec.ofNat 32 k else 4294967295#32

/-- The found exponent is the greatest whose power of two is not above `y`. -/
theorem found {ι : Type} [DecidableEq ι] (s : Finset ι) (k : ι → ℕ) (hk : ∀ i ∈ s, k i < 256) (hall : ∀ j < 256, ∃ i ∈ s, k i = j)
    (y : ℝ) (h0 : 0 ≤ y) (M : BitVec 32) (hM : M = s.fold IntOp.maxsi 2147483648#32 (fun i => cand y (k i))) :
    ∃ j : ℕ, M = BitVec.ofNat 32 j ∧ j < 255 ∧ (j = 0 ∨ (2 : ℝ) ^ ((j : ℤ) - 127) ≤ y) ∧ (j < 254 → y < (2 : ℝ) ^ ((j : ℤ) - 126)) := by
  have toInt_small : ∀ j < 256, (BitVec.ofNat 32 j).toInt = (j : ℤ) := by
    intro j hj
    rw [BitVec.toInt_eq_toNat_of_lt (by rw [BitVec.toNat_ofNat]; omega), BitVec.toNat_ofNat]
    congr 1; omega
  obtain ⟨h1, h2, h3⟩ := SortNet.fold_maxsi_spec (fun i => cand y (k i)) s 2147483648#32
  rw [← hM] at h1 h2 h3
  have hz : (0 : ℤ) ≤ M.toInt := by
    obtain ⟨i, hi, hki⟩ := hall 0 (by norm_num)
    have := h2 i hi
    rw [hki] at this
    unfold cand at this
    rw [if_pos (by rw [show (BitVec.ofNat 32 0 <<< (23 : ℕ)) = 0#32 from by decide, show lit 0#32 = 0 from Ideal.ofBits_zero_f32]; exact_mod_cast h0)] at this
    exact this
  have hM' : ∃ i ∈ s, lit (BitVec.ofNat 32 (k i) <<< (23 : ℕ)) ≤ y ∧ M = BitVec.ofNat 32 (k i) := by
    rcases h3 with h3 | ⟨i, hi, h3⟩
    · rw [h3] at hz; exact absurd hz (by decide)
    · refine ⟨i, hi, ?_⟩
      unfold cand at h3
      split at h3
      · rename_i hle; exact ⟨hle, h3⟩
      · rw [h3] at hz; exact absurd hz (by decide)
  obtain ⟨i, hi, hle, hMi⟩ := hM'
  have hlt := hk i hi
  have h255 : k i ≠ 255 := by
    intro h
    rw [h, lit_top] at hle
    exact absurd (top_le_iff.mp hle) (EReal.coe_ne_top y)
  refine ⟨k i, hMi, by omega, ?_, ?_⟩
  · by_cases h : k i = 0
    · exact .inl h
    · right
      rw [lit_pow _ (by omega) (by omega)] at hle
      exact_mod_cast hle
  · intro h254
    by_contra hc
    obtain ⟨i', hi', hki'⟩ := hall (k i + 1) (by omega)
    have := h2 i' hi'
    rw [hki'] at this
    unfold cand at this
    rw [if_pos, hMi, toInt_small _ (by omega), toInt_small _ (by omega)] at this
    · push_cast at this; omega
    · rw [lit_pow _ (by omega) (by omega)]
      push Not at hc
      rw [show (((k i + 1 : ℕ) : ℤ) - 127) = (k i : ℤ) - 126 from by push_cast; ring]
      exact_mod_cast hc

/-- The exponent of the specification, from the found one. -/
theorem expo_eq (y : ℝ) (j : ℕ) (h0 : j = 0 → y < (2 : ℝ) ^ (-126 : ℤ)) (h1 : j ≠ 0 → (2 : ℝ) ^ ((j : ℤ) - 127) ≤ y ∧ y < (2 : ℝ) ^ ((j : ℤ) - 126)) :
    expo y = (((if j = 0 then 0 else (j : ℤ) - 126 : ℤ) : ℝ) : EReal) := by
  unfold expo
  rw [lit_min]
  by_cases hj : j = 0
  · rw [if_pos (by exact_mod_cast h0 hj), if_pos hj]
    rw [show lit 0x00000000#32 = 0 from Ideal.ofBits_zero_f32]; simp
  · obtain ⟨ha, hb⟩ := h1 hj
    have hpos : 0 < y := lt_of_lt_of_le (by positivity) ha
    have hmin : (2 : ℝ) ^ (-126 : ℤ) ≤ y := le_trans (zpow_le_zpow_right₀ (by norm_num) (by omega)) ha
    have l2 : 0 < Real.log 2 := Real.log_pos (by norm_num)
    rw [if_neg (by rw [not_lt]; exact_mod_cast hmin), if_neg hj, lit_two, Ideal.log_coe, Ideal.log_coe, if_neg (by linarith), if_neg (by norm_num),
      Ideal.div_coe (ne_of_gt l2), show lit 0x3F800000#32 = 1 from Ideal.ofBits_one_f32]
    rw [← EReal.coe_mul, Ideal.liftRound_coe]
    have hf : ⌊Real.log y * (1 / Real.log 2)⌋ = (j : ℤ) - 127 := by
      rw [mul_one_div, Int.floor_eq_iff]
      constructor
      · rw [le_div_iff₀ l2]
        have := Real.log_le_log (by positivity) ha
        rw [Real.log_zpow] at this
        exact_mod_cast this
      · rw [div_lt_iff₀ l2]
        have := Real.log_lt_log hpos hb
        rw [Real.log_zpow] at this
        have e : (((j : ℤ) - 127 : ℤ) : ℝ) + 1 = (((j : ℤ) - 126 : ℤ) : ℝ) := by push_cast; ring
        rw [e]; exact this
    rw [hf, ← EReal.coe_one, ← EReal.coe_add]
    congr 1
    push_cast; ring

theorem pow_two_int (e : ℤ) : Ideal.pow (lit 0x40000000#32) (((e : ℝ)) : EReal) = (((2 : ℝ) ^ e : ℝ) : EReal) := by
  rw [lit_two, Ideal.pow_coe_coe]
  congr 1
  exact Real.rpow_intCast 2 e

/-- The kernel's exponent word, from the found one. -/
def expoW (b : BitVec 32) : BitVec 32 :=
  if (b = 0#32 ∨ b = 255#32) then 0#32 else b - 126#32

theorem words : ∀ j : Fin 253, (127#32 + expoW (BitVec.ofNat 32 j.val &&& 255#32)) = BitVec.ofNat 32 (if j.val = 0 then 127 else j.val + 1)
    ∧ (127#32 - expoW (BitVec.ofNat 32 j.val &&& 255#32)) = BitVec.ofNat 32 (if j.val = 0 then 127 else 253 - j.val) := by
  unfold expoW; decide +kernel

/-- The kernel's scale and inverse scale are the specification's. -/
theorem scale_eq {ι : Type} [DecidableEq ι] (s : Finset ι) (k : ι → ℕ) (hk : ∀ i ∈ s, k i < 256) (hall : ∀ j < 256, ∃ i ∈ s, k i = j)
    (a : EReal) (y : ℝ) (hy : quot a = y) (h0 : 0 ≤ y) (hlt : y < (2 : ℝ) ^ (126 : ℤ)) (M : BitVec 32)
    (hM : M = s.fold IntOp.maxsi 2147483648#32 (fun i => cand y (k i))) :
    lit ((127#32 + expoW (M &&& 255#32)) <<< (23 : ℕ)) = scale a ∧ lit ((127#32 - expoW (M &&& 255#32)) <<< (23 : ℕ)) = inv a := by
  obtain ⟨j, hj, hj255, hlo, hhi⟩ := found s k hk hall y h0 M hM
  have hj252 : j ≤ 252 := by
    by_contra hc
    rcases hlo with hlo | hlo
    · omega
    · have : (2 : ℝ) ^ (126 : ℤ) ≤ (2 : ℝ) ^ ((j : ℤ) - 127) := zpow_le_zpow_right₀ (by norm_num) (by omega)
      linarith
  have he : expo y = (((if j = 0 then 0 else (j : ℤ) - 126 : ℤ) : ℝ) : EReal) := by
    refine expo_eq y j (fun h => ?_) (fun h => ⟨hlo.resolve_left h, hhi (by omega)⟩)
    have := hhi (by omega)
    rw [h] at this; simpa using this
  obtain ⟨w1, w2⟩ := words ⟨j, by omega⟩
  simp only at w1 w2
  unfold scale inv
  rw [hy, he, hj, w1, w2, ← EReal.coe_neg, ← Int.cast_neg, pow_two_int, pow_two_int]
  by_cases h : j = 0
  · subst h
    simp only [if_true]
    rw [lit_pow 127 (by norm_num) (by norm_num)]
    norm_num
  · simp only [if_neg h]
    rw [lit_pow _ (by omega) (by omega), lit_pow _ (by omega) (by omega)]
    refine ⟨by congr 2; push_cast; ring, ?_⟩
    congr 2
    rw [Nat.cast_sub (by omega)]
    push_cast; ring

/-! ## The angle -/

/-- A value that is a real number. -/
def IsReal (x : EReal) : Prop := ∃ r : ℝ, x = r

theorem freq_real (i : ℕ) : IsReal (freq i) := by
  unfold freq
  have h64 : lit 0x42800000#32 = ((64 : ℝ) : EReal) := by
    simp [Ideal.ofBits, Ideal.ieee, -EReal.coe_mul]; norm_num
  have h1e4 : lit 0x461C4000#32 = ((10000 : ℝ) : EReal) := by
    simp [Ideal.ofBits, Ideal.ieee, -EReal.coe_mul]; norm_num
  rw [h64, h1e4, lit_two, ← EReal.coe_mul, Ideal.div_coe (by norm_num), ← EReal.coe_mul, Ideal.pow_coe_coe]
  have : Real.rpow 10000 (2 * (i : ℝ) * (1 / 64)) ≠ 0 := ne_of_gt (Real.rpow_pos_of_pos (by norm_num) _)
  rw [Ideal.div_coe this, show lit 0x3F800000#32 = 1 from Ideal.ofBits_one_f32, one_mul]
  exact ⟨_, rfl⟩

/-- The three parts of a turn. -/
abbrev partA : EReal := ((499845993147983789 / 250000000000000000 * Real.pi : ℝ) : EReal)
abbrev partB : EReal := ((307965640576797 / 500000000000000000 * Real.pi : ℝ) : EReal)
abbrev partC : EReal := ((76901529 / 800000000000000 * Real.pi : ℝ) : EReal)

/-- An angle with its whole turns subtracted in three parts. -/
def reduceE (a : EReal) : EReal :=
  ((a - Ideal.liftRound Ideal.roundHalfEven (a * lit 0x3E22F983#32) * partA)
    - Ideal.liftRound Ideal.roundHalfEven (a * lit 0x3E22F983#32) * partB)
    - Ideal.liftRound Ideal.roundHalfEven (a * lit 0x3E22F983#32) * partC

theorem reduceE_eq (a : ℝ) : ∃ n : ℤ, reduceE a = ((a - n * (2 * Real.pi) : ℝ) : EReal) := by
  obtain ⟨c, hc⟩ := lit_half_turns
  refine ⟨Ideal.roundHalfEven (a * c), ?_⟩
  unfold reduceE
  rw [hc, ← EReal.coe_mul, Ideal.liftRound_coe, ← EReal.coe_mul, ← EReal.coe_mul, ← EReal.coe_mul, ← EReal.coe_sub, ← EReal.coe_sub, ← EReal.coe_sub]
  congr 1
  ring

/-- The angle a table holds, up to whole turns: the frequency's leading part cancels. -/
theorem angle_eq (d f h : ℝ) : ∃ n : ℤ, reduceE ((d : EReal) * h) + (d : EReal) * ((f : EReal) - h) = ((d * f - n * (2 * Real.pi) : ℝ) : EReal) := by
  obtain ⟨n, hn⟩ := reduceE_eq (d * h)
  refine ⟨n, ?_⟩
  rw [EReal.coe_mul] at hn
  rw [hn, ← EReal.coe_sub, ← EReal.coe_mul, ← EReal.coe_add]
  congr 1
  ring

theorem cos_angle (d f h : ℝ) : Ideal.cos (reduceE ((d : EReal) * h) + (d : EReal) * ((f : EReal) - h)) = ((Real.cos (d * f) : ℝ) : EReal) := by
  obtain ⟨n, hn⟩ := angle_eq d f h
  rw [hn, Ideal.cos_coe, Real.cos_sub_int_mul_two_pi]
theorem sin_angle (d f h : ℝ) : Ideal.sin (reduceE ((d : EReal) * h) + (d : EReal) * ((f : EReal) - h)) = ((Real.sin (d * f) : ℝ) : EReal) := by
  obtain ⟨n, hn⟩ := angle_eq d f h
  rw [hn, Ideal.sin_coe, Real.sin_sub_int_mul_two_pi]

theorem digits (p : BitVec 32) (h : p.toNat < 16384) : (p.toInt : ℝ) = (p.toNat / 128 : ℕ) * 128 + (p.toNat % 128 : ℕ) := by
  rw [BitVec.toInt_eq_toNat_of_lt (by omega)]
  have : p.toNat = p.toNat / 128 * 128 + p.toNat % 128 := by omega
  rw [Int.cast_natCast]
  exact_mod_cast this

/-- The cosine of a position's angle from its two digits'. -/
theorem cos_digits (p : BitVec 32) (h : p.toNat < 16384) (i : ℕ) (f : ℝ) (hf : freq i = f) :
    ((Real.cos ((p.toNat / 128 : ℕ) * 128 * f) : ℝ) : EReal) * ((Real.cos ((p.toNat % 128 : ℕ) * f) : ℝ) : EReal)
      - ((Real.sin ((p.toNat / 128 : ℕ) * 128 * f) : ℝ) : EReal) * ((Real.sin ((p.toNat % 128 : ℕ) * f) : ℝ) : EReal) = Ideal.cos (ang p i) := by
  unfold ang
  rw [hf, ← EReal.coe_mul, ← EReal.coe_mul, ← EReal.coe_mul, ← EReal.coe_sub, Ideal.cos_coe, digits p h, add_mul, Real.cos_add]
theorem sin_digits (p : BitVec 32) (h : p.toNat < 16384) (i : ℕ) (f : ℝ) (hf : freq i = f) :
    ((Real.sin ((p.toNat / 128 : ℕ) * 128 * f) : ℝ) : EReal) * ((Real.cos ((p.toNat % 128 : ℕ) * f) : ℝ) : EReal)
      + ((Real.cos ((p.toNat / 128 : ℕ) * 128 * f) : ℝ) : EReal) * ((Real.sin ((p.toNat % 128 : ℕ) * f) : ℝ) : EReal) = Ideal.sin (ang p i) := by
  unfold ang
  rw [hf, ← EReal.coe_mul, ← EReal.coe_mul, ← EReal.coe_mul, ← EReal.coe_add, Ideal.sin_coe, digits p h, add_mul, Real.sin_add]

/-! ## The largest entry -/

/-- The largest finite bf16 number. -/
abbrev top : EReal := lit 0x7F7F0000#32

theorem top_eq : top = ((255 * 2 ^ 120 : ℝ) : EReal) := by
  simp [Ideal.ofBits, Ideal.ieee, -EReal.coe_mul]; norm_num

theorem real_of_mag {x : EReal} (h : mag x ≤ top) : ∃ r : ℝ, x = r ∧ |r| ≤ 255 * 2 ^ 120 := by
  rw [top_eq] at h
  unfold mag at h
  induction x with
  | bot => rw [EReal.neg_bot] at h; exact absurd (top_le_iff.mp (max_le_iff.mp h).2) (EReal.coe_ne_top _)
  | top => exact absurd (top_le_iff.mp (max_le_iff.mp h).1) (EReal.coe_ne_top _)
  | coe r =>
    refine ⟨r, rfl, ?_⟩
    rw [← EReal.coe_neg] at h
    have h1 := (max_le_iff.mp h).1
    have h2 := (max_le_iff.mp h).2
    rw [EReal.coe_le_coe_iff] at h1 h2
    exact abs_le.mpr ⟨by linarith, h1⟩

theorem mag_nonneg (x : EReal) : 0 ≤ mag x := by
  unfold mag
  rcases le_total 0 x with h | h
  · exact le_max_of_le_left h
  · exact le_max_of_le_right (by simpa using h)

theorem mag_coe (r : ℝ) : mag r = ((|r| : ℝ) : EReal) := by
  unfold mag
  rw [← EReal.coe_neg, abs]
  exact (EReal.coe_strictMono.monotone.map_max).symm

theorem amax_le (f : ℕ → ℕ → EReal) (z : EReal) : amax f ≤ z ↔ ∀ n < 2048, ∀ q < 64, mag (f n q) ≤ z := by
  unfold amax
  simp only [iSup_le_iff]
  exact ⟨fun h n hn q hq => h ⟨n, hn⟩ ⟨q, hq⟩, fun h n q => h n.val n.isLt q.val q.isLt⟩

theorem amax_nonneg (f : ℕ → ℕ → EReal) : 0 ≤ amax f :=
  le_trans (mag_nonneg _) ((amax_le f _).mp le_rfl 0 (by norm_num) 0 (by norm_num))

theorem lit_c : ∃ c : ℝ, lit 0x3B124925#32 = c ∧ 0 ≤ c ∧ c ≤ 1 / 256 := by
  refine ⟨9586981 * 2 ^ (-32 : ℤ), ?_, by positivity, by norm_num⟩
  simp [Ideal.ofBits, Ideal.ieee, -EReal.coe_mul]

/-- A bounded head's quotient is a real number well below the greatest power of two. -/
theorem quot_real (f : ℕ → ℕ → EReal) (h : ∀ n < 2048, ∀ q < 64, mag (f n q) ≤ ((2 ^ 129 : ℝ) : EReal)) :
    ∃ y : ℝ, quot (amax f) = y ∧ 0 ≤ y ∧ y < (2 : ℝ) ^ (126 : ℤ) := by
  have h1 := (amax_le f _).mpr h
  have h2 := amax_nonneg f
  obtain ⟨a, ha⟩ : ∃ a : ℝ, amax f = a := by
    refine ⟨(amax f).toReal, (EReal.coe_toReal ?_ ?_).symm⟩
    · intro h; rw [h] at h1; exact absurd (top_le_iff.mp h1) (EReal.coe_ne_top _)
    · intro h; rw [h] at h2; simp at h2
  obtain ⟨c, hc, hc0, hc1⟩ := lit_c
  rw [ha] at h1 h2
  have a1 : a ≤ 2 ^ 129 := by exact_mod_cast h1
  have a0 : 0 ≤ a := by exact_mod_cast h2
  refine ⟨a * c, ?_, mul_nonneg a0 hc0, ?_⟩
  · unfold quot; rw [ha, hc, EReal.coe_mul]
  · calc a * c ≤ 2 ^ 129 * (1 / 256) := mul_le_mul a1 hc1 hc0 (by positivity)
      _ < (2 : ℝ) ^ (126 : ℤ) := by norm_num

/-- A rotated channel of bounded channels is bounded. -/
theorem rot_le (x : ℕ → EReal) (hx : ∀ q < 64, mag (x q) ≤ top) (p : BitVec 32) (q : ℕ) (hq : q < 64) : mag (rot x p q) ≤ ((2 ^ 129 : ℝ) : EReal) := by
  have key : ∀ (u v a b : ℝ), |u| ≤ 255 * 2 ^ 120 → |v| ≤ 255 * 2 ^ 120 → |a| ≤ 1 → |b| ≤ 1 → |u * a| + |v * b| ≤ 2 ^ 129 := by
    intro u v a b hu hv ha hb
    rw [abs_mul, abs_mul]
    have m1 : |u| * |a| ≤ 255 * 2 ^ 120 * 1 := mul_le_mul hu ha (abs_nonneg _) (by positivity)
    have m2 : |v| * |b| ≤ 255 * 2 ^ 120 * 1 := mul_le_mul hv hb (abs_nonneg _) (by positivity)
    norm_num at m1 m2 ⊢
    linarith
  unfold rot
  split
  · rename_i h
    obtain ⟨u, hu, hu'⟩ := real_of_mag (hx q hq)
    obtain ⟨v, hv, hv'⟩ := real_of_mag (hx (q + 32) (by omega))
    obtain ⟨f, hf⟩ := freq_real q
    unfold ang
    rw [hu, hv, hf, ← EReal.coe_mul, Ideal.cos_coe, Ideal.sin_coe, ← EReal.coe_mul, ← EReal.coe_mul, ← EReal.coe_sub, mag_coe, EReal.coe_le_coe_iff]
    exact le_trans (abs_sub _ _) (key _ _ _ _ hu' hv' (Real.abs_cos_le_one _) (Real.abs_sin_le_one _))
  · rename_i h
    obtain ⟨u, hu, hu'⟩ := real_of_mag (hx q hq)
    obtain ⟨v, hv, hv'⟩ := real_of_mag (hx (q - 32) (by omega))
    obtain ⟨f, hf⟩ := freq_real (q - 32)
    unfold ang
    rw [hu, hv, hf, ← EReal.coe_mul, Ideal.cos_coe, Ideal.sin_coe, ← EReal.coe_mul, ← EReal.coe_mul, ← EReal.coe_add, mag_coe, EReal.coe_le_coe_iff]
    exact le_trans (abs_add_le _ _) (key _ _ _ _ hu' hv' (Real.abs_cos_le_one _) (Real.abs_sin_le_one _))

theorem top_le : top ≤ ((2 ^ 129 : ℝ) : EReal) := by
  rw [top_eq, EReal.coe_le_coe_iff]; norm_num

end Cert.RopeMath

end
-- ==== Proof.Rope.Tables.lean ====
/- The tables over the extended reals: the cosine and the sine of each digit's angle. -/
module

public import proofs.«01_k».proof.Proof.Rope.Triple
public import proofs.«01_k».proof.Proof.Rope.Math
public import Idealize.ShloMosaic.Lib.Pointwise
public import Idealize.ShloMosaic.PureOps.IdealRules

@[expose] public section

set_option maxRecDepth 16384

noncomputable section

namespace Cert.KernelIdeal.Rope

open Cert.KernelIdeal Cert.KernelIdeal.Gen Cert.RopeMath
open Idealize.ShloMosaic

/-! ## Real entries -/

theorem real_lit (b : BitVec 32) (h : (b.extractLsb' 23 8).toNat ≠ 255) : IsReal (Scalar.ofBits (F := Ideal) .f32 b) := by
  show IsReal (Ideal.ieee 8 23 b)
  unfold Ideal.ieee
  dsimp only
  rw [if_neg (by simpa using h)]
  split
  · exact ⟨_, rfl⟩
  · exact ⟨_, rfl⟩

theorem real_mulf (a b : FVec Ideal S32x128 .f32) (j : S32x128.Idx) (ha : IsReal (a j)) (hb : IsReal (b j)) : IsReal (mulf a b j) := by
  obtain ⟨x, hx⟩ := ha
  obtain ⟨y, hy⟩ := hb
  refine ⟨x * y, ?_⟩
  show a j * b j = _
  rw [hx, hy, EReal.coe_mul]

theorem real_floor (a : FVec Ideal S32x128 .f32) (j : S32x128.Idx) (ha : IsReal (a j)) : IsReal (floor a j) := by
  obtain ⟨x, hx⟩ := ha
  refine ⟨((⌊x⌋ : ℤ) : ℝ), ?_⟩
  show Ideal.liftRound Int.floor (a j) = _
  rw [hx, Ideal.liftRound_coe]

theorem real_select (c : IVec S32x128 1) (a b : FVec Ideal S32x128 .f32) (j : S32x128.Idx) (ha : IsReal (a j)) (hb : IsReal (b j)) : IsReal (select c a b j) := by
  show IsReal (Scalar.select (c j) (a j) (b j))
  unfold Scalar.select
  split
  · exact ha
  · exact hb

theorem real_freqHi (f : FVec Ideal S32x128 .f32) (j : S32x128.Idx) (hf : IsReal (f j)) : IsReal (freqHi f j) := by
  unfold freqHi
  refine real_mulf _ _ j (real_floor _ j (real_mulf _ _ j hf ?_)) ?_
  · repeat first
      | exact real_lit _ (by decide)
      | refine real_select _ _ _ j (real_lit _ (by decide)) ?_
  · repeat first
      | exact real_lit _ (by decide)
      | refine real_select _ _ _ j (real_lit _ (by decide)) ?_

/-! ## The tables -/

theorem invFreq_apply (i : Fin 32) (d : Fin 128) : invFreq (F := Ideal) (ValueIdx.ix2 i d) = freq i.val := by
  unfold invFreq freq
  show Ideal.div _ (Ideal.pow _ (Ideal.div (_ * (((BitVec.ofNat 32 (0 * 32 + i.val)).toInt : ℝ) : EReal)) _)) = _
  have h : (BitVec.ofNat 32 (0 * 32 + i.val)).toInt = (i.val : ℤ) := by
    have := i.isLt
    rw [BitVec.toInt_eq_toNat_of_lt (by rw [BitVec.toNat_ofNat]; omega), BitVec.toNat_ofNat]
    congr 1; omega
  rw [h, Int.cast_natCast]
  rfl

theorem digit_apply (i : Fin 32) (d : Fin 128) : digit (F := Ideal) (ValueIdx.ix2 i d) = (((d.val : ℝ)) : EReal) := by
  unfold digit
  show (((BitVec.ofNat 32 (0 * 128 + d.val)).toInt : ℝ) : EReal) = _
  have h : (BitVec.ofNat 32 (0 * 128 + d.val)).toInt = (d.val : ℤ) := by
    have := d.isLt
    rw [BitVec.toInt_eq_toNat_of_lt (by rw [BitVec.toNat_ofNat]; omega), BitVec.toNat_ofNat]
    congr 1; omega
  rw [h, Int.cast_natCast]

theorem named_a : (Named.named (F := Ideal) κ "two_pi_a" (φ := .f32) 0x40C90000#32 : EReal) = partA := IdealRules.named_const.ideal_named_scalar _ _ _ _ rfl
theorem named_b : (Named.named (F := Ideal) κ "two_pi_b" (φ := .f32) 0x3AFDA000#32 : EReal) = partB := IdealRules.named_const.ideal_named_scalar _ _ _ _ rfl
theorem named_c : (Named.named (F := Ideal) κ "two_pi_c" (φ := .f32) 0x34A22169#32 : EReal) = partC := IdealRules.named_const.ideal_named_scalar _ _ _ _ rfl

theorem reduce_apply (a : FVec Ideal S32x128 .f32) (j : S32x128.Idx) : reduce a j = reduceE (a j) := by
  unfold reduce reduceE
  rw [← named_a, ← named_b, ← named_c]
  rfl

attribute [local irreducible] freqHi invFreq reduce digit

theorem lit_128 : lit 0x43000000#32 = ((128 : ℝ) : EReal) := by
  simp [Ideal.ofBits, Ideal.ieee, -EReal.coe_mul]; norm_num

theorem angleHi_apply (i : Fin 32) (d : Fin 128) (f : ℝ) (hf : freq i.val = f) :
    ∃ h : ℝ, angleHi (F := Ideal) (ValueIdx.ix2 i d) = reduceE (((d.val * 128 : ℝ) : EReal) * h) + ((d.val * 128 : ℝ) : EReal) * ((f : EReal) - h) := by
  obtain ⟨h, hh⟩ := real_freqHi invFreq (ValueIdx.ix2 i d) (by rw [invFreq_apply]; exact freq_real _)
  refine ⟨h, ?_⟩
  show reduce _ _ + (digit (F := Ideal) (ValueIdx.ix2 i d) * lit 0x43000000#32) * (invFreq (F := Ideal) (ValueIdx.ix2 i d) - freqHi (F := Ideal) invFreq (ValueIdx.ix2 i d)) = _
  rw [reduce_apply]
  show reduceE ((digit (F := Ideal) (ValueIdx.ix2 i d) * lit 0x43000000#32) * freqHi (F := Ideal) invFreq (ValueIdx.ix2 i d)) + _ = _
  rw [hh, invFreq_apply, hf, digit_apply, lit_128, ← EReal.coe_mul]

theorem angleLo_apply (i : Fin 32) (d : Fin 128) (f : ℝ) (hf : freq i.val = f) :
    ∃ h : ℝ, angleLo (F := Ideal) (ValueIdx.ix2 i d) = reduceE (((d.val : ℝ) : EReal) * h) + ((d.val : ℝ) : EReal) * ((f : EReal) - h) := by
  obtain ⟨h, hh⟩ := real_freqHi invFreq (ValueIdx.ix2 i d) (by rw [invFreq_apply]; exact freq_real _)
  refine ⟨h, ?_⟩
  show reduce _ _ + digit (F := Ideal) (ValueIdx.ix2 i d) * (invFreq (F := Ideal) (ValueIdx.ix2 i d) - freqHi (F := Ideal) invFreq (ValueIdx.ix2 i d)) = _
  rw [reduce_apply]
  show reduceE (digit (F := Ideal) (ValueIdx.ix2 i d) * freqHi (F := Ideal) invFreq (ValueIdx.ix2 i d)) + _ = _
  rw [hh, invFreq_apply, hf, digit_apply]

/-- The four tables' entries, one function of the row's frequency each. -/
def entry (k : Fin 4) (d : ℕ) (f : ℝ) : ℝ :=
  match k with
  | 0 => Real.cos (d * 128 * f)
  | 1 => Real.sin (d * 128 * f)
  | 2 => Real.cos (d * f)
  | 3 => Real.sin (d * f)

theorem table_apply (k : Fin 4) (i : Fin 32) (d : Fin 128) (f : ℝ) (hf : freq i.val = f) :
    table (F := Ideal) k (ValueIdx.ix2 i d) = ((entry k d.val f : ℝ) : EReal) := by
  obtain ⟨h, hh⟩ := angleHi_apply i d f hf
  obtain ⟨l, hl⟩ := angleLo_apply i d f hf
  match k with
  | 0 => show Ideal.cos (angleHi (F := Ideal) (ValueIdx.ix2 i d)) = _; rw [hh]; exact cos_angle _ f h
  | 1 => show Ideal.sin (angleHi (F := Ideal) (ValueIdx.ix2 i d)) = _; rw [hh]; exact sin_angle _ f h
  | 2 => show Ideal.cos (angleLo (F := Ideal) (ValueIdx.ix2 i d)) = _; rw [hl]; exact cos_angle _ f l
  | 3 => show Ideal.sin (angleLo (F := Ideal) (ValueIdx.ix2 i d)) = _; rw [hl]; exact sin_angle _ f l

/-- A table's entry in the scratch buffer. -/
theorem tab_apply (T : S4x32x128.Idx → Elt Ideal .f32) (hT : IsTab T) (k : Fin 4) (i : Fin 32) (d : Fin 128) (f : ℝ) (hf : freq i.val = f) :
    T (ValueIdx.ix3 k i d) = ((entry k d.val f : ℝ) : EReal) := by
  have h := hT k (ValueIdx.ix3 0 i d)
  have e : (Rect.unit (s := S4x32x128) ![k.val, 0, 0] S1x32x128.size (inbTabs k.val k.isLt)).emb (ValueIdx.ix3 0 i d) = ValueIdx.ix3 k i d := by
    funext a
    match a with
    | ⟨0, _⟩ => exact Fin.ext (show k.val + 1 * 0 = k.val by omega)
    | ⟨1, _⟩ => exact Fin.ext (show 0 + 1 * i.val = i.val by omega)
    | ⟨2, _⟩ => exact Fin.ext (show 0 + 1 * d.val = d.val by omega)
  rw [e] at h
  rw [h]
  refine Eq.trans ?_ (table_apply k i d f hf)
  refine (shapeCast_addUnit_apply ![32, 128] _ _ _).trans (congrArg _ ?_)
  funext a
  match a with
  | ⟨0, _⟩ => rfl
  | ⟨1, _⟩ => rfl

end Cert.KernelIdeal.Rope

end
-- ==== Proof.Rope.Lookup.lean ====
/- The lookups over the extended reals: the cosine and the sine of a position's angle from its two digits. -/
module

public import proofs.«01_k».proof.Proof.Rope.Tables

@[expose] public section

set_option maxRecDepth 16384

noncomputable section

namespace Cert.KernelIdeal.Rope

open Cert.KernelIdeal Cert.KernelIdeal.Gen Cert.RopeMath
open Idealize.ShloMosaic

theorem spread_apply (x : Vec Ideal S1x1x128 .i32) (r : Fin 8) (l : Fin 128) : spread (F := Ideal) x (ValueIdx.ix2 r l) = x (ValueIdx.ix3 0 0 l) := by
  unfold spread
  rw [shapeCast_id]
  show shapeCast S1x128 x _ _ = _
  refine (shapeCast_dropUnit_apply ![1, 128] _ _ _).trans (congrArg x ?_)
  funext a
  match a with
  | ⟨0, _⟩ => rfl
  | ⟨1, _⟩ => rfl
  | ⟨2, _⟩ => rfl

theorem normIdx_apply (p : IVec S8x128 32) (j : S8x128.Idx) (h : (p j).toNat < 128) : normIdx p j = p j := by
  unfold normIdx
  rw [shapeCast_comp, shapeCast_id]
  show Scalar.select (IntOp.cmpi .slt (p j) 0#32) (p j + 128#32) (p j) = p j
  generalize p j = y at h
  have : IntOp.cmpi .slt y 0#32 = 0#1 := by
    show BitVec.ofBool (y.slt 0#32) = 0#1
    have : y.slt 0#32 = false := by
      rw [Bool.eq_false_iff, Ne, BitVec.slt_iff_toInt_lt, BitVec.toInt_eq_toNat_cond, if_pos (by omega)]
      simp
    rw [this]; rfl
  rw [this]; rfl

theorem look_apply (tab : Vec Ideal S1x8x128 .f32) (p : IVec S8x128 32) (r : Fin 8) (l : Fin 128) (h : (p (ValueIdx.ix2 r l)).toNat < 128) :
    look tab p (ValueIdx.ix2 r l) = tab (ValueIdx.ix3 0 r ⟨(p (ValueIdx.ix2 r l)).toNat, h⟩) := by
  unfold look
  have e := normIdx_apply p (ValueIdx.ix2 r l) h
  rw [dynamicGather_apply, e]
  refine (shapeCast_dropUnit_apply ![8, 128] _ _ _).trans (congrArg tab ?_)
  funext a
  match a with
  | ⟨0, _⟩ => rfl
  | ⟨1, _⟩ => rfl
  | ⟨2, _⟩ => exact Fin.ext (Nat.mod_eq_of_lt h)

theorem hi_toNat (p : BitVec 32) (h : p.toNat < 16384) : (IntOp.andi (IntOp.shrsi .vector p 7#32) 127#32).toNat = p.toNat / 128 := by
  have hs : IntOp.shrsi .vector p 7#32 = p >>> (7 : ℕ) := by
    unfold IntOp.shrsi
    rw [if_pos (by decide)]
    show p.sshiftRight _ = _
    rw [BitVec.sshiftRight_eq_of_msb_false]
    · rfl
    · rw [BitVec.msb_eq_false_iff_two_mul_lt]; omega
  rw [hs]
  show (p >>> (7 : ℕ) &&& 127#32).toNat = _
  rw [BitVec.toNat_and, BitVec.toNat_ushiftRight, Nat.shiftRight_eq_div_pow, show (127#32).toNat = 2 ^ 7 - 1 from by decide, Nat.and_two_pow_sub_one_eq_mod]
  omega

theorem lo_toNat (p : BitVec 32) : (IntOp.andi p 127#32).toNat = p.toNat % 128 := by
  show (p &&& 127#32).toNat = _
  rw [BitVec.toNat_and, show (127#32).toNat = 2 ^ 7 - 1 from by decide, Nat.and_two_pow_sub_one_eq_mod]

/-- One lookup in the scratch tables. -/
theorem lookAt (T : S4x32x128.Idx → Elt Ideal .f32) (hT : IsTab T) (k : Fin 4) (g : ℕ) (hg : g < 4) (hk) (hr) (p : IVec S8x128 32) (r : Fin 8) (l : Fin 128)
    (h : (p (ValueIdx.ix2 r l)).toNat < 128) (f : ℝ) (hf : freq (8 * g + r.val) = f) :
    look (F := Ideal) (tabAt T k.val (8 * g) hk hr) p (ValueIdx.ix2 r l) = ((entry k (p (ValueIdx.ix2 r l)).toNat f : ℝ) : EReal) := by
  have hi : 8 * g + r.val < 32 := by have := r.isLt; omega
  rw [look_apply _ p r l h]
  refine Eq.trans ?_ (tab_apply T hT k ⟨8 * g + r.val, hi⟩ ⟨(p (ValueIdx.ix2 r l)).toNat, h⟩ f hf)
  unfold tabAt
  refine congrArg T ?_
  funext a
  match a with
  | ⟨0, _⟩ => exact Fin.ext (show k.val + 1 * 0 = k.val by omega)
  | ⟨1, _⟩ => exact Fin.ext (show 8 * g + 1 * r.val = 8 * g + r.val by omega)
  | ⟨2, _⟩ => exact Fin.ext (show 0 + 1 * (p (ValueIdx.ix2 r l)).toNat = (p (ValueIdx.ix2 r l)).toNat by omega)

theorem cosG_apply (T : S4x32x128.Idx → Elt Ideal .f32) (hT : IsTab T) (p : IVec S8x128 32) (g : ℕ) (hg : g < 4) (r : Fin 8) (l : Fin 128)
    (h : (p (ValueIdx.ix2 r l)).toNat < 16384) :
    cosG (F := Ideal) T p g hg (ValueIdx.ix2 r l) = Ideal.cos (ang (p (ValueIdx.ix2 r l)) (8 * g + r.val))
      ∧ sinG (F := Ideal) T p g hg (ValueIdx.ix2 r l) = Ideal.sin (ang (p (ValueIdx.ix2 r l)) (8 * g + r.val)) := by
  obtain ⟨f, hf⟩ := freq_real (8 * g + r.val)
  have e1 : (hiOf p (ValueIdx.ix2 r l)).toNat = (p (ValueIdx.ix2 r l)).toNat / 128 := hi_toNat _ h
  have e2 : (loOf p (ValueIdx.ix2 r l)).toNat = (p (ValueIdx.ix2 r l)).toNat % 128 := lo_toNat _
  have l1 : (hiOf p (ValueIdx.ix2 r l)).toNat < 128 := by omega
  have l2 : (loOf p (ValueIdx.ix2 r l)).toNat < 128 := by omega
  have a0 := lookAt T hT 0 g hg (by decide) (by omega) (hiOf p) r l l1 f hf
  have a1 := lookAt T hT 1 g hg (by decide) (by omega) (hiOf p) r l l1 f hf
  have a2 := lookAt T hT 2 g hg (by decide) (by omega) (loOf p) r l l2 f hf
  have a3 := lookAt T hT 3 g hg (by decide) (by omega) (loOf p) r l l2 f hf
  rw [e1] at a0 a1
  rw [e2] at a2 a3
  constructor
  · refine Eq.trans ?_ (cos_digits _ h _ f hf)
    refine Eq.trans (b := _ * _ - _ * _) rfl (congrArg₂ (· - ·) (congrArg₂ (· * ·) a0 a2) (congrArg₂ (· * ·) a1 a3))
  · refine Eq.trans ?_ (sin_digits _ h _ f hf)
    refine Eq.trans (b := _ * _ + _ * _) rfl (congrArg₂ (· + ·) (congrArg₂ (· * ·) a1 a2) (congrArg₂ (· * ·) a0 a3))

end Cert.KernelIdeal.Rope

end
-- ==== Proof.Rope.Spec.lean ====
/- The four results as functions of the three arguments, over the extended reals. -/
module

public import proofs.«01_k».proof.Proof.Rope.Math
public import Idealize.ShloMosaic.Lib.ValueIdxCore

@[expose] public section

noncomputable section

namespace Cert.RopeMath

open Idealize.ShloMosaic

/-- An array of eight blocks of 2048 rows of 128 channels, read by numbers. -/
def at3 (K : (⟨3, ![8, 2048, 128]⟩ : Shape).Idx → EReal) (b n c : ℕ) : EReal :=
  if h : b < 8 ∧ n < 2048 ∧ c < 128 then K (ValueIdx.ix3 ⟨b, h.1⟩ ⟨n, h.2.1⟩ ⟨c, h.2.2⟩) else 0

/-- The positions read by numbers. -/
def at2 (P : (⟨2, ![8, 2048]⟩ : Shape).Idx → BitVec 32) (b n : ℕ) : BitVec 32 :=
  if h : b < 8 ∧ n < 2048 then P (ValueIdx.ix2 ⟨b, h.1⟩ ⟨n, h.2⟩) else 0#32

/-- One rotated head of one block. -/
def headRot (K : (⟨3, ![8, 2048, 128]⟩ : Shape).Idx → EReal) (P : (⟨2, ![8, 2048]⟩ : Shape).Idx → BitVec 32) (b h : ℕ) : ℕ → ℕ → EReal :=
  fun n q => rot (fun q => at3 K b n (64 * h + q)) (at2 P b n) q

/-- One head of one block as it is. -/
def headRaw (V : (⟨3, ![8, 2048, 128]⟩ : Shape).Idx → EReal) (b h : ℕ) : ℕ → ℕ → EReal := fun n q => at3 V b n (64 * h + q)

/-- The codes: entry `(b, 64 h + q, n)` is head `h`'s entry `(n, q)` of block `b` over that head's scale. -/
def codes (f : ℕ → ℕ → ℕ → ℕ → EReal) : (⟨3, ![8, 128, 2048]⟩ : Shape).Idx → EReal :=
  fun j => code (f (j 0).val ((j 1).val / 64) (j 2).val ((j 1).val % 64)) (inv (amax (f (j 0).val ((j 1).val / 64))))

/-- The scales: entry `(h, b)` is the scale of head `h` of block `b`. -/
def scales (f : ℕ → ℕ → ℕ → ℕ → EReal) : (⟨2, ![2, 8]⟩ : Shape).Idx → EReal :=
  fun j => scale (amax (f (j 1).val (j 0).val))

theorem at3_le {K : (⟨3, ![8, 2048, 128]⟩ : Shape).Idx → EReal} (h : ∀ j, mag (K j) ≤ top) (b n c : ℕ) : mag (at3 K b n c) ≤ top := by
  unfold at3
  split
  · exact h _
  · rw [top_eq, ← EReal.coe_zero, mag_coe, EReal.coe_le_coe_iff]; norm_num

theorem at2_lt {P : (⟨2, ![8, 2048]⟩ : Shape).Idx → BitVec 32} (h : ∀ j, (P j).toNat < 16384) (b n : ℕ) : (at2 P b n).toNat < 16384 := by
  unfold at2
  split
  · exact h _
  · decide

theorem headRot_le {K : (⟨3, ![8, 2048, 128]⟩ : Shape).Idx → EReal} (h : ∀ j, mag (K j) ≤ top) (P : (⟨2, ![8, 2048]⟩ : Shape).Idx → BitVec 32) (b e : ℕ) :
    ∀ n < 2048, ∀ q < 64, mag (headRot K P b e n q) ≤ ((2 ^ 129 : ℝ) : EReal) :=
  fun n _ q hq => rot_le _ (fun q _ => at3_le h b n _) _ q hq

theorem headRaw_le {K : (⟨3, ![8, 2048, 128]⟩ : Shape).Idx → EReal} (h : ∀ j, mag (K j) ≤ top) (b e : ℕ) :
    ∀ n < 2048, ∀ q < 64, mag (headRaw K b e n q) ≤ ((2 ^ 129 : ℝ) : EReal) :=
  fun n _ q hq => le_trans (at3_le h b n _) top_le

end Cert.RopeMath

end
-- ==== Proof.Rope.Rot.lean ====
/- The rotation over the extended reals: what each tile's rotated channels are. -/
module

public import proofs.«01_k».proof.Proof.Rope.Lookup
public import proofs.«01_k».proof.Proof.Rope.Spec

@[expose] public section

set_option maxRecDepth 16384

noncomputable section

namespace Cert.KernelIdeal.Rope

open Cert.KernelIdeal Cert.KernelIdeal.Gen Cert.RopeMath
open Idealize.ShloMosaic

/-- A block read by numbers. -/
def ex (X : S1x2048x128.Idx → Elt Ideal .bf16) (n c : ℕ) : EReal :=
  if h : n < 2048 ∧ c < 128 then X (ValueIdx.ix3 0 ⟨n, h.1⟩ ⟨c, h.2⟩) else 0

theorem ex_eq (X : S1x2048x128.Idx → Elt Ideal .bf16) (n c : ℕ) (hn : n < 2048) (hc : c < 128) : ex X n c = X (ValueIdx.ix3 0 ⟨n, hn⟩ ⟨c, hc⟩) := by
  unfold ex; rw [dif_pos ⟨hn, hc⟩]

theorem blkAt_apply (X : S1x2048x128.Idx → Elt Ideal .bf16) (t : ℕ) (ht : t < 16) (l c : Fin 128) :
    blkAt (F := Ideal) X t ht (ValueIdx.ix3 0 l c) = ex X (128 * t + l.val) c.val := by
  have hl := l.isLt
  rw [ex_eq X _ _ (by omega) c.isLt]
  unfold blkAt
  refine congrArg X ?_
  funext a
  match a with
  | ⟨0, _⟩ => rfl
  | ⟨1, _⟩ => exact Fin.ext (show 128 * t + 1 * l.val = 128 * t + l.val by omega)
  | ⟨2, _⟩ => exact Fin.ext (show 0 + 1 * c.val = c.val by omega)

theorem cast3 (x : Vec Ideal S1x128x128 .bf16) (l c : Fin 128) : shapeCast S128x128 x shapeCasts_S1x128x128_S128x128 (ValueIdx.ix2 l c) = x (ValueIdx.ix3 0 l c) := by
  refine (shapeCast_dropUnit_apply ![128, 128] _ _ _).trans (congrArg x ?_)
  funext a
  match a with
  | ⟨0, _⟩ => rfl
  | ⟨1, _⟩ => rfl
  | ⟨2, _⟩ => rfl

theorem transp {α : Type} (y : S128x128.Idx → α) (c l : Fin 128) : transpose S128x128 [1, 0] y transposes_S128x128_p1_0_S128x128 (ValueIdx.ix2 c l) = y (ValueIdx.ix2 l c) := by
  pointwise
  refine congrArg y ?_
  funext a
  match a with
  | ⟨0, _⟩ => rfl
  | ⟨1, _⟩ => rfl

theorem valTile_apply (x : Vec Ideal S1x128x128 .bf16) (c l : Fin 128) : valTile (F := Ideal) x (ValueIdx.ix2 c l) = x (ValueIdx.ix3 0 l c) := by
  unfold valTile
  rw [transp, cast3]

theorem keyTile_apply (x : Vec Ideal S1x128x128 .bf16) (c l : Fin 128) : keyTile (F := Ideal) x (ValueIdx.ix2 c l) = x (ValueIdx.ix3 0 l c) := valTile_apply x c l

theorem slice8_apply (x : FVec Ideal S128x128 .f32) (o : ℕ) (h : o ≤ 120) (r : Fin 8) (l : Fin 128) :
    extractStridedSlice S8x128 ![o, 0] x (slice8 o h) (ValueIdx.ix2 r l) = x (ValueIdx.ix2 ⟨o + r.val, by have := r.isLt; omega⟩ l) := by
  unfold extractStridedSlice
  refine congrArg x ?_
  funext a
  match a with
  | ⟨0, _⟩ => rfl
  | ⟨1, _⟩ => exact Fin.ext (show 0 + l.val = l.val by omega)

/-- The positions' row read by numbers. -/
def er (R : S8x1x2048.Idx → Elt Ideal .i32) (b n : ℕ) : BitVec 32 :=
  if h : b < 8 ∧ n < 2048 then R (ValueIdx.ix3 ⟨b, h.1⟩ 0 ⟨n, h.2⟩) else 0#32

theorem posAt_apply (R : S8x1x2048.Idx → Elt Ideal .i32) (i : grid0.Coords) (t : ℕ) (ht : t < 16) (l : Fin 128) :
    posAt (F := Ideal) R i t ht (ValueIdx.ix3 0 0 l) = er R (i 0).val (128 * t + l.val) := by
  have hl := l.isLt
  have h1 : (i 0).val < 8 := (i 0).isLt
  have h0 : (Scalar.indexCast (BitVec.ofNat 32 (i 0).val)).toNat = (i 0).val := congrFun (k0_off1_eq i) 0
  unfold er posAt
  rw [dif_pos ⟨h1, by omega⟩]
  refine congrArg R ?_
  funext a
  match a with
  | ⟨0, _⟩ => exact Fin.ext (show (Scalar.indexCast (BitVec.ofNat 32 (i 0).val)).toNat + 1 * 0 = (i 0).val by omega)
  | ⟨1, _⟩ => rfl
  | ⟨2, _⟩ => exact Fin.ext (show 128 * t + 1 * l.val = 128 * t + l.val by omega)

section
variable (X : S1x2048x128.Idx → Elt Ideal .bf16) (T : S4x32x128.Idx → Elt Ideal .f32) (R : S8x1x2048.Idx → Elt Ideal .i32) (i : grid0.Coords)

/-- One rotated head of a block. -/
def eh (h : ℕ) : ℕ → ℕ → EReal := fun n q => rot (fun q => ex X n (64 * h + q)) (er R (i 0).val n) q

variable (hT : IsTab T) (hR : ∀ n, (er R (i 0).val n).toNat < 16384)
include hT hR

theorem out_apply (t : ℕ) (ht : t < 16) (h g : ℕ) (hh : h < 2) (hg : g < 4) (r : Fin 8) (l : Fin 128) :
    out1 (F := Ideal) (keyTile (blkAt X t ht)) h g hh hg (cosG T (spread (F := Ideal) (posAt R i t ht)) g hg) (sinG T (spread (F := Ideal) (posAt R i t ht)) g hg) (ValueIdx.ix2 r l)
        = eh X R i h (128 * t + l.val) (8 * g + r.val)
      ∧ out2 (F := Ideal) (keyTile (blkAt X t ht)) h g hh hg (cosG T (spread (F := Ideal) (posAt R i t ht)) g hg) (sinG T (spread (F := Ideal) (posAt R i t ht)) g hg) (ValueIdx.ix2 r l)
        = eh X R i h (128 * t + l.val) (32 + 8 * g + r.val) := by
  have hr := r.isLt
  have hp : spread (F := Ideal) (posAt R i t ht) (ValueIdx.ix2 r l) = er R (i 0).val (128 * t + l.val) := (spread_apply _ r l).trans (posAt_apply R i t ht l)
  obtain ⟨hc, hs⟩ := cosG_apply T hT (spread (F := Ideal) (posAt R i t ht)) g hg r l (by rw [hp]; exact hR _)
  rw [hp] at hc hs
  have x1 : extractStridedSlice S8x128 ![64 * h + 8 * g, 0] (keyTile (F := Ideal) (blkAt X t ht)) (slice8 _ (by omega)) (ValueIdx.ix2 r l) = ex X (128 * t + l.val) (64 * h + (8 * g + r.val)) := by
    rw [slice8_apply _ _ (by omega), keyTile_apply, blkAt_apply]
    refine congrArg (ex X _) ?_; show 64 * h + 8 * g + r.val = _; omega
  have x2 : extractStridedSlice S8x128 ![64 * h + 32 + 8 * g, 0] (keyTile (F := Ideal) (blkAt X t ht)) (slice8 _ (by omega)) (ValueIdx.ix2 r l) = ex X (128 * t + l.val) (64 * h + (32 + 8 * g + r.val)) := by
    rw [slice8_apply _ _ (by omega), keyTile_apply, blkAt_apply]
    refine congrArg (ex X _) ?_; show 64 * h + 32 + 8 * g + r.val = _; omega
  constructor
  · unfold eh rot
    rw [if_pos (by omega)]
    beta_reduce
    rw [← hc, ← hs, show 8 * g + r.val + 32 = 32 + 8 * g + r.val from by omega, ← x1, ← x2]
    rfl
  · unfold eh rot
    rw [if_neg (by omega)]
    beta_reduce
    rw [show 32 + 8 * g + r.val - 32 = 8 * g + r.val from by omega, ← hc, ← hs, ← x1, ← x2]
    rfl

theorem rot_apply (G : S16x128x128.Idx → Elt Ideal .f32) (hG : IsRot X T R i G) (t : Fin 16) (h : ℕ) (hh : h < 2) (q : ℕ) (hq : q < 64) (l : Fin 128) :
    G (ValueIdx.ix3 t ⟨64 * h + q, by omega⟩ l) = eh X R i h (128 * t.val + l.val) q := by
  by_cases hlt : q < 32
  · have hg : q / 8 < 4 := by omega
    have hr : q % 8 < 8 := by omega
    have h1 := (hG t.val t.isLt (q / 8) hg h hh).1 (ValueIdx.ix3 0 ⟨q % 8, hr⟩ l)
    have h2 := (out_apply X T R i hT hR t.val t.isLt h (q / 8) hh hg ⟨q % 8, hr⟩ l).1
    rw [show 8 * (q / 8) + q % 8 = q from by omega] at h2
    refine Eq.trans (congrArg G ?_) (h1.trans (((shapeCast_addUnit_apply ![8, 128] _ _ _).trans (congrArg _ ?_)).trans h2))
    · funext a
      match a with
      | ⟨0, _⟩ => exact Fin.ext (show t.val = t.val + 1 * 0 by omega)
      | ⟨1, _⟩ => exact Fin.ext (show 64 * h + q = 64 * h + 8 * (q / 8) + 1 * (q % 8) by omega)
      | ⟨2, _⟩ => exact Fin.ext (show l.val = 0 + 1 * l.val by omega)
    · funext a
      match a with
      | ⟨0, _⟩ => rfl
      | ⟨1, _⟩ => rfl
  · have hg : (q - 32) / 8 < 4 := by omega
    have hr : (q - 32) % 8 < 8 := by omega
    have h1 := (hG t.val t.isLt ((q - 32) / 8) hg h hh).2 (ValueIdx.ix3 0 ⟨(q - 32) % 8, hr⟩ l)
    have h2 := (out_apply X T R i hT hR t.val t.isLt h ((q - 32) / 8) hh hg ⟨(q - 32) % 8, hr⟩ l).2
    rw [show 32 + 8 * ((q - 32) / 8) + (q - 32) % 8 = q from by omega] at h2
    refine Eq.trans (congrArg G ?_) (h1.trans (((shapeCast_addUnit_apply ![8, 128] _ _ _).trans (congrArg _ ?_)).trans h2))
    · funext a
      match a with
      | ⟨0, _⟩ => exact Fin.ext (show t.val = t.val + 1 * 0 by omega)
      | ⟨1, _⟩ => exact Fin.ext (show 64 * h + q = 64 * h + 32 + 8 * ((q - 32) / 8) + 1 * ((q - 32) % 8) by omega)
      | ⟨2, _⟩ => exact Fin.ext (show l.val = 0 + 1 * l.val by omega)
    · funext a
      match a with
      | ⟨0, _⟩ => rfl
      | ⟨1, _⟩ => rfl
end

end Cert.KernelIdeal.Rope

end
-- ==== Proof.Rope.Max.lean ====
/- The running maxima over the extended reals: each head's is the largest absolute entry of that head. -/
module

public import proofs.«01_k».proof.Proof.Rope.Rot

@[expose] public section

set_option maxRecDepth 16384

noncomputable section

namespace Cert.KernelIdeal.Rope

open Cert.KernelIdeal Cert.KernelIdeal.Gen Cert.RopeMath
open Idealize.ShloMosaic

theorem lit_bot : lit 0xFF800000#32 = ⊥ := by
  simp [Ideal.ofBits, Ideal.ieee]

theorem lit_zero : lit 0x00000000#32 = 0 := Ideal.ofBits_zero_f32

/-- A maximum reduction is below a bound when every entry that it takes is. -/
theorem maxred_le {s t : Shape} {axes : List (Fin s.rank)} (h : s.Reduces axes t) (src : FVec Ideal s .f32) (hφ) (hacc) (j : t.Idx) (z : EReal) :
    (multiReduction .maximumf axes t src 0xFF800000#32 h hφ hacc j : EReal) ≤ z ↔ ∀ i, h.drop i = j → (src i : EReal) ≤ z := by
  classical
  rw [multiReduction_maximumf_eq_fold]
  refine (show _ ↔ _ from Finset.fold_max_le (α := s.Idx) (β := EReal) z).trans ?_
  constructor
  · intro ⟨_, h2⟩ i hi
    exact h2 i (Finset.mem_filter.mpr ⟨Finset.mem_univ _, hi⟩)
  · intro h2
    refine ⟨?_, fun i hi => h2 i (Finset.mem_filter.mp hi).2⟩
    show lit 0xFF800000#32 ≤ z
    rw [lit_bot]; exact bot_le

theorem S1_idx (i j : S1.Idx) : i = j := by
  funext a
  have h1 : (i a).val < 1 := by fin_cases a; exact (i _).isLt
  have h2 : (j a).val < 1 := by fin_cases a; exact (j _).isLt
  exact Fin.ext (by omega)

theorem pick_S1 (y : FVec Ideal S1 .f32) (o : S1x1.Idx) :
    (broadcast S1x1 (extractAt ![0, 0, 0] (shapeCast S1x1x1 y shapeCasts_S1_S1x1x1) inpos_S1x1x1_p0_0_0) : FVec Ideal S1x1 .f32) o = y (ValueIdx.ix1 0) := by
  unfold broadcast extractAt shapeCast
  exact congrArg y (S1_idx _ _)

theorem maxK_le (a : FVec Ideal S8x128 .f32) (o : S1x1.Idx) (z : EReal) : (maxK a o : EReal) ≤ z ↔ ∀ (r : Fin 8) (l : Fin 128), (a (ValueIdx.ix2 r l) : EReal) ≤ z := by
  unfold maxK
  rw [pick_S1]
  refine (maxred_le reduces_S1x8x128_S1 _ (.inl rfl) rfl _ z).trans ?_
  have e : ∀ i : S1x8x128.Idx, shapeCast S1x8x128 a shapeCasts_S8x128_S1x8x128 i = a (ValueIdx.ix2 (i 1) (i 2)) := fun i => by
    refine (shapeCast_addUnit_apply ![8, 128] _ _ _).trans (congrArg a ?_)
    funext x
    match x with
    | ⟨0, _⟩ => rfl
    | ⟨1, _⟩ => rfl
  constructor
  · intro h r l
    have := h (ValueIdx.ix3 0 r l) (S1_idx _ _)
    rwa [e] at this
  · intro h i _
    rw [e]; exact h _ _

theorem maxV_le (a : FVec Ideal S1x64 .f32) (o : S1x1.Idx) (z : EReal) : (maxV a o : EReal) ≤ z ↔ ∀ (q : Fin 64), (a (ValueIdx.ix2 0 q) : EReal) ≤ z := by
  unfold maxV
  rw [pick_S1]
  refine (maxred_le reduces_S1x1x64_S1 _ (.inl rfl) rfl _ z).trans ?_
  have e : ∀ i : S1x1x64.Idx, shapeCast S1x1x64 a shapeCasts_S1x64_S1x1x64 i = a (ValueIdx.ix2 0 (i 2)) := fun i => by
    refine (shapeCast_addUnit_apply ![1, 64] _ _ _).trans (congrArg a ?_)
    funext x
    match x with
    | ⟨0, _⟩ =>
      have : (i 1).val < 1 := (i 1).isLt
      exact Fin.ext (show (i 1).val = 0 by omega)
    | ⟨1, _⟩ => rfl
  constructor
  · intro h q
    have := h (ValueIdx.ix3 0 0 q) (S1_idx _ _)
    rwa [e] at this
  · intro h i _
    rw [e]; exact h _

theorem colMax_le (a : FVec Ideal S16x128 .bf16) (c : Fin 128) (z : EReal) : (colMax a (ValueIdx.ix2 0 c) : EReal) ≤ z ↔ ∀ (r : Fin 16), (a (ValueIdx.ix2 r c) : EReal) ≤ z := by
  unfold colMax
  have e : shapeCast S1x128 (multiReduction .maximumf [0] S128 (extf .f32 a bitsLt_bf16_f32) 0xFF800000#32 reduces_S16x128_S128 (.inl rfl) rfl) shapeCasts_S128_S1x128 (ValueIdx.ix2 0 c)
      = multiReduction .maximumf [0] S128 (extf .f32 a bitsLt_bf16_f32) 0xFF800000#32 reduces_S16x128_S128 (.inl rfl) rfl (ValueIdx.ix1 c) := by
    refine (shapeCast_addUnit_apply ![128] _ _ _).trans (congrArg _ ?_)
    funext x
    match x with
    | ⟨0, _⟩ => rfl
  rw [e]
  refine (maxred_le reduces_S16x128_S128 _ (.inl rfl) rfl _ z).trans ?_
  constructor
  · intro h r
    refine h (ValueIdx.ix2 r c) ?_
    funext x
    match x with
    | ⟨0, _⟩ => rfl
  · intro h i hi
    have h1 : i 1 = c := congrArg (fun j : S128.Idx => j 0) hi
    have : i = ValueIdx.ix2 (i 0) c := by rw [← h1]; exact ValueIdx.eq_ix2 i
    rw [this]
    exact h (i 0)

section
variable (X : S1x2048x128.Idx → Elt Ideal .bf16) (T : S4x32x128.Idx → Elt Ideal .f32) (R : S8x1x2048.Idx → Elt Ideal .i32) (i : grid0.Coords)

variable (hT : IsTab T) (hR : ∀ n, (er R (i 0).val n).toNat < 16384)
include hT hR

theorem halfAcc_le (t : ℕ) (ht : t < 16) (h g : ℕ) (hh : h < 2) (hg : g < 4) (a : FVec Ideal S8x128 .f32) (r : Fin 8) (l : Fin 128) (z : EReal) :
    (halfAcc (F := Ideal) (keyTile (blkAt X t ht)) h g hh hg (cosG T (spread (F := Ideal) (posAt R i t ht)) g hg) (sinG T (spread (F := Ideal) (posAt R i t ht)) g hg) a (ValueIdx.ix2 r l) : EReal) ≤ z
      ↔ (a (ValueIdx.ix2 r l) : EReal) ≤ z ∧ mag (eh X R i h (128 * t + l.val) (8 * g + r.val)) ≤ z ∧ mag (eh X R i h (128 * t + l.val) (32 + 8 * g + r.val)) ≤ z := by
  obtain ⟨h1, h2⟩ := out_apply X T R i hT hR t ht h g hh hg r l
  rw [← h1, ← h2]
  exact max_le_iff.trans (and_congr Iff.rfl max_le_iff)

theorem groups_le (t : ℕ) (ht : t < 16) (a : FVec Ideal S8x128 .f32 × FVec Ideal S8x128 .f32) (r : Fin 8) (l : Fin 128) (z : EReal) (n : ℕ) (hn : n ≤ 4) :
    (((iter 4 (groupAcc (F := Ideal) T (spread (F := Ideal) (posAt R i t ht)) (keyTile (blkAt X t ht))) a n hn).1 (ValueIdx.ix2 r l) : EReal) ≤ z
      ↔ (a.1 (ValueIdx.ix2 r l) : EReal) ≤ z ∧ ∀ g < n, mag (eh X R i 0 (128 * t + l.val) (8 * g + r.val)) ≤ z ∧ mag (eh X R i 0 (128 * t + l.val) (32 + 8 * g + r.val)) ≤ z)
    ∧ (((iter 4 (groupAcc (F := Ideal) T (spread (F := Ideal) (posAt R i t ht)) (keyTile (blkAt X t ht))) a n hn).2 (ValueIdx.ix2 r l) : EReal) ≤ z
      ↔ (a.2 (ValueIdx.ix2 r l) : EReal) ≤ z ∧ ∀ g < n, mag (eh X R i 1 (128 * t + l.val) (8 * g + r.val)) ≤ z ∧ mag (eh X R i 1 (128 * t + l.val) (32 + 8 * g + r.val)) ≤ z) := by
  induction n with
  | zero =>
    constructor
    · exact ⟨fun h => ⟨h, fun g hg => absurd hg (Nat.not_lt_zero g)⟩, fun h => h.1⟩
    · exact ⟨fun h => ⟨h, fun g hg => absurd hg (Nat.not_lt_zero g)⟩, fun h => h.1⟩
  | succ n ih =>
    obtain ⟨i1, i2⟩ := ih (Nat.le_of_succ_le hn)
    constructor
    · refine (halfAcc_le X T R i hT hR t ht 0 n (by decide) (by omega) _ r l z).trans ?_
      rw [i1, and_assoc]
      refine and_congr Iff.rfl ⟨fun h g hg => ?_, fun h => ⟨fun g hg => h g (by omega), h n (by omega)⟩⟩
      rcases Nat.lt_succ_iff_lt_or_eq.mp hg with hg | rfl
      · exact h.1 g hg
      · exact h.2
    · refine (halfAcc_le X T R i hT hR t ht 1 n (by decide) (by omega) _ r l z).trans ?_
      rw [i2, and_assoc]
      refine and_congr Iff.rfl ⟨fun h g hg => ?_, fun h => ⟨fun g hg => h g (by omega), h n (by omega)⟩⟩
      rcases Nat.lt_succ_iff_lt_or_eq.mp hg with hg | rfl
      · exact h.1 g hg
      · exact h.2

theorem tiles_le (X2 : S1x2048x128.Idx → Elt Ideal .bf16) (a : Acc Ideal) (r : Fin 8) (l : Fin 128) (z : EReal) (n : ℕ) (hn : n ≤ 16) :
    (((iter 16 (tileAcc (F := Ideal) X X2 T R i) a n hn).1.1 (ValueIdx.ix2 r l) : EReal) ≤ z
      ↔ (a.1.1 (ValueIdx.ix2 r l) : EReal) ≤ z ∧ ∀ t < n, ∀ g < 4, mag (eh X R i 0 (128 * t + l.val) (8 * g + r.val)) ≤ z ∧ mag (eh X R i 0 (128 * t + l.val) (32 + 8 * g + r.val)) ≤ z)
    ∧ (((iter 16 (tileAcc (F := Ideal) X X2 T R i) a n hn).1.2 (ValueIdx.ix2 r l) : EReal) ≤ z
      ↔ (a.1.2 (ValueIdx.ix2 r l) : EReal) ≤ z ∧ ∀ t < n, ∀ g < 4, mag (eh X R i 1 (128 * t + l.val) (8 * g + r.val)) ≤ z ∧ mag (eh X R i 1 (128 * t + l.val) (32 + 8 * g + r.val)) ≤ z) := by
  induction n with
  | zero =>
    constructor
    · exact ⟨fun h => ⟨h, fun g hg => absurd hg (Nat.not_lt_zero g)⟩, fun h => h.1⟩
    · exact ⟨fun h => ⟨h, fun g hg => absurd hg (Nat.not_lt_zero g)⟩, fun h => h.1⟩
  | succ n ih =>
    obtain ⟨i1, i2⟩ := ih (Nat.le_of_succ_le hn)
    obtain ⟨g1, g2⟩ := groups_le X T R i hT hR n (by omega) (iter 16 (tileAcc (F := Ideal) X X2 T R i) a n (Nat.le_of_succ_le hn)).1 r l z 4 le_rfl
    constructor
    · refine g1.trans ?_
      rw [i1, and_assoc]
      refine and_congr Iff.rfl ⟨fun h g hg => ?_, fun h => ⟨fun g hg => h g (by omega), h n (by omega)⟩⟩
      rcases Nat.lt_succ_iff_lt_or_eq.mp hg with hg | rfl
      · exact h.1 g hg
      · exact h.2
    · refine g2.trans ?_
      rw [i2, and_assoc]
      refine and_congr Iff.rfl ⟨fun h g hg => ?_, fun h => ⟨fun g hg => h g (by omega), h n (by omega)⟩⟩
      rcases Nat.lt_succ_iff_lt_or_eq.mp hg with hg | rfl
      · exact h.1 g hg
      · exact h.2

theorem all_rows (f : ℕ → ℕ → EReal) (z : EReal) :
    (∀ (r : Fin 8) (l : Fin 128), ((0 : EReal) ≤ z ∧ ∀ t < 16, ∀ g < 4, mag (f (128 * t + l.val) (8 * g + r.val)) ≤ z ∧ mag (f (128 * t + l.val) (32 + 8 * g + r.val)) ≤ z))
      ↔ amax f ≤ z := by
  rw [amax_le]
  constructor
  · intro h n hn q hq
    by_cases hlt : q < 32
    · have := ((h ⟨q % 8, by omega⟩ ⟨n % 128, by omega⟩).2 (n / 128) (by omega) (q / 8) (by omega)).1
      rwa [show 128 * (n / 128) + n % 128 = n from by omega, show 8 * (q / 8) + q % 8 = q from by omega] at this
    · have := ((h ⟨q % 8, by omega⟩ ⟨n % 128, by omega⟩).2 (n / 128) (by omega) ((q - 32) / 8) (by omega)).2
      rwa [show 128 * (n / 128) + n % 128 = n from by omega, show 32 + 8 * ((q - 32) / 8) + q % 8 = q from by omega] at this
  · intro h r l
    have hr := r.isLt
    have hl := l.isLt
    exact ⟨le_trans (mag_nonneg _) (h 0 (by omega) 0 (by omega)), fun t ht g hg => ⟨h _ (by omega) _ (by omega), h _ (by omega) _ (by omega)⟩⟩

theorem kMax_eq (X2 : S1x2048x128.Idx → Elt Ideal .bf16) (h : ℕ) (hh : h < 2) (o : S1x1.Idx) :
    kMax (F := Ideal) (accAll X X2 T R i) h o = amax (eh X R i h) := by
  refine eq_of_forall_ge_iff fun z => ?_
  rw [← all_rows T R i hT hR]
  unfold kMax accAll
  refine (maxK_le _ o z).trans ?_
  refine forall_congr' fun r => forall_congr' fun l => ?_
  obtain ⟨t1, t2⟩ := tiles_le X T R i hT hR X2 acc0 r l z 16 le_rfl
  have e : h = 0 ∨ h = 1 := by omega
  have z1 : ((acc0 (F := Ideal)).1.1 (ValueIdx.ix2 r l) : EReal) = 0 := lit_zero
  have z2 : ((acc0 (F := Ideal)).1.2 (ValueIdx.ix2 r l) : EReal) = 0 := lit_zero
  rcases e with rfl | rfl
  · rw [if_pos rfl, t1, z1]
  · rw [if_neg (by decide), t2, z2]
end

/-! ## The values -/

theorem lit_zero16 : (Scalar.ofBits (F := Ideal) .bf16 0x0000#16 : EReal) = 0 := by
  show Ideal.ofBits .bf16 0x0000#16 = 0
  simp [Ideal.ofBits, Ideal.ieee]

theorem accV_le (a : FVec Ideal S16x128 .bf16) (X : S1x2048x128.Idx → Elt Ideal .bf16) (t : ℕ) (ht : t < 16) (r : Fin 16) (c : Fin 128) (z : EReal) :
    (accV (F := Ideal) a (blkAt X t ht) (ValueIdx.ix2 r c) : EReal) ≤ z
      ↔ (a (ValueIdx.ix2 r c) : EReal) ≤ z ∧ ∀ k < 8, mag (ex X (128 * t + (16 * k + r.val)) c.val) ≤ z := by
  have hr := r.isLt
  have e : ∀ (k : ℕ) (hk : k < 8) (h : S128x128.Slices ![16 * k, 0] S16x128),
      extractStridedSlice S16x128 ![16 * k, 0] (absf (shapeCast S128x128 (blkAt (F := Ideal) X t ht) shapeCasts_S1x128x128_S128x128) : FVec Ideal S128x128 .bf16) h (ValueIdx.ix2 r c)
        = mag (ex X (128 * t + (16 * k + r.val)) c.val) := by
    intro k hk h
    have hl : 16 * k + r.val < 128 := by omega
    rw [← blkAt_apply X t ht ⟨16 * k + r.val, hl⟩ c, ← cast3 (blkAt X t ht)]
    unfold extractStridedSlice
    show mag _ = mag _
    refine congrArg mag (congrArg _ ?_)
    funext a
    match a with
    | ⟨0, _⟩ => rfl
    | ⟨1, _⟩ => exact Fin.ext (show 0 + c.val = c.val by omega)
  have e0 := e 0 (by decide) (slice16 _ (by decide))
  have e1 := e 1 (by decide) (slice16 _ (by decide))
  have e2 := e 2 (by decide) (slice16 _ (by decide))
  have e3 := e 3 (by decide) (slice16 _ (by decide))
  have e4 := e 4 (by decide) (slice16 _ (by decide))
  have e5 := e 5 (by decide) (slice16 _ (by decide))
  have e6 := e 6 (by decide) (slice16 _ (by decide))
  have e7 := e 7 (by decide) (slice16 _ (by decide))
  unfold accV
  refine (max_le_iff.trans (and_congr (max_le_iff.trans (and_congr (max_le_iff.trans (and_congr (max_le_iff.trans (and_congr (max_le_iff.trans (and_congr (max_le_iff.trans
    (and_congr (max_le_iff.trans (and_congr max_le_iff Iff.rfl)) Iff.rfl)) Iff.rfl)) Iff.rfl)) Iff.rfl)) Iff.rfl)) Iff.rfl)).trans ?_
  constructor
  · rintro ⟨⟨⟨⟨⟨⟨⟨⟨h, h0⟩, h1⟩, h2⟩, h3⟩, h4⟩, h5⟩, h6⟩, h7⟩
    refine ⟨h, fun k hk => ?_⟩
    interval_cases k
    · exact e0 ▸ h0
    · exact e1 ▸ h1
    · exact e2 ▸ h2
    · exact e3 ▸ h3
    · exact e4 ▸ h4
    · exact e5 ▸ h5
    · exact e6 ▸ h6
    · exact e7 ▸ h7
  · rintro ⟨h, hk⟩
    exact ⟨⟨⟨⟨⟨⟨⟨⟨h, le_of_eq_of_le e0 (hk 0 (by decide))⟩, le_of_eq_of_le e1 (hk 1 (by decide))⟩, le_of_eq_of_le e2 (hk 2 (by decide))⟩, le_of_eq_of_le e3 (hk 3 (by decide))⟩,
      le_of_eq_of_le e4 (hk 4 (by decide))⟩, le_of_eq_of_le e5 (hk 5 (by decide))⟩, le_of_eq_of_le e6 (hk 6 (by decide))⟩, le_of_eq_of_le e7 (hk 7 (by decide))⟩

theorem tilesV_le (X X2 : S1x2048x128.Idx → Elt Ideal .bf16) (T : S4x32x128.Idx → Elt Ideal .f32) (R : S8x1x2048.Idx → Elt Ideal .i32) (i : grid0.Coords)
    (a : Acc Ideal) (r : Fin 16) (c : Fin 128) (z : EReal) (n : ℕ) (hn : n ≤ 16) :
    ((iter 16 (tileAcc (F := Ideal) X X2 T R i) a n hn).2 (ValueIdx.ix2 r c) : EReal) ≤ z
      ↔ (a.2 (ValueIdx.ix2 r c) : EReal) ≤ z ∧ ∀ t < n, ∀ k < 8, mag (ex X2 (128 * t + (16 * k + r.val)) c.val) ≤ z := by
  induction n with
  | zero => exact ⟨fun h => ⟨h, fun g hg => absurd hg (Nat.not_lt_zero g)⟩, fun h => h.1⟩
  | succ n ih =>
    have i1 := ih (Nat.le_of_succ_le hn)
    refine (accV_le _ X2 n (by omega) r c z).trans ?_
    rw [i1, and_assoc]
    refine and_congr Iff.rfl ⟨fun h g hg => ?_, fun h => ⟨fun g hg => h g (by omega), h n (by omega)⟩⟩
    rcases Nat.lt_succ_iff_lt_or_eq.mp hg with hg | rfl
    · exact h.1 g hg
    · exact h.2

/-- One head of a block as it is. -/
def eh' (X : S1x2048x128.Idx → Elt Ideal .bf16) (h : ℕ) : ℕ → ℕ → EReal := fun n q => ex X n (64 * h + q)

theorem half64 (y : FVec Ideal S1x128 .f32) (h : ℕ) (hh : h < 2) (q : Fin 64) :
    (if h = 0 then extractStridedSlice S1x64 ![0, 0] y slices_S1x128_o0_0_S1x64 else extractStridedSlice S1x64 ![0, 64] y slices_S1x128_o0_64_S1x64) (ValueIdx.ix2 0 q)
      = y (ValueIdx.ix2 0 ⟨64 * h + q.val, by have := q.isLt; omega⟩) := by
  have e : h = 0 ∨ h = 1 := by omega
  rcases e with rfl | rfl
  · rw [if_pos rfl]
    unfold extractStridedSlice
    refine congrArg y ?_
    funext a
    match a with
    | ⟨0, _⟩ => rfl
    | ⟨1, _⟩ => exact Fin.ext (show 0 + q.val = 64 * 0 + q.val by omega)
  · rw [if_neg (by decide)]
    unfold extractStridedSlice
    refine congrArg y ?_
    funext a
    match a with
    | ⟨0, _⟩ => rfl
    | ⟨1, _⟩ => exact Fin.ext (show 64 + q.val = 64 * 1 + q.val by omega)

theorem vMax_eq (X X2 : S1x2048x128.Idx → Elt Ideal .bf16) (T : S4x32x128.Idx → Elt Ideal .f32) (R : S8x1x2048.Idx → Elt Ideal .i32) (i : grid0.Coords)
    (h : ℕ) (hh : h < 2) (o : S1x1.Idx) : vMax (F := Ideal) (accAll X X2 T R i) h o = amax (eh' X2 h) := by
  refine eq_of_forall_ge_iff fun z => ?_
  rw [amax_le]
  unfold vMax accAll
  refine (maxV_le _ o z).trans ?_
  have z1 : ∀ r c, ((acc0 (F := Ideal)).2 (ValueIdx.ix2 r c) : EReal) = 0 := fun _ _ => lit_zero16
  constructor
  · intro H n hn q hq
    have h1 := H ⟨q, hq⟩
    rw [half64 _ h hh, colMax_le] at h1
    have h2 := ((tilesV_le X X2 T R i acc0 ⟨n % 16, by omega⟩ ⟨64 * h + q, by omega⟩ z 16 le_rfl).mp (h1 ⟨n % 16, by omega⟩)).2 (n / 128) (by omega) (n % 128 / 16) (by omega)
    simp only at h2
    rwa [show 128 * (n / 128) + (16 * (n % 128 / 16) + n % 16) = n from by omega] at h2
  · intro H q
    rw [half64 _ h hh, colMax_le]
    intro r
    have hr := r.isLt
    have hq := q.isLt
    refine (tilesV_le X X2 T R i acc0 r ⟨64 * h + q.val, by omega⟩ z 16 le_rfl).mpr ⟨?_, fun t ht k hk => H _ (by omega) _ hq⟩
    rw [z1]
    exact le_trans (mag_nonneg _) (H 0 (by omega) 0 (by omega))

end Cert.KernelIdeal.Rope

end
-- ==== Proof.Rope.Quant.lean ====
/- The scales and the codes over the extended reals. -/
module

public import proofs.«01_k».proof.Proof.Rope.Rot

@[expose] public section

set_option maxRecDepth 16384

noncomputable section

namespace Cert.KernelIdeal.Rope

open Cert.KernelIdeal Cert.KernelIdeal.Gen Cert.RopeMath
open Idealize.ShloMosaic

theorem S1x1_idx (i j : S1x1.Idx) : i = j := by
  funext a
  have h1 : (i a).val < 1 := by fin_cases a <;> exact (i _).isLt
  have h2 : (j a).val < 1 := by fin_cases a <;> exact (j _).isLt
  exact Fin.ext (by omega)

theorem expo_apply (b : IVec S1x1 32) (o : S1x1.Idx) : expo b o = expoW (b o) := by
  show Scalar.select (IntOp.ori (IntOp.cmpi .eq (b o) 0#32) (IntOp.cmpi .eq (b o) 255#32)) 0#32 (b o - 126#32) = _
  generalize b o = x
  unfold expoW
  by_cases h0 : x = 0#32
  · subst h0; rfl
  · by_cases h1 : x = 255#32
    · subst h1; rfl
    · rw [if_neg (by tauto)]
      have e0 : IntOp.cmpi .eq x 0#32 = 0#1 := by show BitVec.ofBool (x == 0#32) = 0#1; rw [beq_eq_false_iff_ne.mpr h0]; rfl
      have e1 : IntOp.cmpi .eq x 255#32 = 0#1 := by show BitVec.ofBool (x == 255#32) = 0#1; rw [beq_eq_false_iff_ne.mpr h1]; rfl
      rw [e0, e1]; rfl

theorem biased_apply (a : FVec Ideal S1x1 .f32) (o : S1x1.Idx) :
    ∃ (s : Finset S1x256.Idx), (∀ j < 256, ∃ i ∈ s, (i 1).val = j)
      ∧ biased a o = (s.fold IntOp.maxsi 2147483648#32 fun i => cand (quot (a o)) (i 1).val) &&& 255#32 := by
  classical
  refine ⟨Finset.univ.filter fun i => reduces_S1x256_S1.drop i = ValueIdx.ix1 0, fun j hj => ⟨ValueIdx.ix2 0 ⟨j, hj⟩, ?_, rfl⟩, ?_⟩
  · rw [Finset.mem_filter]
    refine ⟨Finset.mem_univ _, ?_⟩
    funext x
    match x with
    | ⟨0, _⟩ => rfl
  · unfold biased
    show IntOp.andi (shapeCast S1x1 _ _ o) 255#32 = _
    refine congrArg (· &&& 255#32) ?_
    refine (shapeCast_addUnit_apply ![1] _ _ _).trans ?_
    refine (multiReductionI_eq_fold _ _ _ reduces_S1x256_S1 rfl _).trans ?_
    have e : (fun a : Fin 1 => o a.succ : S1.Idx) = ValueIdx.ix1 0 := by
      funext x
      match x with
      | ⟨0, _⟩ =>
        have : (o 1).val < 1 := (o 1).isLt
        exact Fin.ext (show (o 1).val = 0 by omega)
    rw [e]
    refine Finset.fold_congr fun i _ => ?_
    have hi : (i 1).val < 256 := (i 1).isLt
    have hn : (iota .tc S1x256 32 [1] iota_S1x256_d1_w32 : IVec S1x256 32) i = BitVec.ofNat 32 (i 1).val := by
      show BitVec.ofNat 32 (0 * 256 + (i 1).val) = _
      rw [Nat.zero_mul, Nat.zero_add]
    have hy : broadcastTo S1x256 (mulf a (broadcast S1x1 (Scalar.ofBits .f32 0x3B124925#32)) : FVec Ideal S1x1 .f32) broadcasts_S1x1_S1x256 i = quot (a o) := by
      show quot (a _) = quot (a o)
      exact congrArg (fun k => quot (a k)) (S1x1_idx _ _)
    show Scalar.select (Ideal.cmp .ole (lit (IntOp.shli .vector ((iota .tc S1x256 32 [1] iota_S1x256_d1_w32 : IVec S1x256 32) i) 23#32)) (broadcastTo S1x256 (mulf a (broadcast S1x1 (Scalar.ofBits .f32 0x3B124925#32)) : FVec Ideal S1x1 .f32) broadcasts_S1x1_S1x256 i))
      ((iota .tc S1x256 32 [1] iota_S1x256_d1_w32 : IVec S1x256 32) i) 4294967295#32 = _
    rw [hn, hy]
    have hs : ∀ x : BitVec 32, IntOp.shli .vector x 23#32 = x <<< (23 : ℕ) := fun x => by
      unfold IntOp.shli; rw [if_pos (by decide)]; rfl
    rw [hs]
    unfold cand
    split
    · rename_i h
      show Scalar.select (BitVec.ofBool (decide _)) _ _ = _
      rw [decide_eq_true h]; rfl
    · rename_i h
      show Scalar.select (BitVec.ofBool (decide _)) _ _ = _
      rw [decide_eq_false h]; rfl

/-- The scale and its inverse of a head whose quotient is a real number below the greatest power of two. -/
theorem scale_apply (a : FVec Ideal S1x1 .f32) (o : S1x1.Idx) (y : ℝ) (hy : quot (a o) = y) (h0 : 0 ≤ y) (hlt : y < (2 : ℝ) ^ (126 : ℤ)) :
    scaleOf a o = scale (a o) ∧ invOf a o = inv (a o) := by
  classical
  obtain ⟨s, hall, hb⟩ := biased_apply a o
  obtain ⟨h1, h2⟩ := scale_eq s (fun i => (i 1).val) (fun i _ => (i 1).isLt) hall (a o) y hy h0 hlt _ rfl
  have hs : ∀ x : BitVec 32, IntOp.shli .vector x 23#32 = x <<< (23 : ℕ) := fun x => by
    unfold IntOp.shli; rw [if_pos (by decide)]; rfl
  rw [← h1, ← h2, ← hy, ← hb, ← expo_apply]
  constructor
  · show lit (IntOp.shli .vector (127#32 + expo (biased a) o) 23#32) = _
    rw [hs]
  · show lit (IntOp.shli .vector (127#32 - expo (biased a) o) 23#32) = _
    rw [hs]

theorem lit16_hi : (Scalar.ofBits (F := Ideal) .bf16 0x43E0#16 : EReal) = lit 0x43E00000#32 := by
  show Ideal.ofBits .bf16 0x43E0#16 = Ideal.ofBits .f32 0x43E00000#32
  simp [Ideal.ofBits, Ideal.ieee, -EReal.coe_mul]; norm_num
theorem lit16_lo : (Scalar.ofBits (F := Ideal) .bf16 0xC3E0#16 : EReal) = lit 0xC3E00000#32 := by
  show Ideal.ofBits .bf16 0xC3E0#16 = Ideal.ofBits .f32 0xC3E00000#32
  simp [Ideal.ofBits, Ideal.ieee, -EReal.coe_mul]; norm_num

theorem codeK_apply (x : Vec Ideal S1x64x128 .f32) (s : FVec Ideal S1x1 .f32) (q : Fin 64) (l : Fin 128) (o : S1x1.Idx) :
    codeK x s (ValueIdx.ix3 0 q l) = code (x (ValueIdx.ix3 0 q l)) (s o) := by
  unfold codeK
  refine (shapeCast_addUnit_apply ![64, 128] _ _ _).trans ?_
  have e : (fun a : Fin 2 => (ValueIdx.ix3 0 q l : S1x64x128.Idx) a.succ : S64x128.Idx) = ValueIdx.ix2 q l := by
    funext a
    match a with
    | ⟨0, _⟩ => rfl
    | ⟨1, _⟩ => rfl
  rw [e]
  have ex : shapeCast S64x128 x shapeCasts_S1x64x128_S64x128 (ValueIdx.ix2 q l) = x (ValueIdx.ix3 0 q l) := by
    refine (shapeCast_dropUnit_apply ![64, 128] _ _ _).trans (congrArg x ?_)
    funext a
    match a with
    | ⟨0, _⟩ => rfl
    | ⟨1, _⟩ => rfl
    | ⟨2, _⟩ => rfl
  show min (max (shapeCast S64x128 x shapeCasts_S1x64x128_S64x128 (ValueIdx.ix2 q l) * s _) (lit 0xC3E00000#32)) (lit 0x43E00000#32) = _
  rw [ex, min_comm, max_comm]
  exact congrArg (fun k => code (x (ValueIdx.ix3 0 q l)) (s k)) (S1x1_idx _ o)

theorem codeV_apply (x : FVec Ideal S64x128 .bf16) (s : FVec Ideal S1x1 .bf16) (q : Fin 64) (l : Fin 128) (o : S1x1.Idx) :
    codeV x s (ValueIdx.ix3 0 q l) = code (x (ValueIdx.ix2 q l)) (s o) := by
  unfold codeV
  refine (shapeCast_addUnit_apply ![64, 128] _ _ _).trans ?_
  have e : (fun a : Fin 2 => (ValueIdx.ix3 0 q l : S1x64x128.Idx) a.succ : S64x128.Idx) = ValueIdx.ix2 q l := by
    funext a
    match a with
    | ⟨0, _⟩ => rfl
    | ⟨1, _⟩ => rfl
  rw [e]
  show min (max (x (ValueIdx.ix2 q l) * s _) (Scalar.ofBits (F := Ideal) .bf16 0xC3E0#16 : EReal)) (Scalar.ofBits (F := Ideal) .bf16 0x43E0#16 : EReal) = _
  rw [lit16_hi, lit16_lo, min_comm, max_comm]
  exact congrArg (fun k => code (x (ValueIdx.ix2 q l)) (s k)) (S1x1_idx _ o)

end Cert.KernelIdeal.Rope

end
-- ==== Proof.Rope.Final.lean ====
/- What the four result arrays hold at the end of a run, entry by entry. -/
module

public import proofs.«01_k».proof.Proof.Rope.Run
public import Idealize.ShloMosaic.Lib.Pipeline.ValueKit

@[expose] public section

set_option maxRecDepth 16384

noncomputable section

namespace Cert.KernelIdeal.Rope

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (ρ : Dev nD → PrngReg)

/-- The point of a block of the batch. -/
abbrev pt (b : Fin 8) : Fin cfg0.N := ⟨b.val, lt_of_lt_of_eq b.isLt (show 8 = cfg0.N from N_0.symm)⟩

theorem index3 : ∀ t : Fin cfg0.N, win0_3.index t = ![t.val, 0, 0] := (by decide +kernel : ∀ t : Fin grid0.N, win0_3.index t = ![t.val, 0, 0])
theorem index5 : ∀ t : Fin cfg0.N, win0_5.index t = ![t.val, 0, 0] := (by decide +kernel : ∀ t : Fin grid0.N, win0_5.index t = ![t.val, 0, 0])

theorem exact_of_leaves {w : Fin cfg0.W} (hw : held w = false) {c : Dev nD} {t : Fin cfg0.N} {X} (h : (rdats m c).Leaves w t X) : X = (dats m 0 c).after w t := by
  obtain ⟨_, _, hX⟩ := h
  rw [Dat.toRRel_after_of_eq_false (dats m 0 c) hw] at hX
  exact hX

theorem final {r} (h : Pipeline.RDat.FramePost (cfgs 0) (fun c => (dats m 0 c).toRRel held (rel m c)) (V m) r) (c : Dev nD) :
    (∀ (b : Fin 8) (j : Fin 128) (n : Fin 2048), r.2.mem ((c.tc : Thread nD τ).loc main_v0_0) (ValueIdx.ix3 b j n) = G4P m c (pt b) (ValueIdx.ix3 0 j n))
    ∧ (∀ (b : Fin 8) (j : Fin 128) (n : Fin 2048), r.2.mem ((c.tc : Thread nD τ).loc main_v0_2) (ValueIdx.ix3 b j n) = G6P m c (pt b) (ValueIdx.ix3 0 j n))
    ∧ (∀ (b : Fin 8) (e : Fin 2), r.2.mem ((c.tc : Thread nD τ).loc main_v0_1) (ValueIdx.ix2 e b) = sK m c (pt b) e.val (ValueIdx.ix2 0 0))
    ∧ (∀ (b : Fin 8) (e : Fin 2), r.2.mem ((c.tc : Thread nD τ).loc main_v0_3) (ValueIdx.ix2 e b) = sV m c (pt b) e.val (ValueIdx.ix2 0 0)) := by
  obtain ⟨after, hl, ha⟩ := Pipeline.RDat.FramePost.exists_exact h c
  refine ⟨?_, ?_, ?_, ?_⟩
  · have e : ((rdats m c).withAfter after).arrAt 3 cfg0.N
        = fun j : S8x128x2048.Idx => G4P m c (pt (j 0)) (ValueIdx.ix3 0 (j 1) (j 2)) := by
      refine ((rdats m c).withAfter after).arrAt_eq_of_covers 3 _ (by decide +kernel) fun t hf y => ?_
      blk_simp
      have e3 : after 3 t = G4P m c t := (exact_of_leaves m rfl (hl 3 t hf)).trans (after0_3 m c t)
      show after 3 t y = _
      rw [e3]
      have y0 : (y 0).val < 1 := (y 0).isLt
      generalize hE : (Pipeline.Window.blk win0_3 t).view.emb y = E
      have h0 : (E 0).val = t.val := by rw [← hE]; blk_simp [index3]
      have h1 : (E 1).val = (y 1).val := by rw [← hE]; blk_simp [index3]
      have h2 : (E 2).val = (y 2).val := by rw [← hE]; blk_simp [index3]
      rw [show pt (E 0) = t from Fin.ext h0]
      refine congrArg _ ?_
      funext a
      match a with
      | ⟨0, _⟩ => exact Fin.ext (show (y 0).val = 0 by omega)
      | ⟨1, _⟩ => exact Fin.ext h1.symm
      | ⟨2, _⟩ => exact Fin.ext h2.symm
    intro b j n
    exact congrFun ((ha 3).trans e) (ValueIdx.ix3 b j n)
  · have e : ((rdats m c).withAfter after).arrAt 5 cfg0.N
        = fun j : S8x128x2048.Idx => G6P m c (pt (j 0)) (ValueIdx.ix3 0 (j 1) (j 2)) := by
      refine ((rdats m c).withAfter after).arrAt_eq_of_covers 5 _ (by decide +kernel) fun t hf y => ?_
      blk_simp
      have e3 : after 5 t = G6P m c t := (exact_of_leaves m rfl (hl 5 t hf)).trans (after0_5 m c t)
      show after 5 t y = _
      rw [e3]
      have y0 : (y 0).val < 1 := (y 0).isLt
      generalize hE : (Pipeline.Window.blk win0_5 t).view.emb y = E
      have h0 : (E 0).val = t.val := by rw [← hE]; blk_simp [index5]
      have h1 : (E 1).val = (y 1).val := by rw [← hE]; blk_simp [index5]
      have h2 : (E 2).val = (y 2).val := by rw [← hE]; blk_simp [index5]
      rw [show pt (E 0) = t from Fin.ext h0]
      refine congrArg _ ?_
      funext a
      match a with
      | ⟨0, _⟩ => exact Fin.ext (show (y 0).val = 0 by omega)
      | ⟨1, _⟩ => exact Fin.ext h1.symm
      | ⟨2, _⟩ => exact Fin.ext h2.symm
    intro b j n
    exact congrFun ((ha 5).trans e) (ValueIdx.ix3 b j n)
  · have e := fun j => congrFun (ha 4) j
    intro b e'
    refine (e (ValueIdx.ix2 e' b)).trans ?_
    refine (((rdats m c).withAfter after).arrAt_emb_eq_after_last 4 t0_7 (by decide +kernel) (ValueIdx.ix2 e' b)).trans ?_
    blk_simp
    have hL : Lanes (sK m c) (7 + 1) (after 4 t0_7) := Dat.toRRel_leaves (dats m 0 c) (fgt := held) (Rl := rel m c) (w := 4) rfl (hl 4 t0_7 ((flush0_4 _).mpr rfl))
    refine Eq.trans ?_ (hL (pt b) b.isLt e'.val e'.isLt (ValueIdx.ix2 0 b) rfl (ValueIdx.ix2 0 0))
    show after 4 t0_7 _ = _
    refine congrArg (after 4 t0_7) ?_
    funext a
    match a with
    | ⟨0, _⟩ => exact Fin.ext (show e'.val = e'.val + 1 * 0 by omega)
    | ⟨1, _⟩ => exact Fin.ext (show b.val = 0 + 1 * b.val by omega)
  · have e := fun j => congrFun (ha 6) j
    intro b e'
    refine (e (ValueIdx.ix2 e' b)).trans ?_
    refine (((rdats m c).withAfter after).arrAt_emb_eq_after_last 6 t0_7 (by decide +kernel) (ValueIdx.ix2 e' b)).trans ?_
    blk_simp
    have hL : Lanes (sV m c) (7 + 1) (after 6 t0_7) := Dat.toRRel_leaves (dats m 0 c) (fgt := held) (Rl := rel m c) (w := 6) rfl (hl 6 t0_7 ((flush0_6 _).mpr rfl))
    refine Eq.trans ?_ (hL (pt b) b.isLt e'.val e'.isLt (ValueIdx.ix2 0 b) rfl (ValueIdx.ix2 0 0))
    show after 6 t0_7 _ = _
    refine congrArg (after 6 t0_7) ?_
    funext a
    match a with
    | ⟨0, _⟩ => exact Fin.ext (show e'.val = e'.val + 1 * 0 by omega)
    | ⟨1, _⟩ => exact Fin.ext (show b.val = 0 + 1 * b.val by omega)

end Cert.KernelIdeal.Rope

end
-- ==== Proof.Rope.KernelSpec.lean ====
/- The kernel's four results are the four functions of the arguments. -/
module

public import proofs.«01_k».proof.Proof.Rope.Max
public import proofs.«01_k».proof.Proof.Rope.Quant
public import proofs.«01_k».proof.Proof.Rope.Final
public import proofs.«01_k».proof.Proof.Rope.Spec

@[expose] public section

set_option maxRecDepth 16384

noncomputable section

namespace Cert.KernelIdeal.Rope

open Cert.KernelIdeal Cert.KernelIdeal.Gen Cert.RopeMath
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ)

/-- The three arguments. -/
abbrev aK (c : Dev nD) : S8x2048x128.Idx → EReal := m ((c.tc : Thread nD τ).loc main_arg0)
abbrev aV (c : Dev nD) : S8x2048x128.Idx → EReal := m ((c.tc : Thread nD τ).loc main_arg1)
abbrev aP (c : Dev nD) : S8x2048.Idx → BitVec 32 := m ((c.tc : Thread nD τ).loc main_arg2)

theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![0, 0] := (by decide +kernel : ∀ t : Fin grid0.N, win0_2.index t = ![0, 0])

theorem xk_apply (c : Dev nD) (b : Fin 8) (n : Fin 2048) (j : Fin 128) : xk m c (pt b) (ValueIdx.ix3 0 n j) = aK m c (ValueIdx.ix3 b n j) := by
  show aK m c ((Pipeline.Window.blk win0_0 (pt b)).view.emb (ValueIdx.ix3 0 n j)) = _
  refine congrArg (aK m c) ?_
  generalize hE : (Pipeline.Window.blk win0_0 (pt b)).view.emb (ValueIdx.ix3 0 n j) = E
  have h0 : (E 0).val = b.val := by rw [← hE]; blk_simp [index0]; try rfl
  have h1 : (E 1).val = n.val := by rw [← hE]; blk_simp [index0]; try rfl
  have h2 : (E 2).val = j.val := by rw [← hE]; blk_simp [index0]; try rfl
  funext a
  match a with
  | ⟨0, _⟩ => exact Fin.ext h0
  | ⟨1, _⟩ => exact Fin.ext h1
  | ⟨2, _⟩ => exact Fin.ext h2

theorem xv_apply (c : Dev nD) (b : Fin 8) (n : Fin 2048) (j : Fin 128) : xv m c (pt b) (ValueIdx.ix3 0 n j) = aV m c (ValueIdx.ix3 b n j) := by
  show aV m c ((Pipeline.Window.blk win0_1 (pt b)).view.emb (ValueIdx.ix3 0 n j)) = _
  refine congrArg (aV m c) ?_
  generalize hE : (Pipeline.Window.blk win0_1 (pt b)).view.emb (ValueIdx.ix3 0 n j) = E
  have h0 : (E 0).val = b.val := by rw [← hE]; blk_simp [index1]; try rfl
  have h1 : (E 1).val = n.val := by rw [← hE]; blk_simp [index1]; try rfl
  have h2 : (E 2).val = j.val := by rw [← hE]; blk_simp [index1]; try rfl
  funext a
  match a with
  | ⟨0, _⟩ => exact Fin.ext h0
  | ⟨1, _⟩ => exact Fin.ext h1
  | ⟨2, _⟩ => exact Fin.ext h2

theorem xp_apply (c : Dev nD) (t : Fin cfg0.N) (b : Fin 8) (n : Fin 2048) : xp m c t (ValueIdx.ix2 b n) = aP m c (ValueIdx.ix2 b n) := by
  show aP m c ((Pipeline.Window.blk win0_2 t).view.emb (ValueIdx.ix2 b n)) = _
  refine congrArg (aP m c) ?_
  generalize hE : (Pipeline.Window.blk win0_2 t).view.emb (ValueIdx.ix2 b n) = E
  have h0 : (E 0).val = b.val := by rw [← hE]; blk_simp [index2]; try rfl
  have h1 : (E 1).val = n.val := by rw [← hE]; blk_simp [index2]; try rfl
  funext a
  match a with
  | ⟨0, _⟩ => exact Fin.ext h0
  | ⟨1, _⟩ => exact Fin.ext h1

theorem ex_xk (c : Dev nD) (b : Fin 8) (n j : ℕ) : ex (xk m c (pt b)) n j = at3 (aK m c) b.val n j := by
  unfold ex at3
  by_cases h : n < 2048 ∧ j < 128
  · rw [dif_pos h, dif_pos ⟨b.isLt, h⟩]
    exact xk_apply m c b _ _
  · rw [dif_neg h, dif_neg (fun h' => h h'.2)]

theorem ex_xv (c : Dev nD) (b : Fin 8) (n j : ℕ) : ex (xv m c (pt b)) n j = at3 (aV m c) b.val n j := by
  unfold ex at3
  by_cases h : n < 2048 ∧ j < 128
  · rw [dif_pos h, dif_pos ⟨b.isLt, h⟩]
    exact xv_apply m c b _ _
  · rw [dif_neg h, dif_neg (fun h' => h h'.2)]

theorem er_R0 (c : Dev nD) (b n : ℕ) : er (R0 m c) b n = at2 (aP m c) b n := by
  unfold er at2
  by_cases h : b < 8 ∧ n < 2048
  · rw [dif_pos h, dif_pos h]
    have h1 := R0_spec m c b h.1 (ValueIdx.ix3 0 0 ⟨n, h.2⟩)
    refine Eq.trans (congrArg (R0 m c) ?_) (h1.trans (((shapeCast_addUnit_apply ![1, 2048] _ _ _)).trans (Eq.trans (congrArg (xp m c t0_0) ?_) (xp_apply m c t0_0 ⟨b, h.1⟩ ⟨n, h.2⟩))))
    · funext a
      match a with
      | ⟨0, _⟩ => exact Fin.ext (show b = b + 1 * 0 by omega)
      | ⟨1, _⟩ => rfl
      | ⟨2, _⟩ => exact Fin.ext (show n = 0 + 1 * n by omega)
    · funext a
      match a with
      | ⟨0, _⟩ => exact Fin.ext (show b + 1 * 0 = b by omega)
      | ⟨1, _⟩ => exact Fin.ext (show 0 + 1 * n = n by omega)
  · rw [dif_neg h, dif_neg h]

theorem eh_eq (c : Dev nD) (b : Fin 8) (h : ℕ) : eh (xk m c (pt b)) (R0 m c) (grid0.coords (pt b)) h = headRot (aK m c) (aP m c) b.val h := by
  funext n q
  unfold eh headRot
  rw [er_R0, coords_val]
  refine congrArg (fun x => rot x (at2 (aP m c) b.val n) q) ?_
  funext q
  exact ex_xk m c b n _

theorem eh'_eq (c : Dev nD) (b : Fin 8) (h : ℕ) : eh' (xv m c (pt b)) h = headRaw (aV m c) b.val h := by
  funext n q
  exact ex_xv m c b n _

section
variable (c : Dev nD) (hK : ∀ j, mag (aK m c j) ≤ top) (hV : ∀ j, mag (aV m c j) ≤ top) (hP : ∀ j, (aP m c j).toNat < 16384)

include hP in
theorem hR (i : grid0.Coords) (n : ℕ) : (er (R0 m c) (i 0).val n).toNat < 16384 := by
  rw [er_R0]; exact at2_lt hP _ _

include hP in
theorem kMax_spec (b : Fin 8) (h : ℕ) (hh : h < 2) (o : S1x1.Idx) : kMax (accP m c (pt b)) h o = amax (headRot (aK m c) (aP m c) b.val h) := by
  unfold accP
  rw [← eh_eq]
  exact kMax_eq _ _ _ _ T0_spec (hR m c hP _) _ h hh o

theorem vMax_spec (b : Fin 8) (h : ℕ) (hh : h < 2) (o : S1x1.Idx) : vMax (accP m c (pt b)) h o = amax (headRaw (aV m c) b.val h) := by
  unfold accP
  rw [← eh'_eq]
  exact vMax_eq _ _ _ _ _ h hh o

include hK hP in
theorem kScale_spec (b : Fin 8) (h : ℕ) (hh : h < 2) (o : S1x1.Idx) :
    sK m c (pt b) h o = scale (amax (headRot (aK m c) (aP m c) b.val h)) ∧ ikOf (accP m c (pt b)) h o = inv (amax (headRot (aK m c) (aP m c) b.val h)) := by
  obtain ⟨y, hy, h0, hlt⟩ := quot_real _ (headRot_le hK (aP m c) b.val h)
  have e := kMax_spec m c hP b h hh o
  obtain ⟨h1, h2⟩ := scale_apply (kMax (accP m c (pt b)) h) o y (by rw [e]; exact hy) h0 hlt
  rw [e] at h1 h2
  exact ⟨h1, h2⟩

include hV in
theorem vScale_spec (b : Fin 8) (h : ℕ) (hh : h < 2) (o : S1x1.Idx) :
    sV m c (pt b) h o = scale (amax (headRaw (aV m c) b.val h)) ∧ (ivOf (accP m c (pt b)) h o : EReal) = inv (amax (headRaw (aV m c) b.val h)) := by
  obtain ⟨y, hy, h0, hlt⟩ := quot_real _ (headRaw_le hV b.val h)
  have e := vMax_spec m c b h hh o
  obtain ⟨h1, h2⟩ := scale_apply (vMax (accP m c (pt b)) h) o y (by rw [e]; exact hy) h0 hlt
  rw [e] at h1 h2
  exact ⟨h1, h2⟩

include hK hP in
theorem kCode_spec (b : Fin 8) (j : Fin 128) (n : Fin 2048) :
    G4P m c (pt b) (ValueIdx.ix3 0 j n) = codes (headRot (aK m c) (aP m c)) (ValueIdx.ix3 b j n) := by
  have hj := j.isLt
  have hn := n.isLt
  have ht : n.val / 128 < 16 := by omega
  have hh : j.val / 64 < 2 := by omega
  have hq : j.val % 64 < 64 := by omega
  have hl : n.val % 128 < 128 := by omega
  have h1 := G4P_spec m c (pt b) (n.val / 128) ht (j.val / 64) hh (ValueIdx.ix3 0 ⟨j.val % 64, hq⟩ ⟨n.val % 128, hl⟩)
  rw [codeK_apply _ _ _ _ (ValueIdx.ix2 0 0), (kScale_spec m c hK hP b _ hh _).2] at h1
  have h2 := rot_apply (xk m c (pt b)) T0 (R0 m c) (grid0.coords (pt b)) T0_spec (hR m c hP _) (G8P m c (pt b)) (G8P_spec m c (pt b)) ⟨n.val / 128, ht⟩ (j.val / 64) hh (j.val % 64) hq ⟨n.val % 128, hl⟩
  rw [eh_eq] at h2
  have h3 : rotAt (G8P m c (pt b)) (n.val / 128) (j.val / 64) ht hh (ValueIdx.ix3 0 ⟨j.val % 64, hq⟩ ⟨n.val % 128, hl⟩)
      = headRot (aK m c) (aP m c) b.val (j.val / 64) n.val (j.val % 64) := by
    unfold rotAt
    refine Eq.trans (congrArg (G8P m c (pt b)) ?_) (h2.trans ?_)
    · funext a
      match a with
      | ⟨0, _⟩ => exact Fin.ext (show n.val / 128 + 1 * 0 = n.val / 128 by omega)
      | ⟨1, _⟩ => exact Fin.ext (show 64 * (j.val / 64) + 1 * (j.val % 64) = 64 * (j.val / 64) + j.val % 64 by omega)
      | ⟨2, _⟩ => exact Fin.ext (show 0 + 1 * (n.val % 128) = n.val % 128 by omega)
    · exact congrArg (fun k => headRot (aK m c) (aP m c) b.val (j.val / 64) k (j.val % 64)) (show 128 * (n.val / 128) + n.val % 128 = n.val by omega)
  rw [h3] at h1
  refine Eq.trans (congrArg (G4P m c (pt b)) ?_) h1
  funext a
  match a with
  | ⟨0, _⟩ => rfl
  | ⟨1, _⟩ => exact Fin.ext (show j.val = 64 * (j.val / 64) + 1 * (j.val % 64) by omega)
  | ⟨2, _⟩ => exact Fin.ext (show n.val = 128 * (n.val / 128) + 1 * (n.val % 128) by omega)

include hV in
theorem vCode_spec (b : Fin 8) (j : Fin 128) (n : Fin 2048) :
    G6P m c (pt b) (ValueIdx.ix3 0 j n) = codes (headRaw (aV m c)) (ValueIdx.ix3 b j n) := by
  have hj := j.isLt
  have hn := n.isLt
  have ht : n.val / 128 < 16 := by omega
  have hh : j.val / 64 < 2 := by omega
  have hq : j.val % 64 < 64 := by omega
  have hl : n.val % 128 < 128 := by omega
  have h1 := G6P_spec m c (pt b) (n.val / 128) ht (j.val / 64) hh (ValueIdx.ix3 0 ⟨j.val % 64, hq⟩ ⟨n.val % 128, hl⟩)
  rw [codeV_apply _ _ _ _ (ValueIdx.ix2 0 0), (vScale_spec m c hV b _ hh _).2] at h1
  have h3 : (extractStridedSlice S64x128 ![64 * (j.val / 64), 0] (valTile (blkAt (xv m c (pt b)) (n.val / 128) ht)) (slice64 (64 * (j.val / 64)) (by omega)) (ValueIdx.ix2 ⟨j.val % 64, hq⟩ ⟨n.val % 128, hl⟩) : EReal)
      = headRaw (aV m c) b.val (j.val / 64) n.val (j.val % 64) := by
    have e1 : (extractStridedSlice S64x128 ![64 * (j.val / 64), 0] (valTile (blkAt (xv m c (pt b)) (n.val / 128) ht)) (slice64 (64 * (j.val / 64)) (by omega)) (ValueIdx.ix2 ⟨j.val % 64, hq⟩ ⟨n.val % 128, hl⟩) : EReal)
        = valTile (blkAt (xv m c (pt b)) (n.val / 128) ht) (ValueIdx.ix2 j ⟨n.val % 128, hl⟩) := by
      unfold extractStridedSlice
      refine congrArg _ ?_
      funext a
      match a with
      | ⟨0, _⟩ => exact Fin.ext (show 64 * (j.val / 64) + j.val % 64 = j.val by omega)
      | ⟨1, _⟩ => exact Fin.ext (show 0 + n.val % 128 = n.val % 128 by omega)
    rw [e1, valTile_apply, blkAt_apply, ex_xv]
    unfold headRaw
    simp only
    rw [show 128 * (n.val / 128) + n.val % 128 = n.val from by omega, show 64 * (j.val / 64) + j.val % 64 = j.val from by omega]
  rw [h3] at h1
  refine Eq.trans (congrArg (G6P m c (pt b)) ?_) h1
  funext a
  match a with
  | ⟨0, _⟩ => rfl
  | ⟨1, _⟩ => exact Fin.ext (show j.val = 64 * (j.val / 64) + 1 * (j.val % 64) by omega)
  | ⟨2, _⟩ => exact Fin.ext (show n.val = 128 * (n.val / 128) + 1 * (n.val % 128) by omega)

include hK hV hP in
/-- The four result arrays at the end of a run. -/
theorem results {r} (h : Pipeline.RDat.FramePost (cfgs 0) (fun c => (dats m 0 c).toRRel held (rel m c)) (V m) r) :
    r.2.mem ((c.tc : Thread nD τ).loc main_v0_0) = codes (headRot (aK m c) (aP m c))
    ∧ r.2.mem ((c.tc : Thread nD τ).loc main_v0_1) = scales (headRot (aK m c) (aP m c))
    ∧ r.2.mem ((c.tc : Thread nD τ).loc main_v0_2) = codes (headRaw (aV m c))
    ∧ r.2.mem ((c.tc : Thread nD τ).loc main_v0_3) = scales (headRaw (aV m c)) := by
  obtain ⟨h0, h2, h1, h3⟩ := final m h c
  refine ⟨?_, ?_, ?_, ?_⟩
  · funext j
    rw [show j = ValueIdx.ix3 (j 0) (j 1) (j 2) from ValueIdx.eq_ix3 (n0 := 8) (n1 := 128) (n2 := 2048) j]
    exact (h0 (j 0) (j 1) (j 2)).trans (kCode_spec m c hK hP _ _ _)
  · funext j
    rw [show j = ValueIdx.ix2 (j 0) (j 1) from ValueIdx.eq_ix2 (n0 := 2) (n1 := 8) j]
    exact (h1 (j 1) (j 0)).trans (kScale_spec m c hK hP (j 1) (j 0).val (j 0).isLt _).1
  · funext j
    rw [show j = ValueIdx.ix3 (j 0) (j 1) (j 2) from ValueIdx.eq_ix3 (n0 := 8) (n1 := 128) (n2 := 2048) j]
    exact (h2 (j 0) (j 1) (j 2)).trans (vCode_spec m c hV _ _ _)
  · funext j
    rw [show j = ValueIdx.ix2 (j 0) (j 1) from ValueIdx.eq_ix2 (n0 := 2) (n1 := 8) j]
    exact (h3 (j 1) (j 0)).trans (vScale_spec m c hV (j 1) (j 0).val (j 0).isLt _).1
end

end Cert.KernelIdeal.Rope

end
-- ==== Proof.Rope.Heads.lean ====
/- The heads of an argument and the largest entry of each, as the host computes them. -/
module

public import proofs.«01_k».proof.Proof.Rope.Spec
public import Idealize.ShloMosaic.Lib.Pointwise

@[expose] public section

set_option maxRecDepth 16384

noncomputable section

namespace Cert.RopeMath

open Idealize.ShloMosaic Idealize.ShloMosaic.Tactic

/-- The arguments, their heads, one number per head. -/
abbrev SArg : Shape := ⟨3, ![8, 2048, 128]⟩
abbrev SHeads : Shape := ⟨4, ![8, 2048, 2, 64]⟩
abbrev SHead : Shape := ⟨2, ![8, 2]⟩

/-- The argument split into heads, entry by entry. -/
theorem heads_at (x : SArg.Idx → EReal) (hc : SArg.ShapeCasts SHeads) (b : Fin 8) (n : Fin 2048) (h : Fin 2) (q : Fin 64) :
    shapeCast SHeads x hc (ValueIdx.ix4 b n h q) = headRaw x b.val h.val n.val q.val := by
  have hh := h.isLt
  have hq := q.isLt
  unfold headRaw at3
  rw [dif_pos ⟨b.isLt, n.isLt, by omega⟩]
  pointwise
  exact congrArg (fun k => x (ValueIdx.ix3 b n k)) (Fin.ext (show h.val * 64 + q.val = 64 * h.val + q.val by omega))

theorem lit_bot : lit 0xFF800000#32 = ⊥ := by
  simp [Ideal.ofBits, Ideal.ieee]

/-- A maximum over axes, by its upper bounds. -/
theorem reduce_le {s t u : Shape} {ds : List (Fin s.rank)} (x : FVec Ideal s .f32) (h : s.ReducesTo ds t) (hu : 0 < u.numel) (j : t.Idx) (z : EReal) :
    (Host.reduce (FloatOps.maximumf (F := Ideal) (φ := .f32)) x (constant u .f32 0xFF800000#32 : FVec Ideal u .f32) h hu j : EReal) ≤ z
      ↔ ∀ i, h.drop i = j → (x i : EReal) ≤ z := by
  classical
  rw [Host.reduce_eq_fold]
  refine (show _ ↔ _ from Finset.fold_max_le (α := s.Idx) (β := EReal) z).trans ?_
  constructor
  · exact fun H i hi => H.2 i (Finset.mem_filter.mpr ⟨Finset.mem_univ _, hi⟩)
  · refine fun H => ⟨?_, fun i hi => H i (Finset.mem_filter.mp hi).2⟩
    show lit 0xFF800000#32 ≤ z
    rw [lit_bot]; exact bot_le

theorem drop_ix4 (hr : SHeads.ReducesTo [1, 3] SHead) (b : Fin 8) (n : Fin 2048) (h : Fin 2) (q : Fin 64) :
    hr.drop (ValueIdx.ix4 b n h q) = ValueIdx.ix2 b h := by
  funext a
  match a with
  | ⟨0, _⟩ => exact Fin.ext (Shape.ReducesTo.drop_apply_val_of_eq hr _ 0 0)
  | ⟨1, _⟩ => exact Fin.ext (Shape.ReducesTo.drop_apply_val_of_eq hr _ 1 2)

theorem of_drop (hr : SHeads.ReducesTo [1, 3] SHead) (i : SHeads.Idx) (b : Fin 8) (h : Fin 2) (hd : hr.drop i = ValueIdx.ix2 b h) :
    ∃ (n : Fin 2048) (q : Fin 64), i = ValueIdx.ix4 b n h q := by
  have h0 : (i 0).val = b.val := (Shape.ReducesTo.drop_apply_val_of_eq hr i 0 0).symm.trans (congrArg (fun j : SHead.Idx => (j 0).val) hd)
  have h2 : (i 2).val = h.val := (Shape.ReducesTo.drop_apply_val_of_eq hr i 1 2).symm.trans (congrArg (fun j : SHead.Idx => (j 1).val) hd)
  refine ⟨i 1, i 3, ?_⟩
  funext a
  match a with
  | ⟨0, _⟩ => exact Fin.ext h0
  | ⟨1, _⟩ => rfl
  | ⟨2, _⟩ => exact Fin.ext h2
  | ⟨3, _⟩ => rfl

/-- The maximum of a head's absolute entries is the specification's. -/
theorem reduce_at {u : Shape} (x : FVec Ideal SHeads .f32) (f : ℕ → ℕ → ℕ → ℕ → EReal)
    (hx : ∀ (b : Fin 8) (n : Fin 2048) (h : Fin 2) (q : Fin 64), (x (ValueIdx.ix4 b n h q) : EReal) = mag (f b.val h.val n.val q.val))
    (hr : SHeads.ReducesTo [1, 3] SHead) (hu : 0 < u.numel) (b : Fin 8) (h : Fin 2) :
    (Host.reduce (FloatOps.maximumf (F := Ideal) (φ := .f32)) x (constant u .f32 0xFF800000#32 : FVec Ideal u .f32) hr hu (ValueIdx.ix2 b h) : EReal)
      = amax (f b.val h.val) := by
  refine eq_of_forall_ge_iff fun z => ?_
  rw [amax_le]
  refine (reduce_le x _ _ _ z).trans ?_
  constructor
  · intro H n hn q hq
    have e := H (ValueIdx.ix4 b ⟨n, hn⟩ h ⟨q, hq⟩) (drop_ix4 hr _ _ _ _)
    rwa [hx] at e
  · intro H i hi
    obtain ⟨n, q, rfl⟩ := of_drop hr i b h hi
    rw [hx]
    exact H _ n.isLt _ q.isLt

end Cert.RopeMath

end
-- ==== Proof.Rope.Small.lean ====
/- A head whose largest entry is not tiny keeps its exponent through the rotation: the two ways to say when the
   exponent is zero agree. -/
module

public import proofs.«01_k».proof.Proof.Rope.Spec

@[expose] public section

noncomputable section

namespace Cert.RopeMath

open Idealize.ShloMosaic

/-- The exponent of the scale as the reference states it: zero for a head of zeros. -/
def expoA (a : EReal) : EReal :=
  if a = lit 0x00000000#32 then lit 0x00000000#32
  else Ideal.liftRound Int.floor (Ideal.div (Ideal.log (quot a)) (Ideal.log (lit 0x40000000#32))) + lit 0x3F800000#32

/-- A largest entry that is zero or whose quotient is a normal number. -/
def Seen (a : EReal) : Prop := a = 0 ∨ lit 0x00800000#32 ≤ quot a

theorem expoA_eq {a : EReal} (h : Seen a) : expoA a = expo (quot a) := by
  have h0 : lit 0x00000000#32 = 0 := Ideal.ofBits_zero_f32
  have hpos : (0 : EReal) < lit 0x00800000#32 := by
    rw [lit_min, ← EReal.coe_zero, EReal.coe_lt_coe_iff]; positivity
  unfold expoA expo
  rw [h0]
  rcases h with rfl | h
  · rw [if_pos rfl, if_pos]
    unfold quot
    rw [zero_mul]; exact hpos
  · rw [if_neg, if_neg (not_lt.mpr h)]
    rintro rfl
    unfold quot at h
    rw [zero_mul] at h
    exact absurd hpos (not_lt.mpr h)

/-- The least size of a head that is not all zeros. -/
abbrev low : EReal := lit 0x05800000#32

theorem low_eq : low = (((2 : ℝ) ^ (-116 : ℤ) : ℝ) : EReal) := by
  have := lit_pow 11 (by norm_num) (by norm_num)
  rw [show (BitVec.ofNat 32 11 <<< (23 : ℕ)) = 0x05800000#32 from by decide] at this
  show lit 0x05800000#32 = _
  rw [this]; norm_num

/-- The reciprocal of the largest code is at least 2^-9. -/
theorem lit_c_ge : (((2 : ℝ) ^ (-9 : ℤ) : ℝ) : EReal) ≤ lit 0x3B124925#32 := by
  have e : lit 0x3B124925#32 = ((9586981 * 2 ^ (-32 : ℤ) : ℝ) : EReal) := by
    simp [Ideal.ofBits, Ideal.ieee, -EReal.coe_mul]
  rw [e, EReal.coe_le_coe_iff]; norm_num

theorem seen_of_le {a : EReal} (h : (((2 : ℝ) ^ (-117 : ℤ) : ℝ) : EReal) ≤ a) : Seen a := by
  right
  have p : (0 : EReal) ≤ (((2 : ℝ) ^ (-117 : ℤ) : ℝ) : EReal) := by
    rw [← EReal.coe_zero, EReal.coe_le_coe_iff]; positivity
  have p9 : (0 : EReal) ≤ (((2 : ℝ) ^ (-9 : ℤ) : ℝ) : EReal) := by
    rw [← EReal.coe_zero, EReal.coe_le_coe_iff]; positivity
  have e : lit 0x00800000#32 = (((2 : ℝ) ^ (-117 : ℤ) : ℝ) : EReal) * (((2 : ℝ) ^ (-9 : ℤ) : ℝ) : EReal) := by
    rw [lit_min, ← EReal.coe_mul, ← zpow_add₀ (by norm_num : (2 : ℝ) ≠ 0)]; norm_num
  unfold quot
  rw [e]
  exact mul_le_mul h lit_c_ge p9 (le_trans p h)

theorem seen_raw {f : ℕ → ℕ → EReal} (h : amax f = 0 ∨ low ≤ amax f) : Seen (amax f) := by
  rcases h with h | h
  · exact Or.inl h
  · refine seen_of_le (le_trans ?_ h)
    rw [low_eq, EReal.coe_le_coe_iff]
    exact zpow_le_zpow_right₀ (by norm_num) (by norm_num)

/-- A channel pair is recovered from the rotated pair. -/
theorem pair_le (u v t z : ℝ) (h1 : |u * Real.cos t - v * Real.sin t| ≤ z) (h2 : |v * Real.cos t + u * Real.sin t| ≤ z) : |u| ≤ 2 * z ∧ |v| ≤ 2 * z := by
  have hc := Real.abs_cos_le_one t
  have hs := Real.abs_sin_le_one t
  have key : ∀ a b c d : ℝ, |a| ≤ z → |b| ≤ z → |c| ≤ 1 → |d| ≤ 1 → |a * c| + |b * d| ≤ 2 * z := by
    intro a b c d ha hb hc hd
    have hz : 0 ≤ z := le_trans (abs_nonneg a) ha
    rw [abs_mul, abs_mul]
    have m1 : |a| * |c| ≤ z * 1 := mul_le_mul ha hc (abs_nonneg _) hz
    have m2 : |b| * |d| ≤ z * 1 := mul_le_mul hb hd (abs_nonneg _) hz
    linarith
  have one := Real.sin_sq_add_cos_sq t
  constructor
  · have e : u = (u * Real.cos t - v * Real.sin t) * Real.cos t + (v * Real.cos t + u * Real.sin t) * Real.sin t := by
      linear_combination (-u) * one
    rw [e]
    exact le_trans (abs_add_le _ _) (key _ _ _ _ h1 h2 hc hs)
  · have e : v = (v * Real.cos t + u * Real.sin t) * Real.cos t - (u * Real.cos t - v * Real.sin t) * Real.sin t := by
      linear_combination (-v) * one
    rw [e]
    exact le_trans (abs_sub _ _) (key _ _ _ _ h2 h1 hc hs)

/-- The rotation at most halves the largest entry. -/
theorem rot_back (x : ℕ → EReal) (hx : ∀ q < 64, mag (x q) ≤ top) (p : BitVec 32) (z : ℝ) (hz : ∀ q < 64, mag (rot x p q) ≤ (z : EReal)) :
    ∀ q < 64, mag (x q) ≤ ((2 * z : ℝ) : EReal) := by
  have key : ∀ i < 32, mag (x i) ≤ ((2 * z : ℝ) : EReal) ∧ mag (x (i + 32)) ≤ ((2 * z : ℝ) : EReal) := by
    intro i hi
    obtain ⟨u, hu, -⟩ := real_of_mag (hx i (by omega))
    obtain ⟨v, hv, -⟩ := real_of_mag (hx (i + 32) (by omega))
    obtain ⟨f, hf⟩ := freq_real i
    have h1 := hz i (by omega)
    have h2 := hz (i + 32) (by omega)
    unfold rot ang at h1 h2
    rw [if_pos hi, hu, hv, hf, ← EReal.coe_mul, Ideal.cos_coe, Ideal.sin_coe, ← EReal.coe_mul, ← EReal.coe_mul, ← EReal.coe_sub, mag_coe, EReal.coe_le_coe_iff] at h1
    rw [if_neg (by omega), Nat.add_sub_cancel, hu, hv, hf, ← EReal.coe_mul, Ideal.cos_coe, Ideal.sin_coe, ← EReal.coe_mul, ← EReal.coe_mul, ← EReal.coe_add, mag_coe, EReal.coe_le_coe_iff] at h2
    obtain ⟨k1, k2⟩ := pair_le u v _ z h1 h2
    rw [hu, hv, mag_coe, mag_coe, EReal.coe_le_coe_iff, EReal.coe_le_coe_iff]
    exact ⟨k1, k2⟩
  intro q hq
  by_cases h : q < 32
  · exact (key q h).1
  · have := (key (q - 32) (by omega)).2
    rwa [show q - 32 + 32 = q from by omega] at this

theorem mag_zero : mag 0 = 0 := by
  unfold mag; rw [neg_zero, max_self]

/-- The rotated head's largest entry, from the head's own. -/
theorem seen_rot {K : (⟨3, ![8, 2048, 128]⟩ : Shape).Idx → EReal} (hK : ∀ j, mag (K j) ≤ top) (P : (⟨2, ![8, 2048]⟩ : Shape).Idx → BitVec 32) (b e : ℕ)
    (h : amax (headRaw K b e) = 0 ∨ low ≤ amax (headRaw K b e)) : Seen (amax (headRot K P b e)) := by
  rcases h with h | h
  · left
    refine le_antisymm ((amax_le _ _).mpr fun n hn q hq => ?_) (amax_nonneg _)
    have z : ∀ q < 64, at3 K b n (64 * e + q) = 0 := by
      intro q hq
      have h1 : mag (headRaw K b e n q) ≤ 0 := h ▸ (amax_le (headRaw K b e) _).mp le_rfl n hn q hq
      obtain ⟨h2, h3⟩ := max_le_iff.mp h1
      have h4 : 0 ≤ headRaw K b e n q := by simpa using h3
      exact le_antisymm h2 h4
    unfold headRot rot
    dsimp only
    split
    · rw [z q hq, z (q + 32) (by omega), zero_mul, zero_mul, sub_zero, mag_zero]
    · rw [z q hq, z (q - 32) (by omega), zero_mul, zero_mul, add_zero, mag_zero]
  · refine seen_of_le ?_
    by_contra hc
    rw [not_le] at hc
    have h0 := amax_nonneg (headRot K P b e)
    obtain ⟨a, ha⟩ : ∃ a : ℝ, amax (headRot K P b e) = a := by
      refine ⟨(amax (headRot K P b e)).toReal, (EReal.coe_toReal ?_ ?_).symm⟩
      · intro h; rw [h] at hc; exact absurd hc (by simp)
      · intro h; rw [h] at h0; simp at h0
    have hle : amax (headRaw K b e) ≤ ((2 * a : ℝ) : EReal) := by
      rw [amax_le]
      intro n hn
      exact rot_back (fun q => at3 K b n (64 * e + q)) (fun q _ => at3_le hK b n _) (at2 P b n) a
        (fun q hq => (amax_le _ _).mp (le_of_eq ha) n hn q hq)
    have h1 := le_trans h hle
    rw [low_eq, EReal.coe_le_coe_iff] at h1
    rw [ha, EReal.coe_lt_coe_iff] at hc
    rw [show (-116 : ℤ) = 1 + -117 from by norm_num, zpow_add₀ (by norm_num : (2 : ℝ) ≠ 0), zpow_one] at h1
    linarith

end Cert.RopeMath

end
-- ==== Proof.Rope.Pre.lean ====
/- The precondition's side conditions and what it says entry by entry. -/
module

public import proofs.«01_k».proof.Pre_in_range
public import proofs.«01_k».proof.Proof.Rope.Heads
public import proofs.«01_k».proof.Proof.Rope.Small
public import Idealize.ShloMosaic.Lib.Pointwise
public import Idealize.ShloMosaic.Lib.Tactic

@[expose] public section

set_option maxRecDepth 16384

noncomputable section

namespace Cert.Pre_in_range

open Idealize.ShloMosaic Cert.RopeMath

theorem facts : Facts where
  bitsLt_bf16_f32 := by decide
  bcast_S_S8x2048x128 := by decide
  reducesTo_S8x2048x128_S_d0_1_2 := by decide
  h_S_ := by decide
  shapeCasts_S8x2048x128_S8x2048x2x64 := by decide
  reducesTo_S8x2048x2x64_S8x2_d1_3 := by decide
  bcast_S_S8x2 := by decide
  reducesTo_S8x2_S_d0_1 := by decide
  bcast_S_S8x2048 := by decide
  reducesTo_S8x2048_S_d0_1 := by decide

theorem and_fold {ι : Type} [DecidableEq ι] (s : Finset ι) (f : ι → BitVec 1) (h : s.fold IntOp.andi 1#1 f = 1#1) : ∀ i ∈ s, f i = 1#1 := by
  induction s using Finset.induction_on with
  | empty => intro i hi; exact absurd hi (Finset.notMem_empty i)
  | insert a s ha ih =>
    rw [Finset.fold_insert ha] at h
    have key : ∀ x y : BitVec 1, IntOp.andi x y = 1#1 → x = 1#1 ∧ y = 1#1 := by decide
    obtain ⟨h1, h2⟩ := key _ _ h
    intro i hi
    rcases Finset.mem_insert.mp hi with rfl | hi
    · exact h1
    · exact ih h2 i hi

theorem and_reduce {s : Shape} {axes : List (Fin s.rank)} (x : IVec s 1) (hr : s.ReducesTo axes S_) (hn : 0 < S_.numel)
    (h : Host.reduce IntOp.andi x (constantI S_ 1 1#1) hr hn ValueIdx.ix0 = 1#1) (j : s.Idx) : x j = 1#1 := by
  classical
  rw [Host.reduce_eq_fold] at h
  exact and_fold _ _ h j (by
    rw [Finset.mem_filter]
    exact ⟨Finset.mem_univ _, funext fun a => a.elim0⟩)

theorem bit (p : Prop) [Decidable p] (hp : BitVec.ofBool (decide p) = 1#1) : p := by
  by_contra hc
  rw [decide_eq_false hc] at hp
  exact absurd hp (by decide)

/-- A table whose bit is set is zero there or at least `low`. -/
theorem of_bits (R : FVec Ideal S8x2 .f32) (hb : S_.BroadcastsInDim S8x2 (![] : Fin 0 → Fin S8x2.rank)) (j : S8x2.Idx)
    (hh : ori (cmpf .oeq R (broadcastInDim S8x2 ![] hb (constant (F := Ideal) S_ .f32 0x00000000#32)))
      (cmpf .oge R (broadcastInDim S8x2 ![] hb (constant (F := Ideal) S_ .f32 0x05800000#32))) j = 1#1) :
    (R j : EReal) = 0 ∨ low ≤ (R j : EReal) := by
  have key : ∀ x y : BitVec 1, IntOp.ori x y = 1#1 → x = 1#1 ∨ y = 1#1 := by decide
  rcases key _ _ hh with h1 | h1
  · left
    have := bit ((R j : EReal) = lit 0x00000000#32) h1
    rwa [show lit 0x00000000#32 = 0 from Ideal.ofBits_zero_f32] at this
  · exact Or.inr (bit (low ≤ (R j : EReal)) h1)

theorem absf_at {s : Shape} (x : FVec Ideal s .f32) (j : s.Idx) : (Host.absf x j : EReal) = mag (x j) := rfl

theorem raw_abs (X : FVec Ideal S8x2048x128 .f32) (b : Fin 8) (n : Fin 2048) (h : Fin 2) (q : Fin 64) :
    headRaw (Host.absf X) b.val h.val n.val q.val = mag (headRaw X b.val h.val n.val q.val) := by
  have hh := h.isLt
  have hq := q.isLt
  unfold headRaw at3
  rw [dif_pos ⟨b.isLt, n.isLt, by omega⟩, dif_pos ⟨b.isLt, n.isLt, by omega⟩]
  exact absf_at X _

/-- The precondition's largest entry of a head. -/
theorem size_at (X : FVec Ideal S8x2048x128 .f32) (hc : S8x2048x128.ShapeCasts S8x2048x2x64) (hr : S8x2048x2x64.ReducesTo [1, 3] S8x2) (hu : 0 < S_.numel)
    (b : Fin 8) (h : Fin 2) :
    (Host.reduce (FloatOps.maximumf (F := Ideal) (φ := .f32)) (shapeCast S8x2048x2x64 (Host.absf X) hc) (constant S_ .f32 0xFF800000#32 : FVec Ideal S_ .f32) hr hu (ValueIdx.ix2 b h) : EReal)
      = amax (headRaw X b.val h.val) :=
  reduce_at (u := S_) _ (headRaw X) (fun b n h q => (heads_at (Host.absf X) hc b n h q).trans (raw_abs X b n h q)) hr hu b h

/-- Every head's largest entry, from the precondition's bit for it. -/
theorem of_size (X : FVec Ideal S8x2048x128 .f32) (hc : S8x2048x128.ShapeCasts S8x2048x2x64) (hr : S8x2048x2x64.ReducesTo [1, 3] S8x2) (hu : 0 < S_.numel)
    (hb : S_.BroadcastsInDim S8x2 (![] : Fin 0 → Fin S8x2.rank)) (b : Fin 8) (h : Fin 2)
    (hh : ori (cmpf .oeq (Host.reduce FloatOps.maximumf (shapeCast S8x2048x2x64 (Host.absf X) hc) (constant (F := Ideal) S_ .f32 0xFF800000#32) hr hu) (broadcastInDim S8x2 ![] hb (constant (F := Ideal) S_ .f32 0x00000000#32)))
      (cmpf .oge (Host.reduce FloatOps.maximumf (shapeCast S8x2048x2x64 (Host.absf X) hc) (constant (F := Ideal) S_ .f32 0xFF800000#32) hr hu) (broadcastInDim S8x2 ![] hb (constant (F := Ideal) S_ .f32 0x05800000#32)))
      (ValueIdx.ix2 b h) = 1#1) :
    amax (headRaw X b.val h.val) = 0 ∨ low ≤ amax (headRaw X b.val h.val) := by
  rw [← size_at X hc hr hu b h]
  exact of_bits _ hb _ hh

/-- What the precondition says of the keys, of the values and of the positions. -/
theorem of_pre (K V : FVec Ideal S8x2048x128 .bf16) (P : IVec S8x2048 32) (h : (letI := facts; fn (F := Ideal) K V P) ValueIdx.ix0 = 1#1) :
    (∀ j, mag (K j) ≤ top) ∧ (∀ j, mag (V j) ≤ top) ∧ (∀ j, (P j).toNat < 16384)
    ∧ (∀ (b : Fin 8) (h : Fin 2), amax (headRaw K b.val h.val) = 0 ∨ low ≤ amax (headRaw K b.val h.val))
    ∧ ∀ (b : Fin 8) (h : Fin 2), amax (headRaw V b.val h.val) = 0 ∨ low ≤ amax (headRaw V b.val h.val) := by
  have key : ∀ x y : BitVec 1, IntOp.andi x y = 1#1 → x = 1#1 ∧ y = 1#1 := by decide
  obtain ⟨hKV, h3⟩ := key _ _ h
  obtain ⟨hK, hV⟩ := key _ _ hKV
  obtain ⟨h1, k1⟩ := key _ _ hK
  obtain ⟨h2, k2⟩ := key _ _ hV
  refine ⟨fun j => ?_, fun j => ?_, fun j => ?_, fun b h => ?_, fun b h => ?_⟩
  · exact bit _ (and_reduce _ _ _ h1 j)
  · exact bit _ (and_reduce _ _ _ h2 j)
  · have := and_reduce _ _ _ h3 j
    obtain ⟨h4, h5⟩ := key _ _ this
    have h6 : IntOp.cmpi .sge (P j) 0#32 = 1#1 := h4
    have h7 : IntOp.cmpi .slt (P j) 16384#32 = 1#1 := h5
    generalize P j = p at h6 h7 ⊢
    simp [IntOp.cmpi] at h6 h7
    have b2 : ∀ b : Bool, BitVec.ofBool b = 1#1 → b = true := by decide
    have h8 := b2 _ h6
    have h9 := b2 _ h7
    rw [BitVec.sle_iff_toInt_le] at h8
    rw [BitVec.slt_iff_toInt_lt] at h9
    rw [show (0#32).toInt = 0 from by decide, BitVec.toInt_eq_toNat_cond] at h8
    rw [show (16384#32).toInt = 16384 from by decide, BitVec.toInt_eq_toNat_cond] at h9
    have := p.isLt
    split at h8 <;> omega
  · exact of_size K _ _ _ _ b h (and_reduce _ _ _ k1 (ValueIdx.ix2 b h))
  · exact of_size V _ _ _ _ b h (and_reduce _ _ _ k2 (ValueIdx.ix2 b h))

end Cert.Pre_in_range

end
-- ==== Proof.Rope.Ref.lean ====
/- The reference's host lines, as functions of the arguments. -/
module

public import proofs.«01_k».proof.Proof.Gen.ReferenceIdeal.Frame
public import proofs.«01_k».proof.Proof.Rope.Spec
public import Idealize.ShloMosaic.Lib.StableHlo.ReadAt
public import Idealize.ShloMosaic.Lib.Pipeline.ValueKit

@[expose] public section

set_option maxRecDepth 65536

noncomputable section

namespace Cert.ReferenceIdeal.Rope

open Cert.ReferenceIdeal Cert.ReferenceIdeal.Gen Cert.RopeMath
open Idealize.ShloMosaic Idealize.ShloMosaic.TcCoe Idealize.ShloMosaic.Tactic
open Idealize.SL Idealize.SL.RA Idealize.SL.Sem
open Idealize.ShloMosaic.Pipeline (Dat Cfg Window)

/-- The heads of an argument. -/
def heads (x : S8x2048x128.Idx → EReal) : FVec Ideal S8x2048x2x64 .f32 := shapeCast S8x2048x2x64 (x : FVec Ideal S8x2048x128 .f32) shapeCasts_S8x2048x128_S8x2048x2x64

/-- A literal in every entry of a vector of 32, of a table of 8 by 2, of the heads. -/
def lit32 (b : BitVec 32) : FVec Ideal S32 .f32 := broadcastInDim S32 ![] bcast_S_S32 (constant (F := Ideal) S_ .f32 b)
def lit82 (b : BitVec 32) : FVec Ideal S8x2 .f32 := broadcastInDim S8x2 ![] bcast_S_S8x2 (constant (F := Ideal) S_ .f32 b)
def litH (b : BitVec 32) : FVec Ideal S8x2048x2x64 .f32 := broadcastInDim S8x2048x2x64 ![] bcast_S_S8x2048x2x64 (constant (F := Ideal) S_ .f32 b)

/-- The frequencies. -/
def freqs : FVec Ideal S32 .f32 :=
  Host.divf (lit32 0x3F800000#32) (Host.powf (lit32 0x461C4000#32) (Host.divf (addf (lit32 0x00000000#32) (mulf (lit32 0x40000000#32) (sitofp .f32 (iotaInDim S32 32 0)))) (lit32 0x42800000#32)))

/-- The angles. -/
def angles (P : S8x2048.Idx → BitVec 32) : FVec Ideal S8x2048x32 .f32 :=
  mulf (broadcastInDim S8x2048x32 ![0, 1, 2] bcast_S8x2048x1_S8x2048x32_0_1_2 (broadcastInDim S8x2048x1 ![0, 1] bcast_S8x2048_S8x2048x1_0_1 (sitofp .f32 (P : IVec S8x2048 32) : FVec Ideal S8x2048 .f32)))
    (broadcastInDim S8x2048x32 ![0, 1, 2] bcast_S1x1x32_S8x2048x32_0_1_2 (broadcastInDim S1x1x32 ![2] bcast_S32_S1x1x32_2 freqs))

/-- A table of angles' functions at every head. -/
def perHead (x : FVec Ideal S8x2048x32 .f32) : FVec Ideal S8x2048x2x32 .f32 :=
  broadcastInDim S8x2048x2x32 ![0, 1, 2, 3] bcast_S8x2048x1x32_S8x2048x2x32_0_1_2_3 (broadcastInDim S8x2048x1x32 ![0, 1, 3] bcast_S8x2048x32_S8x2048x1x32_0_1_3 x)

/-- The two halves of the heads. -/
def half1 (x : FVec Ideal S8x2048x2x64 .f32) : FVec Ideal S8x2048x2x32 .f32 := extractStridedSlice S8x2048x2x32 ![0, 0, 0, 0] x slices_S8x2048x2x64_S8x2048x2x32_0_0_0_0
def half2 (x : FVec Ideal S8x2048x2x64 .f32) : FVec Ideal S8x2048x2x32 .f32 := extractStridedSlice S8x2048x2x32 ![0, 0, 0, 32] x slices_S8x2048x2x64_S8x2048x2x32_0_0_0_32

/-- The rotated heads. -/
def rope (K : S8x2048x128.Idx → EReal) (P : S8x2048.Idx → BitVec 32) : FVec Ideal S8x2048x2x64 .f32 :=
  concatenate S8x2048x2x64 3
    [⟨S8x2048x2x32, subf (mulf (half1 (heads K)) (perHead (Host.cos (angles P)))) (mulf (half2 (heads K)) (perHead (Host.sin (angles P))))⟩,
     ⟨S8x2048x2x32, addf (mulf (half2 (heads K)) (perHead (Host.cos (angles P)))) (mulf (half1 (heads K)) (perHead (Host.sin (angles P))))⟩]
    concatenates_S8x2048x2x32_S8x2048x2x32_S8x2048x2x64_d3

/-- The largest absolute entry of each head. -/
def tops (x : FVec Ideal S8x2048x2x64 .f32) : FVec Ideal S8x2 .f32 :=
  Host.reduce FloatOps.maximumf (Host.absf x) (constant (F := Ideal) S_ .f32 0xFF800000#32) reducesTo_S8x2048x2x64_S8x2_d1_3 h_S_

/-- The exponents. -/
def expos (a : FVec Ideal S8x2 .f32) : FVec Ideal S8x2 .f32 :=
  select (cmpf .oeq a (lit82 0x00000000#32)) (lit82 0x00000000#32)
    (addf (Host.floor (Host.divf (Host.log (mulf a (lit82 0x3B124925#32))) (Host.log (lit82 0x40000000#32)))) (lit82 0x3F800000#32))

/-- The scales. -/
def scl (e : FVec Ideal S8x2 .f32) : FVec Ideal S8x2 .f32 := Host.powf (lit82 0x40000000#32) e

/-- The codes before they are laid out. -/
def cod (x : FVec Ideal S8x2048x2x64 .f32) (e : FVec Ideal S8x2 .f32) : FVec Ideal S8x2048x2x64 .f32 :=
  minimumf (litH 0x43E00000#32) (maximumf (litH 0xC3E00000#32)
    (mulf x (broadcastInDim S8x2048x2x64 ![0, 1, 2, 3] bcast_S8x1x2x1_S8x2048x2x64_0_1_2_3 (broadcastInDim S8x1x2x1 ![0, 2] bcast_S8x2_S8x1x2x1_0_2 (scl (Host.negf e))))))

/-- The codes laid out. -/
def lay (x : FVec Ideal S8x2048x2x64 .f32) : FVec Ideal S8x128x2048 .f32 :=
  shapeCast S8x128x2048 (transpose S8x2x64x2048 [0, 2, 3, 1] x transposes_S8x2048x2x64_S8x2x64x2048_0_2_3_1) shapeCasts_S8x2x64x2048_S8x128x2048

variable (m : (ℓ : Loc nD τ sig) → Buf (Elt Ideal) ℓ) (ρ : Dev nD → PrngReg)

/-- The three arguments. -/
abbrev aK (c : Dev nD) : S8x2048x128.Idx → EReal := m ((c.tc : Thread nD τ).loc main_arg0)
abbrev aV (c : Dev nD) : S8x2048x128.Idx → EReal := m ((c.tc : Thread nD τ).loc main_arg1)
abbrev aP (c : Dev nD) : S8x2048.Idx → BitVec 32 := m ((c.tc : Thread nD τ).loc main_arg2)

theorem V_v85 (c : Dev nD) : V m c main_v85 = lay (cod (rope (aK m c) (aP m c)) (expos (tops (rope (aK m c) (aP m c))))) := by
  unfold V V0
  simp only [List.flatten_cons, List.flatten_nil, List.append_nil, List.cons_append, List.nil_append]
  after_reads_simp
  simp -implicitDefEqProofs only [StableHlo.TRef.toBuf, StableHlo.TRef.ofBuf, cast_cast, cast_eq]
  unfold lay cod scl expos tops rope perHead angles freqs half1 half2 lit32 lit82 litH heads
  rfl

theorem V_v53 (c : Dev nD) : V m c main_v53 = scl (expos (tops (rope (aK m c) (aP m c)))) := by
  unfold V V0
  simp only [List.flatten_cons, List.flatten_nil, List.append_nil, List.cons_append, List.nil_append]
  after_reads_simp
  simp -implicitDefEqProofs only [StableHlo.TRef.toBuf, StableHlo.TRef.ofBuf, cast_cast, cast_eq]
  unfold scl expos tops rope perHead angles freqs half1 half2 lit32 lit82 heads
  rfl

theorem V_v87 (c : Dev nD) : V m c main_v87 = lay (cod (heads (aV m c)) (expos (tops (heads (aV m c))))) := by
  unfold V V0
  simp only [List.flatten_cons, List.flatten_nil, List.append_nil, List.cons_append, List.nil_append]
  after_reads_simp
  simp -implicitDefEqProofs only [StableHlo.TRef.toBuf, StableHlo.TRef.ofBuf, cast_cast, cast_eq]
  unfold lay cod scl expos tops lit82 litH heads
  rfl

theorem V_v76 (c : Dev nD) : V m c main_v76 = scl (expos (tops (heads (aV m c)))) := by
  unfold V V0
  simp only [List.flatten_cons, List.flatten_nil, List.append_nil, List.cons_append, List.nil_append]
  after_reads_simp
  simp -implicitDefEqProofs only [StableHlo.TRef.toBuf, StableHlo.TRef.ofBuf, cast_cast, cast_eq]
  unfold scl expos tops lit82 heads
  rfl

/-- Every window's block index at the one point. -/
theorem idx : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)

theorem iblk0 (c : Dev nD) : iblk m c 0 t0_0 = V m c main_v85 := by
  generalize hX : V m c main_v85 = X
  unfold iblk
  rw [show V m c (Pipeline.arrRef spec0 0) = X from hX]
  blk_ext! [idx t0_0]

theorem iblk1 (c : Dev nD) : iblk m c 1 t0_0 = V m c main_v87 := by
  generalize hX : V m c main_v87 = X
  unfold iblk
  rw [show V m c (Pipeline.arrRef spec0 1) = X from hX]
  blk_ext! [idx t0_0]

theorem final2 (c : Dev nD) : (dats m 0 c).arrAt 2 cfg0.N = V m c main_v85 := by
  refine (dats m 0 c).arrAt_eq_of_after_last 2 t0_0 (by decide +kernel) _ fun j => ?_
  rw [after0_2, iblk0]
  generalize V m c main_v85 = X
  blk_simp
  unfold out0_2
  frame_out
  unfold k0_pay1
  rw [shapeCast_id]
  rfl

theorem final3 (c : Dev nD) : (dats m 0 c).arrAt 3 cfg0.N = V m c main_v87 := by
  refine (dats m 0 c).arrAt_eq_of_after_last 3 t0_0 (by decide +kernel) _ fun j => ?_
  rw [after0_3, iblk1]
  generalize V m c main_v87 = X
  blk_simp
  unfold out0_3
  frame_out
  unfold k0_pay2
  rw [shapeCast_id]
  rfl

/-- A table with its axes exchanged. -/
def swap (x : FVec Ideal S8x2 .f32) : FVec Ideal S2x8 .f32 := transpose S2x8 [1, 0] x transposes_S8x2_S2x8_1_0

theorem W_v89 (c : Dev nD) : Pipeline.afterTail₀ cfgs (dats m) 0 (V0 m) [hostOps1] c main_v89 = swap (V m c main_v53) := by
  have hW := Pipeline.withArrays_of_ne spec0 c (V0 m c) (fun w => (dats m 0 c).arrAt w cfg0.N) main_v53 (by exact (by decide : ∀ w, Pipeline.arrRef spec0 w ≠ main_v53))
  show StableHlo.after (List.flatten [hostOps1]) (Pipeline.withArrays spec0 c (V0 m c) fun w => (dats m 0 c).arrAt w cfg0.N) (Proc.devRef .tc main_v89) = swap (V0 m c (Proc.devRef .tc main_v53))
  generalize V0 m c (Proc.devRef .tc main_v53) = X at hW ⊢
  generalize (Pipeline.withArrays spec0 c (V0 m c) fun w => (dats m 0 c).arrAt w cfg0.N) = W at hW ⊢
  rw [← hW]
  show StableHlo.after hostOps1 W _ = _
  after_results
  rfl

theorem W_v90 (c : Dev nD) : Pipeline.afterTail₀ cfgs (dats m) 0 (V0 m) [hostOps1] c main_v90 = swap (V m c main_v76) := by
  have hW := Pipeline.withArrays_of_ne spec0 c (V0 m c) (fun w => (dats m 0 c).arrAt w cfg0.N) main_v76 (by exact (by decide : ∀ w, Pipeline.arrRef spec0 w ≠ main_v76))
  show StableHlo.after (List.flatten [hostOps1]) (Pipeline.withArrays spec0 c (V0 m c) fun w => (dats m 0 c).arrAt w cfg0.N) (Proc.devRef .tc main_v90) = swap (V0 m c (Proc.devRef .tc main_v76))
  generalize V0 m c (Proc.devRef .tc main_v76) = X at hW ⊢
  generalize (Pipeline.withArrays spec0 c (V0 m c) fun w => (dats m 0 c).arrAt w cfg0.N) = W at hW ⊢
  rw [← hW]
  show StableHlo.after hostOps1 W _ = _
  after_results
  rfl

/-- What the four result arrays hold at the end of a run. -/
theorem results {r} (h : Pipeline.FramePost cfgs (dats m) 0 (Pipeline.afterTail₀ cfgs (dats m) 0 (V0 m) [hostOps1]) r) (c : Dev nD) :
    r.2.mem ((c.tc : Thread nD τ).loc main_v88_0) = lay (cod (rope (aK m c) (aP m c)) (expos (tops (rope (aK m c) (aP m c)))))
    ∧ r.2.mem ((c.tc : Thread nD τ).loc main_v89) = swap (scl (expos (tops (rope (aK m c) (aP m c)))))
    ∧ r.2.mem ((c.tc : Thread nD τ).loc main_v88_1) = lay (cod (heads (aV m c)) (expos (tops (heads (aV m c)))))
    ∧ r.2.mem ((c.tc : Thread nD τ).loc main_v90) = swap (scl (expos (tops (heads (aV m c))))) := by
  refine ⟨?_, ?_, ?_, ?_⟩
  · exact ((h c).1 2).trans ((final2 m c).trans (V_v85 m c))
  · exact (((h c).2 main_v89 (Pipeline.mem_restRefs_of main_v89 (by decide) (by decide))).trans (W_v89 m c)).trans (congrArg swap (V_v53 m c))
  · exact ((h c).1 3).trans ((final3 m c).trans (V_v87 m c))
  · exact (((h c).2 main_v90 (Pipeline.mem_restRefs_of main_v90 (by decide) (by decide))).trans (W_v90 m c)).trans (congrArg swap (V_v76 m c))

end Cert.ReferenceIdeal.Rope

end
-- ==== Proof.Rope.RefSpec.lean ====
/- The reference's four results are the four functions of the arguments. -/
module

public import proofs.«01_k».proof.Proof.Rope.Ref
public import proofs.«01_k».proof.Proof.Rope.Heads
public import proofs.«01_k».proof.Proof.Rope.Small
public import Idealize.ShloMosaic.Lib.Pointwise

@[expose] public section

set_option maxRecDepth 16384

noncomputable section

namespace Cert.ReferenceIdeal.Rope

open Cert.ReferenceIdeal Cert.ReferenceIdeal.Gen Cert.RopeMath
open Idealize.ShloMosaic Idealize.ShloMosaic.TcCoe Idealize.ShloMosaic.Tactic

theorem lit82_apply (b : BitVec 32) (j : S8x2.Idx) : (lit82 b j : EReal) = lit b := by
  unfold lit82; rfl
theorem lit32_apply (b : BitVec 32) (j : S32.Idx) : (lit32 b j : EReal) = lit b := by
  unfold lit32; rfl
theorem litH_apply (b : BitVec 32) (j : S8x2048x2x64.Idx) : (litH b j : EReal) = lit b := by
  unfold litH; rfl

theorem heads_apply (x : S8x2048x128.Idx → EReal) (b : Fin 8) (n : Fin 2048) (h : Fin 2) (q : Fin 64) :
    (heads x (ValueIdx.ix4 b n h q) : EReal) = headRaw x b.val h.val n.val q.val := by
  unfold heads
  exact heads_at x _ b n h q

theorem freqs_apply (i : Fin 32) : (freqs (ValueIdx.ix1 i) : EReal) = freq i.val := by
  unfold freq freqs
  show Ideal.div (lit32 _ _) (Ideal.pow (lit32 _ _) (Ideal.div (lit32 _ _ + lit32 _ _ * (((BitVec.ofNat 32 i.val).toInt : ℝ) : EReal)) (lit32 _ _))) = _
  rw [lit32_apply, lit32_apply, lit32_apply, lit32_apply, lit32_apply, show lit 0x00000000#32 = 0 from Ideal.ofBits_zero_f32, zero_add]
  have e : (BitVec.ofNat 32 i.val).toInt = (i.val : ℤ) := by
    have hi := i.isLt
    rw [BitVec.toInt_ofNat', Int.bmod_eq_of_le] <;> omega
  rw [e]; rfl

theorem angles_apply (P : S8x2048.Idx → BitVec 32) (b : Fin 8) (n : Fin 2048) (i : Fin 32) :
    (angles P (ValueIdx.ix3 b n i) : EReal) = ang (at2 P b.val n.val) i.val := by
  unfold ang at2
  rw [dif_pos ⟨b.isLt, n.isLt⟩, ← freqs_apply]
  unfold angles
  pointwise
  rfl

theorem perHead_apply (x : FVec Ideal S8x2048x32 .f32) (b : Fin 8) (n : Fin 2048) (h : Fin 2) (i : Fin 32) :
    perHead x (ValueIdx.ix4 b n h i) = x (ValueIdx.ix3 b n i) := by
  unfold perHead
  pointwise
  rfl

theorem half1_apply (x : FVec Ideal S8x2048x2x64 .f32) (b : Fin 8) (n : Fin 2048) (h : Fin 2) (i : Fin 32) :
    half1 x (ValueIdx.ix4 b n h i) = x (ValueIdx.ix4 b n h ⟨i.val, by have := i.isLt; omega⟩) := by
  unfold half1
  pointwise
  rfl

theorem half2_apply (x : FVec Ideal S8x2048x2x64 .f32) (b : Fin 8) (n : Fin 2048) (h : Fin 2) (i : Fin 32) :
    half2 x (ValueIdx.ix4 b n h i) = x (ValueIdx.ix4 b n h ⟨32 + i.val, by have := i.isLt; omega⟩) := by
  unfold half2
  pointwise
  rfl

theorem rope_apply (K : S8x2048x128.Idx → EReal) (P : S8x2048.Idx → BitVec 32) (b : Fin 8) (n : Fin 2048) (h : Fin 2) (q : Fin 64) :
    (rope K P (ValueIdx.ix4 b n h q) : EReal) = headRot K P b.val h.val n.val q.val := by
  have hq := q.isLt
  unfold headRot rot
  by_cases hlt : q.val < 32
  · rw [if_pos hlt]
    have e : (rope K P (ValueIdx.ix4 b n h q) : EReal) = (subf (mulf (half1 (heads K)) (perHead (Host.cos (angles P)))) (mulf (half2 (heads K)) (perHead (Host.sin (angles P)))) : FVec Ideal S8x2048x2x32 .f32) (ValueIdx.ix4 b n h ⟨q.val, hlt⟩) := by
      unfold rope
      rw [concatenate_pair_apply]
      refine (dif_pos hlt).trans (congrArg _ ?_)
      funext a
      match a with
      | ⟨0, _⟩ => rfl
      | ⟨1, _⟩ => rfl
      | ⟨2, _⟩ => rfl
      | ⟨3, _⟩ => rfl
    rw [e]
    show half1 (heads K) _ * perHead (Host.cos (angles P)) _ - half2 (heads K) _ * perHead (Host.sin (angles P)) _ = _
    rw [half1_apply, half2_apply, perHead_apply, perHead_apply, heads_apply, heads_apply]
    show _ * Ideal.cos (angles P _) - _ * Ideal.sin (angles P _) = _
    rw [angles_apply]
    simp only [headRaw, add_comm 32 q.val]
  · rw [if_neg hlt]
    have e : (rope K P (ValueIdx.ix4 b n h q) : EReal) = (addf (mulf (half2 (heads K)) (perHead (Host.cos (angles P)))) (mulf (half1 (heads K)) (perHead (Host.sin (angles P)))) : FVec Ideal S8x2048x2x32 .f32) (ValueIdx.ix4 b n h ⟨q.val - 32, by omega⟩) := by
      unfold rope
      rw [concatenate_pair_apply]
      refine (dif_neg hlt).trans (congrArg _ ?_)
      funext a
      match a with
      | ⟨0, _⟩ => rfl
      | ⟨1, _⟩ => rfl
      | ⟨2, _⟩ => rfl
      | ⟨3, _⟩ => rfl
    rw [e]
    show half2 (heads K) _ * perHead (Host.cos (angles P)) _ + half1 (heads K) _ * perHead (Host.sin (angles P)) _ = _
    rw [half1_apply, half2_apply, perHead_apply, perHead_apply, heads_apply, heads_apply]
    show _ * Ideal.cos (angles P _) + _ * Ideal.sin (angles P _) = _
    rw [angles_apply]
    simp only [headRaw, show 32 + (q.val - 32) = q.val from by omega]

theorem mulf_at {s : Shape} (x y : FVec Ideal s .f32) (j : s.Idx) : (mulf x y j : EReal) = (x j : EReal) * (y j : EReal) := rfl

theorem tops_apply (x : FVec Ideal S8x2048x2x64 .f32) (f : ℕ → ℕ → ℕ → ℕ → EReal)
    (hx : ∀ (b : Fin 8) (n : Fin 2048) (h : Fin 2) (q : Fin 64), (x (ValueIdx.ix4 b n h q) : EReal) = f b.val h.val n.val q.val) (b : Fin 8) (h : Fin 2) :
    (tops x (ValueIdx.ix2 b h) : EReal) = amax (f b.val h.val) := by
  unfold tops
  exact reduce_at (Host.absf x) f (fun b n h q => congrArg mag (hx b n h q)) _ _ b h

theorem expos_apply (a : FVec Ideal S8x2 .f32) (j : S8x2.Idx) : (expos a j : EReal) = expoA (a j) := by
  unfold expos expoA quot
  show Scalar.select (cmpf .oeq a (lit82 0x00000000#32) j) (lit82 0x00000000#32 j : EReal) (addf (Host.floor (Host.divf (Host.log (mulf a (lit82 0x3B124925#32))) (Host.log (lit82 0x40000000#32)))) (lit82 0x3F800000#32) j) = _
  have hc : cmpf .oeq a (lit82 0x00000000#32) j = BitVec.ofBool (decide ((a j : EReal) = lit 0x00000000#32)) := by
    unfold lit82; rfl
  have hb : (addf (Host.floor (Host.divf (Host.log (mulf a (lit82 0x3B124925#32))) (Host.log (lit82 0x40000000#32)))) (lit82 0x3F800000#32) j : EReal)
      = Ideal.liftRound Int.floor (Ideal.div (Ideal.log (a j * lit 0x3B124925#32)) (Ideal.log (lit 0x40000000#32))) + lit 0x3F800000#32 := by
    unfold lit82; rfl
  rw [hc, hb, lit82_apply]
  split
  · rename_i h; rw [decide_eq_true h]; rfl
  · rename_i h; rw [decide_eq_false h]; rfl

theorem scl_apply (e : FVec Ideal S8x2 .f32) (j : S8x2.Idx) : (scl e j : EReal) = Ideal.pow (lit 0x40000000#32) (e j) := by
  unfold scl
  show Ideal.pow (lit82 _ j) (e j) = _
  rw [lit82_apply]

theorem cod_apply (x : FVec Ideal S8x2048x2x64 .f32) (e : FVec Ideal S8x2 .f32) (b : Fin 8) (n : Fin 2048) (h : Fin 2) (q : Fin 64) :
    (cod x e (ValueIdx.ix4 b n h q) : EReal) = code (x (ValueIdx.ix4 b n h q)) (Ideal.pow (lit 0x40000000#32) (-(e (ValueIdx.ix2 b h) : EReal))) := by
  unfold cod code
  have e1 : (broadcastInDim S8x2048x2x64 ![0, 1, 2, 3] bcast_S8x1x2x1_S8x2048x2x64_0_1_2_3 (broadcastInDim S8x1x2x1 ![0, 2] bcast_S8x2_S8x1x2x1_0_2 (scl (Host.negf e))) (ValueIdx.ix4 b n h q) : EReal)
      = Ideal.pow (lit 0x40000000#32) (-(e (ValueIdx.ix2 b h) : EReal)) := by
    refine Eq.trans ?_ (scl_apply (Host.negf e) (ValueIdx.ix2 b h))
    generalize scl (Host.negf e) = y
    pointwise
    rfl
  rw [← e1]
  show min (litH _ _) (max (litH _ _) (x _ * _)) = _
  rw [litH_apply, litH_apply]

theorem lay_apply (x : FVec Ideal S8x2048x2x64 .f32) (b : Fin 8) (j : Fin 128) (n : Fin 2048) :
    lay x (ValueIdx.ix3 b j n) = x (ValueIdx.ix4 b n ⟨j.val / 64, by have := j.isLt; omega⟩ ⟨j.val % 64, by omega⟩) := by
  unfold lay
  pointwise
  rfl

theorem swap_apply (x : FVec Ideal S8x2 .f32) (j : S2x8.Idx) : swap x j = x (ValueIdx.ix2 (j 1) (j 0)) := by
  unfold swap
  pointwise
  rfl

theorem codes_eq (x : FVec Ideal S8x2048x2x64 .f32) (f : ℕ → ℕ → ℕ → ℕ → EReal)
    (hx : ∀ (b : Fin 8) (n : Fin 2048) (h : Fin 2) (q : Fin 64), (x (ValueIdx.ix4 b n h q) : EReal) = f b.val h.val n.val q.val)
    (hs : ∀ (b : Fin 8) (h : Fin 2), Seen (amax (f b.val h.val))) :
    lay (cod x (expos (tops x))) = codes f := by
  have key : ∀ (b : Fin 8) (j : Fin 128) (n : Fin 2048), lay (cod x (expos (tops x))) (ValueIdx.ix3 b j n) = codes f (ValueIdx.ix3 b j n) := by
    intro b j n
    rw [lay_apply, cod_apply, expos_apply, tops_apply x f hx, expoA_eq (hs _ _), hx]
    rfl
  funext j
  have e := ValueIdx.eq_ix3 (n0 := 8) (n1 := 128) (n2 := 2048) j
  exact (congrArg (lay (cod x (expos (tops x)))) e).trans ((key (j 0) (j 1) (j 2)).trans (congrArg (codes f) e.symm))

theorem scales_eq (x : FVec Ideal S8x2048x2x64 .f32) (f : ℕ → ℕ → ℕ → ℕ → EReal)
    (hx : ∀ (b : Fin 8) (n : Fin 2048) (h : Fin 2) (q : Fin 64), (x (ValueIdx.ix4 b n h q) : EReal) = f b.val h.val n.val q.val)
    (hs : ∀ (b : Fin 8) (h : Fin 2), Seen (amax (f b.val h.val))) :
    swap (scl (expos (tops x))) = scales f := by
  funext j
  have key := fun (b : Fin 8) (h : Fin 2) => (congrArg expoA (tops_apply x f hx b h)).trans (expoA_eq (hs b h))
  rw [swap_apply, scl_apply, expos_apply]
  exact congrArg (Ideal.pow (lit 0x40000000#32)) (key (j 1) (j 0))

end Cert.ReferenceIdeal.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RopeK.Run
public import proofs.«01_k».proof.Proof.Rope.Run
public import proofs.«01_k».proof.Proof.Rope.KernelSpec
public import proofs.«01_k».proof.Proof.Rope.Pre
public import proofs.«01_k».proof.Proof.Rope.RefSpec
public import Idealize.ShloMosaic.Adequacy
public import Idealize.ShloMosaic.Init

@[expose] public section

noncomputable section

namespace Cert.Proof

open Idealize.ShloMosaic Idealize.SL.Sem Cert.Kernel

/-- At the ideal instance the kernel and the reference leave the same four results: the two sides are
    each the quantised codes and scales of the rotated keys and of the values. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hpre hagree
  have pre := fun c => Cert.Pre_in_range.of_pre _ _ _ (congrFun (hpre c) ValueIdx.ix0)
  refine ⟨fun c => RopeMath.codes (RopeMath.headRot (KernelIdeal.Rope.aK m c) (KernelIdeal.Rope.aP m c)),
    fun c => RopeMath.scales (RopeMath.headRot (KernelIdeal.Rope.aK m c) (KernelIdeal.Rope.aP m c)),
    fun c => RopeMath.codes (RopeMath.headRaw (KernelIdeal.Rope.aV m c)),
    fun c => RopeMath.scales (RopeMath.headRaw (KernelIdeal.Rope.aV m c)), ?_, ?_⟩
  · refine (θ_run KernelIdeal.defs _ _).mono (fun r h c => ?_) (KernelIdeal.Rope.run_main (F := Ideal) m g)
    obtain ⟨hK, hV, hP, -, -⟩ := pre c
    obtain ⟨h0, h1, h2, h3⟩ := KernelIdeal.Rope.results m c hK hV hP h
    obtain ⟨a0, a1, a2⟩ := KernelIdeal.Rope.post_args m h c
    exact ⟨h0, h1, h2, h3, a0, a1, a2⟩
  · refine (θ_run ReferenceIdeal.defs _ _).mono (fun r h c => ?_)
      (θ_run_and (ReferenceIdeal.Gen.run_main (F := Ideal) m' g') (ReferenceIdeal.Gen.unchanged (F := Ideal) m' g'))
    obtain ⟨hK, -, -, sK, sV⟩ := pre c
    obtain ⟨h0, h1, h2, h3⟩ := ReferenceIdeal.Rope.results m' h.1 c
    obtain ⟨a0, a1, a2⟩ := h.2 c
    have eK : ReferenceIdeal.Rope.aK m' c = KernelIdeal.Rope.aK m c := (hagree c).1
    have eV : ReferenceIdeal.Rope.aV m' c = KernelIdeal.Rope.aV m c := (hagree c).2.1
    have eP : ReferenceIdeal.Rope.aP m' c = KernelIdeal.Rope.aP m c := (hagree c).2.2
    rw [eK, eP] at h0 h1
    rw [eV] at h2 h3
    exact ⟨h0.trans (ReferenceIdeal.Rope.codes_eq _ _ (ReferenceIdeal.Rope.rope_apply _ _) fun b h => RopeMath.seen_rot hK _ _ _ (sK b h)),
      h1.trans (ReferenceIdeal.Rope.scales_eq _ _ (ReferenceIdeal.Rope.rope_apply _ _) fun b h => RopeMath.seen_rot hK _ _ _ (sK b h)),
      h2.trans (ReferenceIdeal.Rope.codes_eq _ _ (ReferenceIdeal.Rope.heads_apply _) fun b h => RopeMath.seen_raw (sV b h)),
      h3.trans (ReferenceIdeal.Rope.scales_eq _ _ (ReferenceIdeal.Rope.heads_apply _) fun b h => RopeMath.seen_raw (sV b h)), a0, a1, a2⟩

theorem claim : Cert.Claim := ⟨Cert.Kernel.Gen.facts, Cert.KernelIdeal.Gen.facts, Cert.ReferenceIdeal.Gen.facts, Cert.Pre_in_range.facts,
  fun m ρ _ => Cert.Kernel.RopeK.frame m ρ, fun m ρ _ => Cert.KernelIdeal.Rope.frame m ρ, fun m ρ _ => Cert.KernelIdeal.Rope.frame m ρ,
  fun m ρ _ => Cert.ReferenceIdeal.Gen.frame m ρ, fun m ρ _ => Cert.ReferenceIdeal.Gen.frame m ρ,
  ⟨IdealRules.named_const.statement _ _ _ _ _ rfl, IdealRules.named_const.statement _ _ _ _ _ rfl, IdealRules.named_const.statement _ _ _ _ _ rfl⟩,
  algebraic⟩

end Cert.Proof

end
